-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_1)) (v1 : (c : Dev Cert.KernelIdeal.nD) → Buf (Elt Ideal) ((c.tc : Thread Cert.KernelIdeal.nD Cert.KernelIdeal.τ).loc Cert.KernelIdeal.main_v8_3)) (v2 : (c : Dev Cert.KernelIdeal.nD) → Buf (Elt Ideal) ((c.tc : Thread Cert.KernelIdeal.nD Cert.KernelIdeal.τ).loc Cert.KernelIdeal.main_v8_4)) (v3 : (c : Dev Cert.KernelIdeal.nD) → Buf (Elt Ideal) ((c.tc : Thread Cert.KernelIdeal.nD Cert.KernelIdeal.τ).loc Cert.KernelIdeal.main_v8_0)) (v4 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_1) = v0 c
          ∧ r.2.mem ((c.tc : Thread Cert.KernelIdeal.nD Cert.KernelIdeal.τ).loc Cert.KernelIdeal.main_v8_3) = v1 c
          ∧ r.2.mem ((c.tc : Thread Cert.KernelIdeal.nD Cert.KernelIdeal.τ).loc Cert.KernelIdeal.main_v8_4) = v2 c
          ∧ r.2.mem ((c.tc : Thread Cert.KernelIdeal.nD Cert.KernelIdeal.τ).loc Cert.KernelIdeal.main_v8_0) = v3 c
          ∧ r.2.mem ((c.tc : Thread Cert.KernelIdeal.nD Cert.KernelIdeal.τ).loc Cert.KernelIdeal.main_v8_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v7_3) = v3 c
          ∧ r.2.mem ((c.tc : Thread Cert.ReferenceIdeal.nD Cert.ReferenceIdeal.τ).loc Cert.ReferenceIdeal.main_v7_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v1)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v1) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v1) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def Claim : Prop :=
  ∃ (hKernel : Cert.Kernel.Facts) (hKernelIdeal : Cert.KernelIdeal.Facts) (hReferenceIdeal : Cert.ReferenceIdeal.Facts) (hKernelDw : Cert.KernelDw.Facts) (hKernelDwIdeal : Cert.KernelDwIdeal.Facts) (hReferenceDwIdeal : Cert.ReferenceDwIdeal.Facts),
    quiescent_Kernel (hKernel := hKernel)
    ∧ quiescent_KernelIdeal (hKernelIdeal := hKernelIdeal)
    ∧ quiescent_ReferenceIdeal (hReferenceIdeal := hReferenceIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ preserves_Kernel_KernelIdeal
    ∧ algebraic_KernelIdeal_ReferenceIdeal (hKernelIdeal := hKernelIdeal) (hReferenceIdeal := hReferenceIdeal)
    ∧ preserves_KernelDw_KernelDwIdeal
    ∧ algebraic_KernelDwIdeal_ReferenceDwIdeal (hKernelDwIdeal := hKernelDwIdeal) (hReferenceDwIdeal := hReferenceDwIdeal)
-- ==== Kernel.lean ====
abbrev S4x3072x4096 : Shape := ⟨3, ![4, 3072, 4096]⟩
abbrev S4x3072 : Shape := ⟨2, ![4, 3072]⟩
abbrev S4096 : Shape := ⟨1, ![4096]⟩
abbrev S4096x6144 : Shape := ⟨2, ![4096, 6144]⟩
abbrev S6144 : Shape := ⟨1, ![6144]⟩
abbrev S4x3072x6144 : Shape := ⟨3, ![4, 3072, 6144]⟩
abbrev S24x4x128 : Shape := ⟨3, ![24, 4, 128]⟩
abbrev S1x4096 : Shape := ⟨2, ![1, 4096]⟩
abbrev S1x6144 : Shape := ⟨2, ![1, 6144]⟩
abbrev S12288x4096 : Shape := ⟨2, ![12288, 4096]⟩
abbrev S12288x6144 : Shape := ⟨2, ![12288, 6144]⟩
abbrev S12288x32 : Shape := ⟨2, ![12288, 32]⟩
abbrev S4096x12288 : Shape := ⟨2, ![4096, 12288]⟩
abbrev S1x4x128 : Shape := ⟨3, ![1, 4, 128]⟩
abbrev S512x1024 : Shape := ⟨2, ![512, 1024]⟩
abbrev S1024x6144 : Shape := ⟨2, ![1024, 6144]⟩
abbrev S512x6144 : Shape := ⟨2, ![512, 6144]⟩
abbrev S512x4096 : Shape := ⟨2, ![512, 4096]⟩
abbrev S512x32 : Shape := ⟨2, ![512, 32]⟩
abbrev S1024x512 : Shape := ⟨2, ![1024, 512]⟩
abbrev S512x128 : Shape := ⟨2, ![512, 128]⟩
abbrev S8x4096 : Shape := ⟨2, ![8, 4096]⟩
abbrev S1x1x128 : Shape := ⟨3, ![1, 1, 128]⟩
abbrev S1x128 : Shape := ⟨2, ![1, 128]⟩
abbrev S128x128 : Shape := ⟨2, ![128, 128]⟩
abbrev S32x128 : Shape := ⟨2, ![32, 128]⟩
abbrev S8x128 : Shape := ⟨2, ![8, 128]⟩
abbrev S32 : Shape := ⟨1, ![32]⟩
abbrev S32x1 : Shape := ⟨2, ![32, 1]⟩
abbrev S32x240 : Shape := ⟨2, ![32, 240]⟩
abbrev S32x32 : Shape := ⟨2, ![32, 32]⟩

abbrev nBuf : Space → Nat
  | .hbm => 21
  | .vmem => 27
  | .smem => 0
  | _ => 0

abbrev bufTy : (tb : Table) → Fin (tcTables nBuf tb) → BufTy
  | .hbm, ⟨0, _⟩ => ⟨S4x3072x4096, .fp8e4m3⟩
  | .hbm, ⟨1, _⟩ => ⟨S4x3072, .f32⟩
  | .hbm, ⟨2, _⟩ => ⟨S4x3072, .f32⟩
  | .hbm, ⟨3, _⟩ => ⟨S4096, .f32⟩
  | .hbm, ⟨4, _⟩ => ⟨S4096x6144, .fp8e4m3⟩
  | .hbm, ⟨5, _⟩ => ⟨S6144, .f32⟩
  | .hbm, ⟨6, _⟩ => ⟨S4x3072x6144, .bf16⟩
  | .hbm, ⟨7, _⟩ => ⟨S4x3072x4096, .bf16⟩
  | .hbm, ⟨8, _⟩ => ⟨S24x4x128, .f32⟩
  | .hbm, ⟨9, _⟩ => ⟨S24x4x128, .f32⟩
  | .hbm, ⟨10, _⟩ => ⟨S1x4096, .f32⟩
  | .hbm, ⟨11, _⟩ => ⟨S6144, .bf16⟩
  | .hbm, ⟨12, _⟩ => ⟨S1x6144, .bf16⟩
  | .hbm, ⟨13, _⟩ => ⟨S12288x4096, .fp8e4m3⟩
  | .hbm, ⟨14, _⟩ => ⟨S12288x6144, .bf16⟩
  | .hbm, ⟨15, _⟩ => ⟨S12288x4096, .bf16⟩
  | .hbm, ⟨16, _⟩ => ⟨S12288x32, .f32⟩
  | .hbm, ⟨17, _⟩ => ⟨S12288x4096, .bf16⟩
  | .hbm, ⟨18, _⟩ => ⟨S12288x4096, .fp8e5m2⟩
  | .hbm, ⟨19, _⟩ => ⟨S1x4096, .f32⟩
  | .hbm, ⟨20, _⟩ => ⟨S4096x12288, .bf16⟩
  | .local _ .vmem, ⟨0, _⟩ => ⟨S1x4x128, .f32⟩
  | .local _ .vmem, ⟨1, _⟩ => ⟨S1x4x128, .f32⟩
  | .local _ .vmem, ⟨2, _⟩ => ⟨S1x4x128, .f32⟩
  | .local _ .vmem, ⟨3, _⟩ => ⟨S1x4x128, .f32⟩
  | .local _ .vmem, ⟨4, _⟩ => ⟨S1x4096, .f32⟩
  | .local _ .vmem, ⟨5, _⟩ => ⟨S1x6144, .bf16⟩
  | .local _ .vmem, ⟨6, _⟩ => ⟨S512x1024, .fp8e4m3⟩
  | .local _ .vmem, ⟨7, _⟩ => ⟨S512x1024, .fp8e4m3⟩
  | .local _ .vmem, ⟨8, _⟩ => ⟨S1024x6144, .fp8e4m3⟩
  | .local _ .vmem, ⟨9, _⟩ => ⟨S1024x6144, .fp8e4m3⟩
  | .local _ .vmem, ⟨10, _⟩ => ⟨S512x6144, .bf16⟩
  | .local _ .vmem, ⟨11, _⟩ => ⟨S512x4096, .bf16⟩
  | .local _ .vmem, ⟨12, _⟩ => ⟨S512x32, .f32⟩
  | .local _ .vmem, ⟨13, _⟩ => ⟨S512x32, .f32⟩
  | .local _ .vmem, ⟨14, _⟩ => ⟨S512x4096, .bf16⟩
  | .local _ .vmem, ⟨15, _⟩ => ⟨S512x4096, .fp8e5m2⟩
  | .local _ .vmem, ⟨16, _⟩ => ⟨S1x4096, .f32⟩
  | .local _ .vmem, ⟨17, _⟩ => ⟨S1024x512, .bf16⟩
  | .local _ .vmem, ⟨18, _⟩ => ⟨S1024x512, .bf16⟩
  | .local _ .vmem, ⟨19, _⟩ => ⟨S512x6144, .bf16⟩
  | .local _ .vmem, ⟨20, _⟩ => ⟨S512x4096, .f32⟩
  | .local _ .vmem, ⟨21, _⟩ => ⟨S512x4096, .fp8e4m3⟩
  | .local _ .vmem, ⟨22, _⟩ => ⟨S512x1024, .bf16⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S8x4096, .f32⟩
  | _, _ => ⟨S4x3072x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![24, 4], ![false, false]⟩

def k0_mult1 (i : grid0.Coords) : BitVec 32 :=
  let arg1 : BitVec 32 := BitVec.ofNat 32 (i 1).val
  let c1024_i32 : BitVec 32 := 1024#32
  let v8 : BitVec 32 := Scalar.muli arg1 c1024_i32
  v8
def k0_off1 (i : grid0.Coords) : Fin 2 → Nat :=
  let c0_7 : Index := 0#32
  let arg1 : BitVec 32 := BitVec.ofNat 32 (i 1).val
  let c1024_i32 : BitVec 32 := 1024#32
  let v8 : BitVec 32 := Scalar.muli arg1 c1024_i32
  let v9 : BitVec 32 := v8
  let v13 : Index := Scalar.indexCast v9
  ![0, v13.toNat]
@[reducible] def k0_t1_loop : Scf.Loop 32 :=
  let c0_i32_11 : BitVec 32 := 0#32
  let c16_i32 : BitVec 32 := 16#32
  let v23 : BitVec 32 := Scalar.addi c0_i32_11 c16_i32
  let c1_i32 : BitVec 32 := 1#32
  ⟨c0_i32_11, v23, c1_i32⟩
def k0_mult2 (k0_t1 : Fin k0_t1_loop.trips) : BitVec 32 :=
  let c0_i32_11 : BitVec 32 := 0#32
  let c1_i32 : BitVec 32 := 1#32
  let arg23 : BitVec 32 := Scf.iv c0_i32_11 c1_i32 k0_t1
  let c32_i32 : BitVec 32 := 32#32
  let v34 : BitVec 32 := Scalar.muli arg23 c32_i32
  v34
def k0_off2 (k0_t1 : Fin k0_t1_loop.trips) : Fin 2 → Nat :=
  let c0_i32_11 : BitVec 32 := 0#32
  let c1_i32 : BitVec 32 := 1#32
  let arg23 : BitVec 32 := Scf.iv c0_i32_11 c1_i32 k0_t1
  let c32_i32 : BitVec 32 := 32#32
  let v34 : BitVec 32 := Scalar.muli arg23 c32_i32
  let v35 : BitVec 32 := v34
  let v36 : Index := Scalar.indexCast v35
  let c0_23 : Index := 0#32
  ![v36.toNat, 0]
def k0_mult3 (i : grid0.Coords) : BitVec 32 :=
  let arg1 : BitVec 32 := BitVec.ofNat 32 (i 1).val
  let c1024_i32 : BitVec 32 := 1024#32
  let v8 : BitVec 32 := Scalar.muli arg1 c1024_i32
  let v9 : BitVec 32 := v8
  let c0_i32_25 : BitVec 32 := 0#32
  let v40 : BitVec 32 := Scalar.addi v9 c0_i32_25
  v40
def k0_off3 (k0_t1 : Fin k0_t1_loop.trips) : Fin 2 → Nat :=
  let c0_i32_11 : BitVec 32 := 0#32
  let c1_i32 : BitVec 32 := 1#32
  let arg23 : BitVec 32 := Scf.iv c0_i32_11 c1_i32 k0_t1
  let c32_i32 : BitVec 32 := 32#32
  let v34 : BitVec 32 := Scalar.muli arg23 c32_i32
  let v35 : BitVec 32 := v34
  let v42 : Index := Scalar.indexCast v35
  let c0_26 : Index := 0#32
  ![v42.toNat, 0]
def k0_off4 (i : grid0.Coords) (c0_i32_25 : BitVec 32) : Fin 2 → Nat :=
  let c0_27 : Index := 0#32
  let arg1 : BitVec 32 := BitVec.ofNat 32 (i 1).val
  let c1024_i32 : BitVec 32 := 1024#32
  let v8 : BitVec 32 := Scalar.muli arg1 c1024_i32
  let v9 : BitVec 32 := v8
  let v40 : BitVec 32 := Scalar.addi v9 c0_i32_25
  let v41 : BitVec 32 := v40
  let v47 : Index := Scalar.indexCast v41
  ![0, v47.toNat]
def k0_off5 (i : grid0.Coords) (k0_t1 : Fin k0_t1_loop.trips) (c0_i32_25 : BitVec 32) : Fin 2 → Nat :=
  let c0_i32_11 : BitVec 32 := 0#32
  let c1_i32 : BitVec 32 := 1#32
  let arg23 : BitVec 32 := Scf.iv c0_i32_11 c1_i32 k0_t1
  let c32_i32 : BitVec 32 := 32#32
  let v34 : BitVec 32 := Scalar.muli arg23 c32_i32
  let v35 : BitVec 32 := v34
  let v57 : Index := Scalar.indexCast v35
  let arg1 : BitVec 32 := BitVec.ofNat 32 (i 1).val
  let c1024_i32 : BitVec 32 := 1024#32
  let v8 : BitVec 32 := Scalar.muli arg1 c1024_i32
  let v9 : BitVec 32 := v8
  let v40 : BitVec 32 := Scalar.addi v9 c0_i32_25
  let v41 : BitVec 32 := v40
  let v58 : Index := Scalar.indexCast v41
  ![v57.toNat, v58.toNat]
def k0_off6 (i : grid0.Coords) (c0_i32_25 : BitVec 32) : Fin 2 → Nat :=
  let c0_29 : Index := 0#32
  let arg1 : BitVec 32 := BitVec.ofNat 32 (i 1).val
  let c1024_i32 : BitVec 32 := 1024#32
  let v8 : BitVec 32 := Scalar.muli arg1 c1024_i32
  let v9 : BitVec 32 := v8
  let v40 : BitVec 32 := Scalar.addi v9 c0_i32_25
  let v41 : BitVec 32 := v40
  let v71 : Index := Scalar.indexCast v41
  ![0, v71.toNat]
def k0_mult4 (i : grid0.Coords) : BitVec 32 :=
  let arg1 : BitVec 32 := BitVec.ofNat 32 (i 1).val
  let c1024_i32 : BitVec 32 := 1024#32
  let v8 : BitVec 32 := Scalar.muli arg1 c1024_i32
  let v9 : BitVec 32 := v8
  let c128_i32 : BitVec 32 := 128#32
  let v78 : BitVec 32 := Scalar.addi v9 c128_i32
  v78
def k0_off7 (k0_t1 : Fin k0_t1_loop.trips) : Fin 2 → Nat :=
  let c0_i32_11 : BitVec 32 := 0#32
  let c1_i32 : BitVec 32 := 1#32
  let arg23 : BitVec 32 := Scf.iv c0_i32_11 c1_i32 k0_t1
  let c32_i32 : BitVec 32 := 32#32
  let v34 : BitVec 32 := Scalar.muli arg23 c32_i32
  let v35 : BitVec 32 := v34
  let v80 : Index := Scalar.indexCast v35
  let c128 : Index := 128#32
  ![v80.toNat, 128]
def k0_mult5 (i : grid0.Coords) : BitVec 32 :=
  let arg1 : BitVec 32 := BitVec.ofNat 32 (i 1).val
  let c1024_i32 : BitVec 32 := 1024#32
  let v8 : BitVec 32 := Scalar.muli arg1 c1024_i32
  let v9 : BitVec 32 := v8
  let c256_i32 : BitVec 32 := 256#32
  let v116 : BitVec 32 := Scalar.addi v9 c256_i32
  v116
def k0_off8 (k0_t1 : Fin k0_t1_loop.trips) : Fin 2 → Nat :=
  let c0_i32_11 : BitVec 32 := 0#32
  let c1_i32 : BitVec 32 := 1#32
  let arg23 : BitVec 32 := Scf.iv c0_i32_11 c1_i32 k0_t1
  let c32_i32 : BitVec 32 := 32#32
  let v34 : BitVec 32 := Scalar.muli arg23 c32_i32
  let v35 : BitVec 32 := v34
  let v118 : Index := Scalar.indexCast v35
  let c256 : Index := 256#32
  ![v118.toNat, 256]
def k0_mult6 (i : grid0.Coords) : BitVec 32 :=
  let arg1 : BitVec 32 := BitVec.ofNat 32 (i 1).val
  let c1024_i32 : BitVec 32 := 1024#32
  let v8 : BitVec 32 := Scalar.muli arg1 c1024_i32
  let v9 : BitVec 32 := v8
  let c384_i32 : BitVec 32 := 384#32
  let v154 : BitVec 32 := Scalar.addi v9 c384_i32
  v154
def k0_off9 (k0_t1 : Fin k0_t1_loop.trips) : Fin 2 → Nat :=
  let c0_i32_11 : BitVec 32 := 0#32
  let c1_i32 : BitVec 32 := 1#32
  let arg23 : BitVec 32 := Scf.iv c0_i32_11 c1_i32 k0_t1
  let c32_i32 : BitVec 32 := 32#32
  let v34 : BitVec 32 := Scalar.muli arg23 c32_i32
  let v35 : BitVec 32 := v34
  let v156 : Index := Scalar.indexCast v35
  let c384 : Index := 384#32
  ![v156.toNat, 384]
def k0_mult7 (i : grid0.Coords) : BitVec 32 :=
  let arg1 : BitVec 32 := BitVec.ofNat 32 (i 1).val
  let c1024_i32 : BitVec 32 := 1024#32
  let v8 : BitVec 32 := Scalar.muli arg1 c1024_i32
  let v9 : BitVec 32 := v8
  let c512_i32 : BitVec 32 := 512#32
  let v192 : BitVec 32 := Scalar.addi v9 c512_i32
  v192
def k0_off10 (k0_t1 : Fin k0_t1_loop.trips) : Fin 2 → Nat :=
  let c0_i32_11 : BitVec 32 := 0#32
  let c1_i32 : BitVec 32 := 1#32
  let arg23 : BitVec 32 := Scf.iv c0_i32_11 c1_i32 k0_t1
  let c32_i32 : BitVec 32 := 32#32
  let v34 : BitVec 32 := Scalar.muli arg23 c32_i32
  let v35 : BitVec 32 := v34
  let v194 : Index := Scalar.indexCast v35
  let c512 : Index := 512#32
  ![v194.toNat, 512]
def k0_mult8 (i : grid0.Coords) : BitVec 32 :=
  let arg1 : BitVec 32 := BitVec.ofNat 32 (i 1).val
  let c1024_i32 : BitVec 32 := 1024#32
  let v8 : BitVec 32 := Scalar.muli arg1 c1024_i32
  let v9 : BitVec 32 := v8
  let c640_i32 : BitVec 32 := 640#32
  let v230 : BitVec 32 := Scalar.addi v9 c640_i32
  v230
def k0_off11 (k0_t1 : Fin k0_t1_loop.trips) : Fin 2 → Nat :=
  let c0_i32_11 : BitVec 32 := 0#32
  let c1_i32 : BitVec 32 := 1#32
  let arg23 : BitVec 32 := Scf.iv c0_i32_11 c1_i32 k0_t1
  let c32_i32 : BitVec 32 := 32#32
  let v34 : BitVec 32 := Scalar.muli arg23 c32_i32
  let v35 : BitVec 32 := v34
  let v232 : Index := Scalar.indexCast v35
  let c640 : Index := 640#32
  ![v232.toNat, 640]
def k0_mult9 (i : grid0.Coords) : BitVec 32 :=
  let arg1 : BitVec 32 := BitVec.ofNat 32 (i 1).val
  let c1024_i32 : BitVec 32 := 1024#32
  let v8 : BitVec 32 := Scalar.muli arg1 c1024_i32
  let v9 : BitVec 32 := v8
  let c768_i32 : BitVec 32 := 768#32
  let v268 : BitVec 32 := Scalar.addi v9 c768_i32
  v268
def k0_off12 (k0_t1 : Fin k0_t1_loop.trips) : Fin 2 → Nat :=
  let c0_i32_11 : BitVec 32 := 0#32
  let c1_i32 : BitVec 32 := 1#32
  let arg23 : BitVec 32 := Scf.iv c0_i32_11 c1_i32 k0_t1
  let c32_i32 : BitVec 32 := 32#32
  let v34 : BitVec 32 := Scalar.muli arg23 c32_i32
  let v35 : BitVec 32 := v34
  let v270 : Index := Scalar.indexCast v35
  let c768 : Index := 768#32
  ![v270.toNat, 768]
def k0_mult10 (i : grid0.Coords) : BitVec 32 :=
  let arg1 : BitVec 32 := BitVec.ofNat 32 (i 1).val
  let c1024_i32 : BitVec 32 := 1024#32
  let v8 : BitVec 32 := Scalar.muli arg1 c1024_i32
  let v9 : BitVec 32 := v8
  let c896_i32 : BitVec 32 := 896#32
  let v306 : BitVec 32 := Scalar.addi v9 c896_i32
  v306
def k0_off13 (k0_t1 : Fin k0_t1_loop.trips) : Fin 2 → Nat :=
  let c0_i32_11 : BitVec 32 := 0#32
  let c1_i32 : BitVec 32 := 1#32
  let arg23 : BitVec 32 := Scf.iv c0_i32_11 c1_i32 k0_t1
  let c32_i32 : BitVec 32 := 32#32
  let v34 : BitVec 32 := Scalar.muli arg23 c32_i32
  let v35 : BitVec 32 := v34
  let v308 : Index := Scalar.indexCast v35
  let c896 : Index := 896#32
  ![v308.toNat, 896]
def k0_cond3 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_17 : BitVec 32 := 0#32
  let v29 : BitVec 1 := Scalar.cmpi .ne v28 c0_i32_17
  v29

@[reducible] def k0_t2_loop : Scf.Loop 32 :=
  let c0_i32_23 : BitVec 32 := 0#32
  let c16_i32_24 : BitVec 32 := 16#32
  let v34 : BitVec 32 := Scalar.addi c0_i32_23 c16_i32_24
  let c1_i32_25 : BitVec 32 := 1#32
  ⟨c0_i32_23, v34, c1_i32_25⟩
def k0_mult11 (k0_t2 : Fin k0_t2_loop.trips) : BitVec 32 :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  v35
def k0_off14 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v37 : Index := Scalar.indexCast v36
  let c0_27 : Index := 0#32
  ![v37.toNat, 0]
def k0_off15 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v49 : Index := Scalar.indexCast v36
  let c0_33 : Index := 0#32
  ![v49.toNat, 0]
def k0_off16 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v112 : Index := Scalar.indexCast v36
  let c128 : Index := 128#32
  ![v112.toNat, 128]
def k0_off17 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v175 : Index := Scalar.indexCast v36
  let c256 : Index := 256#32
  ![v175.toNat, 256]
def k0_off18 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v238 : Index := Scalar.indexCast v36
  let c384 : Index := 384#32
  ![v238.toNat, 384]
def k0_off19 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v301 : Index := Scalar.indexCast v36
  let c512 : Index := 512#32
  ![v301.toNat, 512]
def k0_off20 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v364 : Index := Scalar.indexCast v36
  let c640 : Index := 640#32
  ![v364.toNat, 640]
def k0_off21 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v427 : Index := Scalar.indexCast v36
  let c768 : Index := 768#32
  ![v427.toNat, 768]
def k0_off22 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v490 : Index := Scalar.indexCast v36
  let c896 : Index := 896#32
  ![v490.toNat, 896]
def k0_off23 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v553 : Index := Scalar.indexCast v36
  let c1024 : Index := 1024#32
  ![v553.toNat, 1024]
def k0_off24 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v616 : Index := Scalar.indexCast v36
  let c1152 : Index := 1152#32
  ![v616.toNat, 1152]
def k0_off25 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v679 : Index := Scalar.indexCast v36
  let c1280 : Index := 1280#32
  ![v679.toNat, 1280]
def k0_off26 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v742 : Index := Scalar.indexCast v36
  let c1408 : Index := 1408#32
  ![v742.toNat, 1408]
def k0_off27 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v805 : Index := Scalar.indexCast v36
  let c1536 : Index := 1536#32
  ![v805.toNat, 1536]
def k0_off28 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v868 : Index := Scalar.indexCast v36
  let c1664 : Index := 1664#32
  ![v868.toNat, 1664]
def k0_off29 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v931 : Index := Scalar.indexCast v36
  let c1792 : Index := 1792#32
  ![v931.toNat, 1792]
def k0_off30 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v994 : Index := Scalar.indexCast v36
  let c1920 : Index := 1920#32
  ![v994.toNat, 1920]
def k0_off31 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1057 : Index := Scalar.indexCast v36
  let c2048 : Index := 2048#32
  ![v1057.toNat, 2048]
def k0_off32 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1120 : Index := Scalar.indexCast v36
  let c2176 : Index := 2176#32
  ![v1120.toNat, 2176]
def k0_off33 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1183 : Index := Scalar.indexCast v36
  let c2304 : Index := 2304#32
  ![v1183.toNat, 2304]
def k0_off34 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1246 : Index := Scalar.indexCast v36
  let c2432 : Index := 2432#32
  ![v1246.toNat, 2432]
def k0_off35 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1309 : Index := Scalar.indexCast v36
  let c2560 : Index := 2560#32
  ![v1309.toNat, 2560]
def k0_off36 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1372 : Index := Scalar.indexCast v36
  let c2688 : Index := 2688#32
  ![v1372.toNat, 2688]
def k0_off37 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1435 : Index := Scalar.indexCast v36
  let c2816 : Index := 2816#32
  ![v1435.toNat, 2816]
def k0_off38 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1498 : Index := Scalar.indexCast v36
  let c2944 : Index := 2944#32
  ![v1498.toNat, 2944]
def k0_off39 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1561 : Index := Scalar.indexCast v36
  let c3072 : Index := 3072#32
  ![v1561.toNat, 3072]
def k0_off40 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1624 : Index := Scalar.indexCast v36
  let c3200 : Index := 3200#32
  ![v1624.toNat, 3200]
def k0_off41 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1687 : Index := Scalar.indexCast v36
  let c3328 : Index := 3328#32
  ![v1687.toNat, 3328]
def k0_off42 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1750 : Index := Scalar.indexCast v36
  let c3456 : Index := 3456#32
  ![v1750.toNat, 3456]
def k0_off43 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1813 : Index := Scalar.indexCast v36
  let c3584 : Index := 3584#32
  ![v1813.toNat, 3584]
def k0_off44 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1876 : Index := Scalar.indexCast v36
  let c3712 : Index := 3712#32
  ![v1876.toNat, 3712]
def k0_off45 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v1939 : Index := Scalar.indexCast v36
  let c3840 : Index := 3840#32
  ![v1939.toNat, 3840]
def k0_off46 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v2002 : Index := Scalar.indexCast v36
  let c3968 : Index := 3968#32
  ![v2002.toNat, 3968]
def k0_off47 (k0_t2 : Fin k0_t2_loop.trips) : Fin 2 → Nat :=
  let c0_i32_23 : BitVec 32 := 0#32
  let c1_i32_25 : BitVec 32 := 1#32
  let arg23 : BitVec 32 := Scf.iv c0_i32_23 c1_i32_25 k0_t2
  let c32_i32 : BitVec 32 := 32#32
  let v35 : BitVec 32 := Scalar.muli arg23 c32_i32
  let v36 : BitVec 32 := v35
  let v2066 : Index := Scalar.indexCast v36
  let c0_612 : Index := 0#32
  ![v2066.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x6144 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S512x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S512x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S512x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S512x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S512x4096 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4x3072x4096 : Shape := ⟨3, ![4, 3072, 4096]⟩
abbrev S4x3072 : Shape := ⟨2, ![4, 3072]⟩
abbrev S4096 : Shape := ⟨1, ![4096]⟩
abbrev S4096x6144 : Shape := ⟨2, ![4096, 6144]⟩
abbrev S6144 : Shape := ⟨1, ![6144]⟩
abbrev S4x3072x6144 : Shape := ⟨3, ![4, 3072, 6144]⟩
abbrev S12288x4096 : Shape := ⟨2, ![12288, 4096]⟩
abbrev S12288x1 : Shape := ⟨2, ![12288, 1]⟩
abbrev S1x4096 : Shape := ⟨2, ![1, 4096]⟩
abbrev S1x6144 : Shape := ⟨2, ![1, 6144]⟩
abbrev S12288x6144 : Shape := ⟨2, ![12288, 6144]⟩
abbrev S4096x12288 : Shape := ⟨2, ![4096, 12288]⟩
abbrev S12288x32 : Shape := ⟨2, ![12288, 32]⟩
abbrev S12288 : Shape := ⟨1, ![12288]⟩
abbrev S12288x32x128 : Shape := ⟨3, ![12288, 32, 128]⟩
abbrev S12288x32x1 : Shape := ⟨3, ![12288, 32, 1]⟩

abbrev nBuf : Space → Nat
  | .hbm => 20
  | .vmem => 13
  | .smem => 0
  | _ => 0

abbrev bufTy : (tb : Table) → Fin (tcTables nBuf tb) → BufTy
  | .hbm, ⟨0, _⟩ => ⟨S4x3072x4096, .fp8e4m3⟩
  | .hbm, ⟨1, _⟩ => ⟨S4x3072, .f32⟩
  | .hbm, ⟨2, _⟩ => ⟨S4x3072, .f32⟩
  | .hbm, ⟨3, _⟩ => ⟨S4096, .f32⟩
  | .hbm, ⟨4, _⟩ => ⟨S4096x6144, .fp8e4m3⟩
  | .hbm, ⟨5, _⟩ => ⟨S6144, .f32⟩
  | .hbm, ⟨6, _⟩ => ⟨S4x3072x6144, .bf16⟩
  | .hbm, ⟨7, _⟩ => ⟨S4x3072x4096, .bf16⟩
  | .hbm, ⟨8, _⟩ => ⟨S12288x4096, .fp8e4m3⟩
  | .hbm, ⟨9, _⟩ => ⟨S12288x1, .f32⟩
  | .hbm, ⟨10, _⟩ => ⟨S12288x1, .f32⟩
  | .hbm, ⟨11, _⟩ => ⟨S1x4096, .f32⟩
  | .hbm, ⟨12, _⟩ => ⟨S1x6144, .f32⟩
  | .hbm, ⟨13, _⟩ => ⟨S12288x6144, .bf16⟩
  | .hbm, ⟨14, _⟩ => ⟨S12288x4096, .bf16⟩
  | .hbm, ⟨15, _⟩ => ⟨S12288x4096, .bf16⟩
  | .hbm, ⟨16, _⟩ => ⟨S1x4096, .f32⟩
  | .hbm, ⟨17, _⟩ => ⟨S4096x12288, .bf16⟩
  | .hbm, ⟨18, _⟩ => ⟨S12288x32, .f32⟩
  | .hbm, ⟨19, _⟩ => ⟨S12288x4096, .fp8e5m2⟩
  | .local _ .vmem, ⟨0, _⟩ => ⟨S12288x4096, .fp8e4m3⟩
  | .local _ .vmem, ⟨1, _⟩ => ⟨S12288x1, .f32⟩
  | .local _ .vmem, ⟨2, _⟩ => ⟨S12288x1, .f32⟩
  | .local _ .vmem, ⟨3, _⟩ => ⟨S1x4096, .f32⟩
  | .local _ .vmem, ⟨4, _⟩ => ⟨S4096x6144, .fp8e4m3⟩
  | .local _ .vmem, ⟨5, _⟩ => ⟨S1x6144, .f32⟩
  | .local _ .vmem, ⟨6, _⟩ => ⟨S12288x6144, .bf16⟩
  | .local _ .vmem, ⟨7, _⟩ => ⟨S12288x4096, .bf16⟩
  | .local _ .vmem, ⟨8, _⟩ => ⟨S12288x4096, .bf16⟩
  | .local _ .vmem, ⟨9, _⟩ => ⟨S1x4096, .f32⟩
  | .local _ .vmem, ⟨10, _⟩ => ⟨S4096x12288, .bf16⟩
  | .local _ .vmem, ⟨11, _⟩ => ⟨S12288x32, .f32⟩
  | .local _ .vmem, ⟨12, _⟩ => ⟨S12288x4096, .fp8e5m2⟩
  | _, _ => ⟨S4x3072x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S12288x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x6144 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x12288 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12288x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12288x4096 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== KernelDw.lean ====
abbrev S4096x12288 : Shape := ⟨2, ![4096, 12288]⟩
abbrev S4x3072x6144 : Shape := ⟨3, ![4, 3072, 6144]⟩
abbrev S12288x6144 : Shape := ⟨2, ![12288, 6144]⟩
abbrev S4096x6144 : Shape := ⟨2, ![4096, 6144]⟩
abbrev S2048x1024 : Shape := ⟨2, ![2048, 1024]⟩
abbrev S1024x1536 : Shape := ⟨2, ![1024, 1536]⟩
abbrev S2048x1536 : Shape := ⟨2, ![2048, 1536]⟩

abbrev nBuf : Space → Nat
  | .hbm => 4
  | .vmem => 6
  | .smem => 0
  | _ => 0

abbrev bufTy : (tb : Table) → Fin (tcTables nBuf tb) → BufTy
  | .hbm, ⟨0, _⟩ => ⟨S4096x12288, .bf16⟩
  | .hbm, ⟨1, _⟩ => ⟨S4x3072x6144, .bf16⟩
  | .hbm, ⟨2, _⟩ => ⟨S12288x6144, .bf16⟩
  | .hbm, ⟨3, _⟩ => ⟨S4096x6144, .f32⟩
  | .local _ .vmem, ⟨0, _⟩ => ⟨S2048x1024, .bf16⟩
  | .local _ .vmem, ⟨1, _⟩ => ⟨S2048x1024, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .f32⟩
  | .local _ .vmem, ⟨5, _⟩ => ⟨S2048x1536, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 12], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwIdeal.lean ====
abbrev S4096x12288 : Shape := ⟨2, ![4096, 12288]⟩
abbrev S4x3072x6144 : Shape := ⟨3, ![4, 3072, 6144]⟩
abbrev S12288x6144 : Shape := ⟨2, ![12288, 6144]⟩
abbrev S4096x6144 : Shape := ⟨2, ![4096, 6144]⟩

abbrev nBuf : Space → Nat
  | .hbm => 4
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4x3072x6144, .bf16⟩
  | .hbm, ⟨2, _⟩ => ⟨S12288x6144, .bf16⟩
  | .hbm, ⟨3, _⟩ => ⟨S4096x6144, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Dw.lean ====
/- The value of the weight-gradient call: each block's fold over its run of twelve grid points is the product of the
   transposed normalised activations with the incoming gradient, summed over all tokens at once. -/
module

public import proofs.«01_k».proof.Proof.Gen.KernelDwIdeal.Value
public import proofs.«01_k».proof.Proof.Gen.ReferenceDwIdeal.Run
public import Idealize.ShloMosaic.Lib.Pointwise
public import Idealize.ShloMosaic.Lib.Pipeline.ValueKit.Point
public import Idealize.ShloMosaic.Lib.Tactic.ValueTie

@[expose] public section

set_option maxRecDepth 16384

noncomputable section

namespace Cert.DwValue

open Cert.KernelDwIdeal Cert.KernelDwIdeal.Gen Idealize.ShloMosaic Idealize.ShloMosaic.TcCoe Idealize.SL.Sem

/-- One step of the weight-gradient fold at an index: what was there plus the block's product. -/
theorem pay2_apply (acc : FVec Ideal S2048x1536 .f32) (x : FVec Ideal S2048x1024 .bf16) (y : FVec Ideal S1024x1536 .bf16)
    (r : Fin 2048) (l : Fin 1536) :
    k0_pay2 (F := Ideal) acc x y (ix2 r l) = acc (ix2 r l) + ∑ k : Fin 1024, x (ix2 r k) * y (ix2 k l) := by
  pointwise [k0_pay2]

/-- The block is set to zero where a sum starts. -/
theorem pay1_apply (r : Fin 2048) (l : Fin 1536) : k0_pay1 (F := Ideal) (ix2 r l) = 0 := by
  pointwise [k0_pay1]

variable (m : (ℓ : Loc nD τ sig) → Buf (Elt Ideal) ℓ)

/-- Which blocks of the two operands a point reads. -/
theorem idx_in : ∀ t : Fin cfg0.N, win0_0.index t = ![t.val / 48, t.val % 12] ∧ win0_1.index t = ![t.val % 12, t.val / 12 % 4] :=
  (by decide +kernel : ∀ t : Fin grid0.N, _)

/-- A block of the transposed activations at an index. -/
theorem iblk0_apply (c : Dev nD) (t : Fin cfg0.N) (r : Fin 2048) (k : Fin 1024) :
    iblk m c 0 t (ix2 r k) = V m c main_arg0 (ix2 (⟨t.val / 48 * 2048 + r.val, by have := t.isLt; have : cfg0.N = 96 := N_0; omega⟩ : Fin 4096) (⟨t.val % 12 * 1024 + k.val, by omega⟩ : Fin 12288)) := by
  blk_ext [iblk, (idx_in t).1]

/-- A block of the incoming gradient at an index. -/
theorem iblk1_apply (c : Dev nD) (t : Fin cfg0.N) (k : Fin 1024) (l : Fin 1536) :
    iblk m c 1 t (ix2 k l) = V m c main_v0 (ix2 (⟨t.val % 12 * 1024 + k.val, by omega⟩ : Fin 12288) (⟨t.val / 12 % 4 * 1536 + l.val, by omega⟩ : Fin 6144)) := by
  blk_ext [iblk, (idx_in t).2]

/-- What point `n` adds to the fold at a place of the block. -/
def addend (c : Dev nD) (n : ℕ) (i : S2048x1536.Idx) : EReal :=
  if h : n < cfg0.N then ∑ k : Fin 1024, (show EReal from iblk m c 0 ⟨n, h⟩ (ix2 (i 0) k)) * (show EReal from iblk m c 1 ⟨n, h⟩ (ix2 k (i 1))) else 0

/-- The final array read at an index. -/
theorem G2_apply (c : Dev nD) (r : Fin 4096) (l : Fin 6144) :
    (show EReal from Value.G2 m c (ix2 r l)) = ∑ k : Fin 12288, (show EReal from V m c main_arg0 (ix2 r k)) * (show EReal from V m c main_v0 (ix2 k l)) := by
  have hN : cfg0.N = 96 := N_0
  have hr := r.isLt
  have hl := l.isLt
  have hrun : Value.run2Of (ix2 r l) = 4 * (r.val / 2048) + l.val / 1536 := by
    show 4 * (r.val / 2048 - 0) + 1 * (l.val / 1536 - 0) = _
    omega
  unfold Value.G2
  rw [dif_pos (by rw [hrun]; omega)]
  have key := Pipeline.accAt_add_apply (N := cfg0.N) (ι := S2048x1536.Idx) (β := EReal) (Value.reset2 m c) (Value.step2 m c) (fun _ => 0) (addend m c)
    (12 * Value.run2Of (ix2 r l)) 11
    (fun h i => by
      idx_vars i
      unfold Value.reset2 addend
      rw [dif_pos h]
      exact (pay2_apply _ _ _ _ _).trans (congrArg (· + _) (pay1_apply _ _)))
    (fun n h acc i _ _ => by
      idx_vars i
      unfold Value.step2 addend
      rw [dif_pos h]
      exact pay2_apply _ _ _ _ _) 11 le_rfl (by rw [hrun]; omega) (Value.loc2Of (ix2 r l))
  refine key.trans ?_
  rw [zero_add, Fin.sum_univ_tiles 12 1024 rfl, ← Fin.sum_univ_eq_sum_range (fun s => addend m c (12 * Value.run2Of (ix2 r l) + s) (Value.loc2Of (ix2 r l))) 12]
  refine Finset.sum_congr rfl fun s _ => ?_
  have hs := s.isLt
  unfold addend
  rw [dif_pos (by rw [hrun]; omega)]
  refine Finset.sum_congr rfl fun k _ => ?_
  have e0 : (Value.loc2Of (ix2 r l) 0) = (⟨r.val % 2048, Nat.mod_lt _ (by decide)⟩ : Fin 2048) := rfl
  have e1 : (Value.loc2Of (ix2 r l) 1) = (⟨l.val % 1536, Nat.mod_lt _ (by decide)⟩ : Fin 1536) := rfl
  rw [e0, e1]
  refine congrArg₂ (· * ·) ((iblk0_apply m c _ _ _).trans ?_) ((iblk1_apply m c _ _ _).trans ?_)
  · refine congrArg (V m c main_arg0) ?_
    refine (ix2_inj ..).2 ⟨Fin.ext ?_, Fin.ext ?_⟩ <;> simp only [hrun] <;> omega
  · refine congrArg (V m c main_v0) ?_
    refine (ix2_inj ..).2 ⟨Fin.ext ?_, Fin.ext ?_⟩ <;> simp only [hrun] <;> omega

/-- The call finds its gradient operand as the reshaped argument. -/
theorem V_main_v0 (c : Dev nD) : V m c main_v0 = shapeCast _ (m ((c : Thread nD τ).loc main_arg1)) shapeCasts_S4x3072x6144_S12288x6144 := by
  show StableHlo.after hostOps0 _ _ = _
  after_results <;> rfl

/-- The final array is the whole product. -/
theorem G2_eq (c : Dev nD) (r : Fin 4096) (l : Fin 6144) : Value.G2 m c (ix2 r l) =
    Host.dotGeneral (F := Ideal) (φ₁ := .bf16) (φ₂ := .bf16) Cert.ReferenceDwIdeal.dot_S4096x12288_S12288x6144_S4096x6144_1_0_0_1_n_n none (m ((c.tc : Thread nD τ).loc main_arg0))
      (shapeCast _ (m ((c.tc : Thread nD τ).loc main_arg1)) shapeCasts_S4x3072x6144_S12288x6144) (ix2 r l) := by
  refine (G2_apply m c r l).trans ?_
  rw [V_main_v0, V_main_arg0]
  generalize m ((c.tc : Thread nD τ).loc main_arg0) = A
  generalize shapeCast S12288x6144 (m ((c.tc : Thread nD τ).loc main_arg1)) shapeCasts_S4x3072x6144_S12288x6144 = B
  pointwise []

end Cert.DwValue
end
-- ==== Proof.KernelCond.lean ====
/-
  The dx call's body, run once in each of the four cases its three `scf.if`s leave on the grid (first point of the grid; first
  column block of a later row block; a middle column block; the last column block): from every operand whole at some contents, the
  body runs to its return, and what each output window and scratch then holds is the run's own find.
-/
module

public import proofs.«01_k».proof.Proof.Gen.Kernel.Frame
public import proofs.«01_k».proof.Proof.Gen.Kernel.Loops

@[expose] public section

set_option maxRecDepth 16384

noncomputable section

namespace Cert.Kernel.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first `scf.if`: the first point of the grid. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the second `scf.if`: the first column block. -/
abbrev cond2 (i : grid0.Coords) : Prop := (Scalar.cmpi .ne (Scalar.extui (Scalar.cmpi .eq (BitVec.ofNat 32 (i 1).val) 0#32)) 0#32) = 1#1
/-- The condition of the third `scf.if`: the last column block. -/
abbrev cond3 (i : grid0.Coords) : Prop := k0_cond3 i = 1#1

/-- The first guard holds at the first point only. -/
theorem hcond1 (t : Fin cfg0.N) : cond1 (grid0.coords t) ↔ t.val = 0 := by
  have ht : t.val < 96 := Nat.lt_of_lt_of_eq t.isLt N_0
  have e0 : (grid0.coords t 0).val = t.val / 4 % 24 := Pipeline.Grid.coords_val t 0 (by decide) rfl
  have e1 : (grid0.coords t 1).val = t.val / 1 % 4 := Pipeline.Grid.coords_val t 1 (by decide) rfl
  simp only [cond1, e0, e1]
  word_cmp
/-- The second guard holds at a row block's first point. -/
theorem hcond2 (t : Fin cfg0.N) : cond2 (grid0.coords t) ↔ t.val % 4 = 0 := by
  have ht : t.val < 96 := Nat.lt_of_lt_of_eq t.isLt N_0
  have e1 : (grid0.coords t 1).val = t.val / 1 % 4 := Pipeline.Grid.coords_val t 1 (by decide) rfl
  simp only [cond2, e1]
  word_cmp
/-- The third guard holds at a row block's last point. -/
theorem hcond3 (t : Fin cfg0.N) : cond3 (grid0.coords t) ↔ t.val % 4 = 3 := by
  have ht : t.val < 96 := Nat.lt_of_lt_of_eq t.isLt N_0
  have e1 : (grid0.coords t 1).val = t.val / 1 % 4 := Pipeline.Grid.coords_val t 1 (by decide) rfl
  simp only [cond3, k0_cond3, e1]
  word_cmp

end Cert.Kernel.Dx

end
-- ==== Proof.KernelRunA.lean ====
/-
  The dx call's body, run once in each of the four cases its three `scf.if`s leave on the grid (first point of the grid; first
  column block of a later row block; a middle column block; the last column block): from every operand whole at some contents, the
  body runs to its return, and what each output window and scratch then holds is the run's own find.
-/
module

public import proofs.«01_k».proof.Proof.Gen.Kernel.Frame
public import proofs.«01_k».proof.Proof.Gen.Kernel.Loops
public import proofs.«01_k».proof.Proof.KernelCond

@[expose] public section

set_option maxRecDepth 16384

noncomputable section

namespace Cert.Kernel.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in each output window and scratch at the first point of the grid, WITH the proof that it runs to its return leaving that. -/
def runA (c : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : cond1 i) (hc2 : cond2 i) (hc3 : ¬cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty),
    { g22 : BufTy.Contents (Elt F) arg22.view.ty // ∀ (E : Set ℕ) (K : PUnit → sProp 𝕄),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22)
        ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
    simp only [cc0_dx_eq_skeleton]; unfold cc0_dx_skel
    iintro ⟨H2, H3, H4, H5, H6, H7, H8, H9, H10, H11, H12, H13, H14, H15, H16, H17, H18, H19, H20, H21, H22, Hk⟩
    sl_exec (disch := first | sl_exact hc1 | sl_exact hc2 | sl_exact hc3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.Kernel.Dx

end
-- ==== Proof.KernelRunB.lean ====
/-
  The dx call's body, run once in each of the four cases its three `scf.if`s leave on the grid (first point of the grid; first
  column block of a later row block; a middle column block; the last column block): from every operand whole at some contents, the
  body runs to its return, and what each output window and scratch then holds is the run's own find.
-/
module

public import proofs.«01_k».proof.Proof.Gen.Kernel.Frame
public import proofs.«01_k».proof.Proof.Gen.Kernel.Loops
public import proofs.«01_k».proof.Proof.KernelCond

@[expose] public section

set_option maxRecDepth 16384

noncomputable section

namespace Cert.Kernel.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in each output window and scratch at the first column block of a later row block, WITH the proof that it runs to its return leaving that. -/
def runB (c : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : ¬cond1 i) (hc2 : cond2 i) (hc3 : ¬cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty),
    { g22 : BufTy.Contents (Elt F) arg22.view.ty // ∀ (E : Set ℕ) (K : PUnit → sProp 𝕄),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22)
        ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
    simp only [cc0_dx_eq_skeleton]; unfold cc0_dx_skel
    iintro ⟨H2, H3, H4, H5, H6, H7, H8, H9, H10, H11, H12, H13, H14, H15, H16, H17, H18, H19, H20, H21, H22, Hk⟩
    sl_exec (disch := first | sl_exact hc1 | sl_exact hc2 | sl_exact hc3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.Kernel.Dx

end
-- ==== Proof.KernelRunC.lean ====
/-
  The dx call's body, run once in each of the four cases its three `scf.if`s leave on the grid (first point of the grid; first
  column block of a later row block; a middle column block; the last column block): from every operand whole at some contents, the
  body runs to its return, and what each output window and scratch then holds is the run's own find.
-/
module

public import proofs.«01_k».proof.Proof.Gen.Kernel.Frame
public import proofs.«01_k».proof.Proof.Gen.Kernel.Loops
public import proofs.«01_k».proof.Proof.KernelCond

@[expose] public section

set_option maxRecDepth 16384

noncomputable section

namespace Cert.Kernel.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in each output window and scratch at a middle column block, WITH the proof that it runs to its return leaving that. -/
def runC (c : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : ¬cond1 i) (hc2 : ¬cond2 i) (hc3 : ¬cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty),
    { g22 : BufTy.Contents (Elt F) arg22.view.ty // ∀ (E : Set ℕ) (K : PUnit → sProp 𝕄),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22)
        ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
    simp only [cc0_dx_eq_skeleton]; unfold cc0_dx_skel
    iintro ⟨H2, H3, H4, H5, H6, H7, H8, H9, H10, H11, H12, H13, H14, H15, H16, H17, H18, H19, H20, H21, H22, Hk⟩
    sl_exec (disch := first | sl_exact hc1 | sl_exact hc2 | sl_exact hc3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.Kernel.Dx

end
-- ==== Proof.KernelRunD.lean ====
/-
  The dx call's body, run once in each of the four cases its three `scf.if`s leave on the grid (first point of the grid; first
  column block of a later row block; a middle column block; the last column block): from every operand whole at some contents, the
  body runs to its return, and what each output window and scratch then holds is the run's own find.
-/
module

public import proofs.«01_k».proof.Proof.Gen.Kernel.Frame
public import proofs.«01_k».proof.Proof.Gen.Kernel.Loops
public import proofs.«01_k».proof.Proof.KernelCond

@[expose] public section

set_option maxRecDepth 16384

noncomputable section

namespace Cert.Kernel.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in each output window and scratch at the last column block, WITH the proof that it runs to its return leaving that. -/
def runD (c : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : ¬cond1 i) (hc2 : ¬cond2 i) (hc3 : cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty),
    { g22 : BufTy.Contents (Elt F) arg22.view.ty // ∀ (E : Set ℕ) (K : PUnit → sProp 𝕄),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22)
        ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
    simp only [cc0_dx_eq_skeleton]; unfold cc0_dx_skel
    iintro ⟨H2, H3, H4, H5, H6, H7, H8, H9, H10, H11, H12, H13, H14, H15, H16, H17, H18, H19, H20, H21, H22, Hk⟩
    sl_exec (disch := first | sl_exact hc1 | sl_exact hc2 | sl_exact hc3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.Kernel.Dx

end
-- ==== Proof.KernelObl.lean ====
/-
  The dx call's run on its whole grid, for any invariant of its scratch buffers and any predicate on what it leaves in its output
  windows that the four cases of the body (`run_A` … `run_D`) are shown to keep: the frame and the value claims are its instances.
-/
module

public import proofs.«01_k».proof.Proof.Gen.Kernel.Frame
public import proofs.«01_k».proof.Proof.KernelRunA
public import proofs.«01_k».proof.Proof.KernelRunB
public import proofs.«01_k».proof.Proof.KernelRunC
public import proofs.«01_k».proof.Proof.KernelRunD
public import Idealize.ShloMosaic.Lib.Pipeline.DatRel
public import Idealize.ShloMosaic.Lib.Pipeline.ArrRel

@[expose] public section

set_option maxRecDepth 16384

noncomputable section

namespace Cert.Kernel.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch buffers hold, as a predicate. -/
abbrev ScrPred (F : FTy → Type) := Vec F S512x6144 .bf16 → Vec F S512x4096 .f32 → Vec F S512x4096 .fp8e4m3 → Vec F S512x1024 .bf16 → Vec F S512x128 .f32 → Vec F S512x128 .f32 → Vec F S512x128 .f32 → Vec F S8x4096 .f32 → Prop
/-- What the output windows and the scratch buffers hold, as a predicate. -/
abbrev AllPred (F : FTy → Type) := Vec F S512x32 .f32 → Vec F S512x4096 .bf16 → Vec F S512x4096 .fp8e5m2 → Vec F S1x4096 .f32 → Vec F S1024x512 .bf16 → Vec F S512x6144 .bf16 → Vec F S512x4096 .f32 → Vec F S512x4096 .fp8e4m3 → Vec F S512x1024 .bf16 → Vec F S512x128 .f32 → Vec F S512x128 .f32 → Vec F S512x128 .f32 → Vec F S8x4096 .f32 → Prop

/-- The body at the first point of the grid, from input blocks `x·` and scratch contents meeting `pre`, leaves output windows and scratch meeting `post`. -/
def StepA (i : grid0.Coords) (x2 : Vec F S1x4x128 .f32) (x3 : Vec F S1x4x128 .f32) (x4 : Vec F S1x4096 .f32) (x5 : Vec F S1x6144 .bf16) (x6 : Vec F S512x1024 .fp8e4m3) (x7 : Vec F S1024x6144 .fp8e4m3) (x8 : Vec F S512x6144 .bf16) (x9 : Vec F S512x4096 .bf16) (pre : ScrPred F) (post : AllPred F) : Prop :=
  ∀ (c : Dev nD) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : cond1 i) (hc2 : cond2 i) (hc3 : ¬cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty),
    arg2.view.read (Elt F) X2 = x2 → arg3.view.read (Elt F) X3 = x3 → arg4.view.read (Elt F) X4 = x4 → arg5.view.read (Elt F) X5 = x5 → arg6.view.read (Elt F) X6 = x6 → arg7.view.read (Elt F) X7 = x7 → arg8.view.read (Elt F) X8 = x8 → arg9.view.read (Elt F) X9 = x9 →
    pre (arg15.view.read (Elt F) X15) (arg16.view.read (Elt F) X16) (arg17.view.read (Elt F) X17) (arg18.view.read (Elt F) X18) (arg19.view.read (Elt F) X19) (arg20.view.read (Elt F) X20) (arg21.view.read (Elt F) X21) (arg22.view.read (Elt F) X22) →
    post (arg10.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).1) (arg11.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.1) (arg12.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.1) (arg13.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.1) (arg14.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.1) (arg15.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.1) (arg16.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.1) (arg17.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.1) (arg18.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.1) (arg19.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.1) (arg20.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.1) (arg21.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.1) (arg22.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.2.1)

/-- The body at the first column block of a later row block, from input blocks `x·` and scratch contents meeting `pre`, leaves output windows and scratch meeting `post`. -/
def StepB (i : grid0.Coords) (x2 : Vec F S1x4x128 .f32) (x3 : Vec F S1x4x128 .f32) (x4 : Vec F S1x4096 .f32) (x5 : Vec F S1x6144 .bf16) (x6 : Vec F S512x1024 .fp8e4m3) (x7 : Vec F S1024x6144 .fp8e4m3) (x8 : Vec F S512x6144 .bf16) (x9 : Vec F S512x4096 .bf16) (pre : ScrPred F) (post : AllPred F) : Prop :=
  ∀ (c : Dev nD) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : ¬cond1 i) (hc2 : cond2 i) (hc3 : ¬cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty),
    arg2.view.read (Elt F) X2 = x2 → arg3.view.read (Elt F) X3 = x3 → arg4.view.read (Elt F) X4 = x4 → arg5.view.read (Elt F) X5 = x5 → arg6.view.read (Elt F) X6 = x6 → arg7.view.read (Elt F) X7 = x7 → arg8.view.read (Elt F) X8 = x8 → arg9.view.read (Elt F) X9 = x9 →
    pre (arg15.view.read (Elt F) X15) (arg16.view.read (Elt F) X16) (arg17.view.read (Elt F) X17) (arg18.view.read (Elt F) X18) (arg19.view.read (Elt F) X19) (arg20.view.read (Elt F) X20) (arg21.view.read (Elt F) X21) (arg22.view.read (Elt F) X22) →
    post (arg10.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).1) (arg11.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.1) (arg12.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.1) (arg13.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.1) (arg14.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.1) (arg15.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.1) (arg16.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.1) (arg17.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.1) (arg18.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.1) (arg19.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.1) (arg20.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.1) (arg21.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.1) (arg22.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.2.1)

/-- The body at a middle column block, from input blocks `x·` and scratch contents meeting `pre`, leaves output windows and scratch meeting `post`. -/
def StepC (i : grid0.Coords) (x2 : Vec F S1x4x128 .f32) (x3 : Vec F S1x4x128 .f32) (x4 : Vec F S1x4096 .f32) (x5 : Vec F S1x6144 .bf16) (x6 : Vec F S512x1024 .fp8e4m3) (x7 : Vec F S1024x6144 .fp8e4m3) (x8 : Vec F S512x6144 .bf16) (x9 : Vec F S512x4096 .bf16) (pre : ScrPred F) (post : AllPred F) : Prop :=
  ∀ (c : Dev nD) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : ¬cond1 i) (hc2 : ¬cond2 i) (hc3 : ¬cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty),
    arg2.view.read (Elt F) X2 = x2 → arg3.view.read (Elt F) X3 = x3 → arg4.view.read (Elt F) X4 = x4 → arg5.view.read (Elt F) X5 = x5 → arg6.view.read (Elt F) X6 = x6 → arg7.view.read (Elt F) X7 = x7 → arg8.view.read (Elt F) X8 = x8 → arg9.view.read (Elt F) X9 = x9 →
    pre (arg15.view.read (Elt F) X15) (arg16.view.read (Elt F) X16) (arg17.view.read (Elt F) X17) (arg18.view.read (Elt F) X18) (arg19.view.read (Elt F) X19) (arg20.view.read (Elt F) X20) (arg21.view.read (Elt F) X21) (arg22.view.read (Elt F) X22) →
    post (arg10.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).1) (arg11.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.1) (arg12.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.1) (arg13.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.1) (arg14.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.1) (arg15.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.1) (arg16.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.1) (arg17.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.1) (arg18.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.1) (arg19.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.1) (arg20.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.1) (arg21.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.1) (arg22.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.2.1)

/-- The body at the last column block, from input blocks `x·` and scratch contents meeting `pre`, leaves output windows and scratch meeting `post`. -/
def StepD (i : grid0.Coords) (x2 : Vec F S1x4x128 .f32) (x3 : Vec F S1x4x128 .f32) (x4 : Vec F S1x4096 .f32) (x5 : Vec F S1x6144 .bf16) (x6 : Vec F S512x1024 .fp8e4m3) (x7 : Vec F S1024x6144 .fp8e4m3) (x8 : Vec F S512x6144 .bf16) (x9 : Vec F S512x4096 .bf16) (pre : ScrPred F) (post : AllPred F) : Prop :=
  ∀ (c : Dev nD) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : ¬cond1 i) (hc2 : ¬cond2 i) (hc3 : cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty),
    arg2.view.read (Elt F) X2 = x2 → arg3.view.read (Elt F) X3 = x3 → arg4.view.read (Elt F) X4 = x4 → arg5.view.read (Elt F) X5 = x5 → arg6.view.read (Elt F) X6 = x6 → arg7.view.read (Elt F) X7 = x7 → arg8.view.read (Elt F) X8 = x8 → arg9.view.read (Elt F) X9 = x9 →
    pre (arg15.view.read (Elt F) X15) (arg16.view.read (Elt F) X16) (arg17.view.read (Elt F) X17) (arg18.view.read (Elt F) X18) (arg19.view.read (Elt F) X19) (arg20.view.read (Elt F) X20) (arg21.view.read (Elt F) X21) (arg22.view.read (Elt F) X22) →
    post (arg10.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).1) (arg11.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.1) (arg12.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.1) (arg13.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.1) (arg14.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.1) (arg15.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.1) (arg16.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.1) (arg17.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.1) (arg18.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.1) (arg19.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.1) (arg20.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.1) (arg21.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.1) (arg22.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.2.1)

/-- The output windows, held to a predicate each. -/
def fgt0 : Fin 13 → Bool := fun w => decide (8 ≤ w.val)

/-- The predicate of each output window at each point. -/
def Rl (R10 : Fin cfg0.N → Vec F S512x32 .f32 → Prop) (R11 : Fin cfg0.N → Vec F S512x4096 .bf16 → Prop) (R12 : Fin cfg0.N → Vec F S512x4096 .fp8e5m2 → Prop) (R13 : Fin cfg0.N → Vec F S1x4096 .f32 → Prop) (R14 : Fin cfg0.N → Vec F S1024x512 .bf16 → Prop) : (w : Fin cfg0.W) → Fin cfg0.N → ((cfg0.win w).block.Idx → Elt F (cfg0.win w).elt) → Prop := fun w t => match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => R10 t
  | ⟨9, _⟩ => R11 t
  | ⟨10, _⟩ => R12 t
  | ⟨11, _⟩ => R13 t
  | ⟨12, _⟩ => R14 t

/-- The scratch buffers at contents meeting `P`, and the generator register at some state. -/
def Scr (c : Dev nD) (P : ScrPred F) : sProp 𝕄 :=
  iprop(∃ (d15 : Vec F S512x6144 .bf16) (d16 : Vec F S512x4096 .f32) (d17 : Vec F S512x4096 .fp8e4m3) (d18 : Vec F S512x1024 .bf16) (d19 : Vec F S512x128 .f32) (d20 : Vec F S512x128 .f32) (d21 : Vec F S512x128 .f32) (d22 : Vec F S8x4096 .f32), ⌜P d15 d16 d17 d18 d19 d20 d21 d22⌝ ∗ owns (c : Thread nD τ) (Memref.whole cc0_scratch0) fullShare d15 ∗ owns (c : Thread nD τ) (Memref.whole cc0_scratch1) fullShare d16 ∗ owns (c : Thread nD τ) (Memref.whole cc0_scratch2) fullShare d17 ∗ owns (c : Thread nD τ) (Memref.whole cc0_scratch3) fullShare d18 ∗ owns (c : Thread nD τ) (Memref.whole cc0_scratch4) fullShare d19 ∗ owns (c : Thread nD τ) (Memref.whole cc0_scratch5) fullShare d20 ∗ owns (c : Thread nD τ) (Memref.whole cc0_scratch6) fullShare d21 ∗ owns (c : Thread nD τ) (Memref.whole cc0_scratch7) fullShare d22 ∗ (∃ r, prngReg c r))

variable (Inv : Dev nD → Fin (cfg0.N + 1) → ScrPred F) (R10 : Dev nD → Fin cfg0.N → Vec F S512x32 .f32 → Prop) (R11 : Dev nD → Fin cfg0.N → Vec F S512x4096 .bf16 → Prop) (R12 : Dev nD → Fin cfg0.N → Vec F S512x4096 .fp8e5m2 → Prop) (R13 : Dev nD → Fin cfg0.N → Vec F S1x4096 .f32 → Prop) (R14 : Dev nD → Fin cfg0.N → Vec F S1024x512 .bf16 → Prop)

/-- The proof data: each input's buffer at its block, the outputs unnamed, the scratch meeting the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ t := Scr c (Inv c t)
  q _ := fullShare
  owed _ := 0

theorem A_eq (c : Dev nD) (w : Fin cfg0.W) : (dats m Inv 0 c).A w = V m c (Pipeline.arrRef spec0 w) := by
  dsimp only [dats]

theorem after0_0 (c : Dev nD) (t : Fin cfg0.N) : (dats m Inv 0 c).after 0 t = iblk m c 0 t := by dsimp only [dats]
theorem before0_0 (c : Dev nD) (t : Fin cfg0.N) (d) : (dats m Inv 0 c).before 0 t d = iblk m c 0 t :=
  before0_0_of m (dats m Inv 0 c) (A_eq m Inv c 0) (after0_0 m Inv c) t d
theorem after0_1 (c : Dev nD) (t : Fin cfg0.N) : (dats m Inv 0 c).after 1 t = iblk m c 1 t := by dsimp only [dats]
theorem before0_1 (c : Dev nD) (t : Fin cfg0.N) (d) : (dats m Inv 0 c).before 1 t d = iblk m c 1 t :=
  before0_1_of m (dats m Inv 0 c) (A_eq m Inv c 1) (after0_1 m Inv c) t d
theorem after0_2 (c : Dev nD) (t : Fin cfg0.N) : (dats m Inv 0 c).after 2 t = iblk m c 2 t := by dsimp only [dats]
theorem before0_2 (c : Dev nD) (t : Fin cfg0.N) (d) : (dats m Inv 0 c).before 2 t d = iblk m c 2 t :=
  before0_2_of m (dats m Inv 0 c) (A_eq m Inv c 2) (after0_2 m Inv c) t d
theorem after0_3 (c : Dev nD) (t : Fin cfg0.N) : (dats m Inv 0 c).after 3 t = iblk m c 3 t := by dsimp only [dats]
theorem before0_3 (c : Dev nD) (t : Fin cfg0.N) (d) : (dats m Inv 0 c).before 3 t d = iblk m c 3 t :=
  before0_3_of m (dats m Inv 0 c) (A_eq m Inv c 3) (after0_3 m Inv c) t d
theorem after0_4 (c : Dev nD) (t : Fin cfg0.N) : (dats m Inv 0 c).after 4 t = iblk m c 4 t := by dsimp only [dats]
theorem before0_4 (c : Dev nD) (t : Fin cfg0.N) (d) : (dats m Inv 0 c).before 4 t d = iblk m c 4 t :=
  before0_4_of m (dats m Inv 0 c) (A_eq m Inv c 4) (after0_4 m Inv c) t d
theorem after0_5 (c : Dev nD) (t : Fin cfg0.N) : (dats m Inv 0 c).after 5 t = iblk m c 5 t := by dsimp only [dats]
theorem before0_5 (c : Dev nD) (t : Fin cfg0.N) (d) : (dats m Inv 0 c).before 5 t d = iblk m c 5 t :=
  before0_5_of m (dats m Inv 0 c) (A_eq m Inv c 5) (after0_5 m Inv c) t d
theorem after0_6 (c : Dev nD) (t : Fin cfg0.N) : (dats m Inv 0 c).after 6 t = iblk m c 6 t := by dsimp only [dats]
theorem before0_6 (c : Dev nD) (t : Fin cfg0.N) (d) : (dats m Inv 0 c).before 6 t d = iblk m c 6 t :=
  before0_6_of m (dats m Inv 0 c) (A_eq m Inv c 6) (after0_6 m Inv c) t d
theorem after0_7 (c : Dev nD) (t : Fin cfg0.N) : (dats m Inv 0 c).after 7 t = iblk m c 7 t := by dsimp only [dats]
theorem before0_7 (c : Dev nD) (t : Fin cfg0.N) (d) : (dats m Inv 0 c).before 7 t d = iblk m c 7 t :=
  before0_7_of m (dats m Inv 0 c) (A_eq m Inv c 7) (after0_7 m Inv c) t d
/-- Window 0's current staging memref at point `t`, as the pipeline passes it. -/
abbrev ms0 (t : Fin cfg0.N) : Memref sig .tc .vmem S1x4x128 .f32 := win0_0.stage (cfg0.slots t 0)
theorem hs0 (t : Fin cfg0.N) : (ms0 t).IsWhole := hstage0_0 ((cfg0.slots t 0).cast nbuf0_0)
/-- Window 1's current staging memref at point `t`, as the pipeline passes it. -/
abbrev ms1 (t : Fin cfg0.N) : Memref sig .tc .vmem S1x4x128 .f32 := win0_1.stage (cfg0.slots t 1)
theorem hs1 (t : Fin cfg0.N) : (ms1 t).IsWhole := hstage0_1 ((cfg0.slots t 1).cast nbuf0_1)
/-- Window 2's current staging memref at point `t`, as the pipeline passes it. -/
abbrev ms2 (t : Fin cfg0.N) : Memref sig .tc .vmem S1x4096 .f32 := win0_2.stage (cfg0.slots t 2)
theorem hs2 (t : Fin cfg0.N) : (ms2 t).IsWhole := hstage0_2 ((cfg0.slots t 2).cast nbuf0_2)
/-- Window 3's current staging memref at point `t`, as the pipeline passes it. -/
abbrev ms3 (t : Fin cfg0.N) : Memref sig .tc .vmem S1x6144 .bf16 := win0_3.stage (cfg0.slots t 3)
theorem hs3 (t : Fin cfg0.N) : (ms3 t).IsWhole := hstage0_3 ((cfg0.slots t 3).cast nbuf0_3)
/-- Window 4's current staging memref at point `t`, as the pipeline passes it. -/
abbrev ms4 (t : Fin cfg0.N) : Memref sig .tc .vmem S512x1024 .fp8e4m3 := win0_4.stage (cfg0.slots t 4)
theorem hs4 (t : Fin cfg0.N) : (ms4 t).IsWhole := hstage0_4 ((cfg0.slots t 4).cast nbuf0_4)
/-- Window 5's current staging memref at point `t`, as the pipeline passes it. -/
abbrev ms5 (t : Fin cfg0.N) : Memref sig .tc .vmem S1024x6144 .fp8e4m3 := win0_5.stage (cfg0.slots t 5)
theorem hs5 (t : Fin cfg0.N) : (ms5 t).IsWhole := hstage0_5 ((cfg0.slots t 5).cast nbuf0_5)
/-- Window 6's current staging memref at point `t`, as the pipeline passes it. -/
abbrev ms6 (t : Fin cfg0.N) : Memref sig .tc .vmem S512x6144 .bf16 := win0_6.stage (cfg0.slots t 6)
theorem hs6 (t : Fin cfg0.N) : (ms6 t).IsWhole := hstage0_6 ((cfg0.slots t 6).cast nbuf0_6)
/-- Window 7's current staging memref at point `t`, as the pipeline passes it. -/
abbrev ms7 (t : Fin cfg0.N) : Memref sig .tc .vmem S512x4096 .bf16 := win0_7.stage (cfg0.slots t 7)
theorem hs7 (t : Fin cfg0.N) : (ms7 t).IsWhole := hstage0_7 ((cfg0.slots t 7).cast nbuf0_7)
/-- Window 8's current staging memref at point `t`, as the pipeline passes it. -/
abbrev ms8 (t : Fin cfg0.N) : Memref sig .tc .vmem S512x32 .f32 := win0_8.stage (cfg0.slots t 8)
theorem hs8 (t : Fin cfg0.N) : (ms8 t).IsWhole := hstage0_8 ((cfg0.slots t 8).cast nbuf0_8)
/-- Window 9's current staging memref at point `t`, as the pipeline passes it. -/
abbrev ms9 (t : Fin cfg0.N) : Memref sig .tc .vmem S512x4096 .bf16 := win0_9.stage (cfg0.slots t 9)
theorem hs9 (t : Fin cfg0.N) : (ms9 t).IsWhole := hstage0_9 ((cfg0.slots t 9).cast nbuf0_9)
/-- Window 10's current staging memref at point `t`, as the pipeline passes it. -/
abbrev ms10 (t : Fin cfg0.N) : Memref sig .tc .vmem S512x4096 .fp8e5m2 := win0_10.stage (cfg0.slots t 10)
theorem hs10 (t : Fin cfg0.N) : (ms10 t).IsWhole := hstage0_10 ((cfg0.slots t 10).cast nbuf0_10)
/-- Window 11's current staging memref at point `t`, as the pipeline passes it. -/
abbrev ms11 (t : Fin cfg0.N) : Memref sig .tc .vmem S1x4096 .f32 := win0_11.stage (cfg0.slots t 11)
theorem hs11 (t : Fin cfg0.N) : (ms11 t).IsWhole := hstage0_11 ((cfg0.slots t 11).cast nbuf0_11)
/-- Window 12's current staging memref at point `t`, as the pipeline passes it. -/
abbrev ms12 (t : Fin cfg0.N) : Memref sig .tc .vmem S1024x512 .bf16 := win0_12.stage (cfg0.slots t 12)
theorem hs12 (t : Fin cfg0.N) : (ms12 t).IsWhole := hstage0_12 ((cfg0.slots t 12).cast nbuf0_12)

/-- What the body is called with at point `t`, -/
def bodyPre (c : Dev nD) (t : Fin cfg0.N) : sProp 𝕄 :=
  iprop((dats m Inv 0 c).Φ t.castSucc ∗ (dats m Inv 0 c).owesAt () t.castSucc
    ∗ (∃ d, owns (c : Thread nD τ) (ms0 t) fullShare ((dats m Inv 0 c).before 0 t d))
    ∗ (∃ d, owns (c : Thread nD τ) (ms1 t) fullShare ((dats m Inv 0 c).before 1 t d))
    ∗ (∃ d, owns (c : Thread nD τ) (ms2 t) fullShare ((dats m Inv 0 c).before 2 t d))
    ∗ (∃ d, owns (c : Thread nD τ) (ms3 t) fullShare ((dats m Inv 0 c).before 3 t d))
    ∗ (∃ d, owns (c : Thread nD τ) (ms4 t) fullShare ((dats m Inv 0 c).before 4 t d))
    ∗ (∃ d, owns (c : Thread nD τ) (ms5 t) fullShare ((dats m Inv 0 c).before 5 t d))
    ∗ (∃ d, owns (c : Thread nD τ) (ms6 t) fullShare ((dats m Inv 0 c).before 6 t d))
    ∗ (∃ d, owns (c : Thread nD τ) (ms7 t) fullShare ((dats m Inv 0 c).before 7 t d))
    ∗ (∃ d, owns (c : Thread nD τ) (ms8 t) fullShare d)
    ∗ (∃ d, owns (c : Thread nD τ) (ms9 t) fullShare d)
    ∗ (∃ d, owns (c : Thread nD τ) (ms10 t) fullShare d)
    ∗ (∃ d, owns (c : Thread nD τ) (ms11 t) fullShare d)
    ∗ (∃ d, owns (c : Thread nD τ) (ms12 t) fullShare d))

/-- and what it returns. -/
def bodyPost (c : Dev nD) (t : Fin cfg0.N) : sProp 𝕄 :=
  iprop((dats m Inv 0 c).Φ t.succ ∗ (dats m Inv 0 c).owesAt () t.succ
    ∗ owns (c : Thread nD τ) (ms0 t) fullShare ((dats m Inv 0 c).after 0 t)
    ∗ owns (c : Thread nD τ) (ms1 t) fullShare ((dats m Inv 0 c).after 1 t)
    ∗ owns (c : Thread nD τ) (ms2 t) fullShare ((dats m Inv 0 c).after 2 t)
    ∗ owns (c : Thread nD τ) (ms3 t) fullShare ((dats m Inv 0 c).after 3 t)
    ∗ owns (c : Thread nD τ) (ms4 t) fullShare ((dats m Inv 0 c).after 4 t)
    ∗ owns (c : Thread nD τ) (ms5 t) fullShare ((dats m Inv 0 c).after 5 t)
    ∗ owns (c : Thread nD τ) (ms6 t) fullShare ((dats m Inv 0 c).after 6 t)
    ∗ owns (c : Thread nD τ) (ms7 t) fullShare ((dats m Inv 0 c).after 7 t)
    ∗ (∃ d, ⌜R10 c t d⌝ ∗ owns (c : Thread nD τ) (ms8 t) fullShare d)
    ∗ (∃ d, ⌜R11 c t d⌝ ∗ owns (c : Thread nD τ) (ms9 t) fullShare d)
    ∗ (∃ d, ⌜R12 c t d⌝ ∗ owns (c : Thread nD τ) (ms10 t) fullShare d)
    ∗ (∃ d, ⌜R13 c t d⌝ ∗ owns (c : Thread nD τ) (ms11 t) fullShare d)
    ∗ (∃ d, ⌜R14 c t d⌝ ∗ owns (c : Thread nD τ) (ms12 t) fullShare d))

/-- The invariant after the point together with the outputs' predicates there, as one predicate. -/
abbrev PostAt (c : Dev nD) (t : Fin cfg0.N) : AllPred F := fun y10 y11 y12 y13 y14 y15 y16 y17 y18 y19 y20 y21 y22 =>
  Inv c t.succ y15 y16 y17 y18 y19 y20 y21 y22 ∧ R10 c t y10 ∧ R11 c t y11 ∧ R12 c t y12 ∧ R13 c t y13 ∧ R14 c t y14

/-- The body keeps the invariant at every point: one clause for each case. -/
structure Keeps (c : Dev nD) (t : Fin cfg0.N) : Prop where
  caseA : t.val = 0 → StepA (grid0.coords t) (iblk m c 0 t) (iblk m c 1 t) (iblk m c 2 t) (iblk m c 3 t) (iblk m c 4 t) (iblk m c 5 t) (iblk m c 6 t) (iblk m c 7 t) (Inv c t.castSucc) (PostAt Inv R10 R11 R12 R13 R14 c t)
  caseB : t.val ≠ 0 → t.val % 4 = 0 → StepB (grid0.coords t) (iblk m c 0 t) (iblk m c 1 t) (iblk m c 2 t) (iblk m c 3 t) (iblk m c 4 t) (iblk m c 5 t) (iblk m c 6 t) (iblk m c 7 t) (Inv c t.castSucc) (PostAt Inv R10 R11 R12 R13 R14 c t)
  caseC : t.val % 4 ≠ 0 → t.val % 4 ≠ 3 → StepC (grid0.coords t) (iblk m c 0 t) (iblk m c 1 t) (iblk m c 2 t) (iblk m c 3 t) (iblk m c 4 t) (iblk m c 5 t) (iblk m c 6 t) (iblk m c 7 t) (Inv c t.castSucc) (PostAt Inv R10 R11 R12 R13 R14 c t)
  caseD : t.val % 4 = 3 → StepD (grid0.coords t) (iblk m c 0 t) (iblk m c 1 t) (iblk m c 2 t) (iblk m c 3 t) (iblk m c 4 t) (iblk m c 5 t) (iblk m c 6 t) (iblk m c 7 t) (Inv c t.castSucc) (PostAt Inv R10 R11 R12 R13 R14 c t)

set_option maxHeartbeats 4000000 in
/-- The body at any point: the case's run, the invariant and the outputs' predicates kept by `Keeps`. -/
theorem sound_body (c : Dev nD) (t : Fin cfg0.N) (hk : Keeps m Inv R10 R11 R12 R13 R14 c t) :
    bodyPre m Inv c t ⊢ wp frame (wpE (defs₀ (F := F)) Variants.none c none) Set.univ (bodyAt0 t) (fun _ => bodyPost m Inv R10 R11 R12 R13 R14 c t) := by
  unfold bodyPre bodyPost bodyAt0
  simp only [before0_0, before0_1, before0_2, before0_3, before0_4, before0_5, before0_6, before0_7]
  rw [show (dats m Inv 0 c).Φ t.succ = Scr c (Inv c t.succ) from rfl, show (dats m Inv 0 c).Φ t.castSucc = Scr c (Inv c t.castSucc) from rfl,
    show (dats m Inv 0 c).owesAt () t.succ = (dats m Inv 0 c).owesAt () t.castSucc from rfl,
    after0_0, after0_1, after0_2, after0_3, after0_4, after0_5, after0_6, after0_7]
  unfold Scr
  unfold owns
  iintro ⟨⟨%d15, %d16, %d17, %d18, %d19, %d20, %d21, %d22, %hI, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hp⟩, Ho, ⟨%d2, ⟨%f2, %hf2, H2⟩⟩, ⟨%d3, ⟨%f3, %hf3, H3⟩⟩, ⟨%d4, ⟨%f4, %hf4, H4⟩⟩, ⟨%d5, ⟨%f5, %hf5, H5⟩⟩, ⟨%d6, ⟨%f6, %hf6, H6⟩⟩, ⟨%d7, ⟨%f7, %hf7, H7⟩⟩, ⟨%d8, ⟨%f8, %hf8, H8⟩⟩, ⟨%d9, ⟨%f9, %hf9, H9⟩⟩, ⟨%d10, ⟨%f10, %hf10, H10⟩⟩, ⟨%d11, ⟨%f11, %hf11, H11⟩⟩, ⟨%d12, ⟨%f12, %hf12, H12⟩⟩, ⟨%d13, ⟨%f13, %hf13, H13⟩⟩, ⟨%d14, ⟨%f14, %hf14, H14⟩⟩⟩
  by_cases h0 : t.val = 0
  · have hc1 := (hcond1 t).mpr h0
    have hc2 := (hcond2 t).mpr (by omega)
    have hc3 : ¬ cond3 (grid0.coords t) := fun h => by have := (hcond3 t).mp h; omega
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22).2.2.2.2.2.2.2.2.2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iintro ⟨H2, H3, H4, H5, H6, H7, H8, H9, H10, H11, H12, H13, H14, H15, H16, H17, H18, H19, H20, H21, H22⟩
    have hk := hk.caseA h0 c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22 hf2 hf3 hf4 hf5 hf6 hf7 hf8 hf9
      (by rw [hf15, hf16, hf17, hf18, hf19, hf20, hf21, hf22]; exact hI)
    obtain ⟨hI', hk10, hk11, hk12, hk13, hk14⟩ := hk
    isplitl [H15 H16 H17 H18 H19 H20 H21 H22 Hp]
    · iexists _, _, _, _, _, _, _, _
      isplitr; · ipureintro; exact hI'
      isplitl [H15]
      · iexists _; isplitr; · ipureintro; rfl
        iexact H15
      isplitl [H16]
      · iexists _; isplitr; · ipureintro; rfl
        iexact H16
      isplitl [H17]
      · iexists _; isplitr; · ipureintro; rfl
        iexact H17
      isplitl [H18]
      · iexists _; isplitr; · ipureintro; rfl
        iexact H18
      isplitl [H19]
      · iexists _; isplitr; · ipureintro; rfl
        iexact H19
      isplitl [H20]
      · iexists _; isplitr; · ipureintro; rfl
        iexact H20
      isplitl [H21]
      · iexists _; isplitr; · ipureintro; rfl
        iexact H21
      isplitl [H22]
      · iexists _; isplitr; · ipureintro; rfl
        iexact H22
      iexact Hp
    isplitl [Ho]; · iexact Ho
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hk10
      iexists _; isplitr; · ipureintro; rfl
      iexact H10
    isplitl [H11]
    · iexists _; isplitr; · ipureintro; exact hk11
      iexists _; isplitr; · ipureintro; rfl
      iexact H11
    isplitl [H12]
    · iexists _; isplitr; · ipureintro; exact hk12
      iexists _; isplitr; · ipureintro; rfl
      iexact H12
    isplitl [H13]
    · iexists _; isplitr; · ipureintro; exact hk13
      iexists _; isplitr; · ipureintro; rfl
      iexact H13
    iexists _; isplitr; · ipureintro; exact hk14
    iexists _; isplitr; · ipureintro; rfl
    iexact H14
  by_cases h1 : t.val % 4 = 0
  · have hc1 : ¬ cond1 (grid0.coords t) := fun h => h0 ((hcond1 t).mp h)
    have hc2 := (hcond2 t).mpr h1
    have hc3 : ¬ cond3 (grid0.coords t) := fun h => by have := (hcond3 t).mp h; omega
    iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22).2.2.2.2.2.2.2.2.2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iintro ⟨H2, H3, H4, H5, H6, H7, H8, H9, H10, H11, H12, H13, H14, H15, H16, H17, H18, H19, H20, H21, H22⟩
    have hk := hk.caseB h0 h1 c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22 hf2 hf3 hf4 hf5 hf6 hf7 hf8 hf9
      (by rw [hf15, hf16, hf17, hf18, hf19, hf20, hf21, hf22]; exact hI)
    obtain ⟨hI', hk10, hk11, hk12, hk13, hk14⟩ := hk
    isplitl [H15 H16 H17 H18 H19 H20 H21 H22 Hp]
    · iexists _, _, _, _, _, _, _, _
      isplitr; · ipureintro; exact hI'
      isplitl [H15]
      · iexists _; isplitr; · ipureintro; rfl
        iexact H15
      isplitl [H16]
      · iexists _; isplitr; · ipureintro; rfl
        iexact H16
      isplitl [H17]
      · iexists _; isplitr; · ipureintro; rfl
        iexact H17
      isplitl [H18]
      · iexists _; isplitr; · ipureintro; rfl
        iexact H18
      isplitl [H19]
      · iexists _; isplitr; · ipureintro; rfl
        iexact H19
      isplitl [H20]
      · iexists _; isplitr; · ipureintro; rfl
        iexact H20
      isplitl [H21]
      · iexists _; isplitr; · ipureintro; rfl
        iexact H21
      isplitl [H22]
      · iexists _; isplitr; · ipureintro; rfl
        iexact H22
      iexact Hp
    isplitl [Ho]; · iexact Ho
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hk10
      iexists _; isplitr; · ipureintro; rfl
      iexact H10
    isplitl [H11]
    · iexists _; isplitr; · ipureintro; exact hk11
      iexists _; isplitr; · ipureintro; rfl
      iexact H11
    isplitl [H12]
    · iexists _; isplitr; · ipureintro; exact hk12
      iexists _; isplitr; · ipureintro; rfl
      iexact H12
    isplitl [H13]
    · iexists _; isplitr; · ipureintro; exact hk13
      iexists _; isplitr; · ipureintro; rfl
      iexact H13
    iexists _; isplitr; · ipureintro; exact hk14
    iexists _; isplitr; · ipureintro; rfl
    iexact H14
  have hc1 : ¬ cond1 (grid0.coords t) := fun h => h0 ((hcond1 t).mp h)
  have hc2 : ¬ cond2 (grid0.coords t) := fun h => h1 ((hcond2 t).mp h)
  by_cases h3 : t.val % 4 = 3
  · have hc3 := (hcond3 t).mpr h3
    iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22).2.2.2.2.2.2.2.2.2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iintro ⟨H2, H3, H4, H5, H6, H7, H8, H9, H10, H11, H12, H13, H14, H15, H16, H17, H18, H19, H20, H21, H22⟩
    have hk := hk.caseD h3 c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22 hf2 hf3 hf4 hf5 hf6 hf7 hf8 hf9
      (by rw [hf15, hf16, hf17, hf18, hf19, hf20, hf21, hf22]; exact hI)
    obtain ⟨hI', hk10, hk11, hk12, hk13, hk14⟩ := hk
    isplitl [H15 H16 H17 H18 H19 H20 H21 H22 Hp]
    · iexists _, _, _, _, _, _, _, _
      isplitr; · ipureintro; exact hI'
      isplitl [H15]
      · iexists _; isplitr; · ipureintro; rfl
        iexact H15
      isplitl [H16]
      · iexists _; isplitr; · ipureintro; rfl
        iexact H16
      isplitl [H17]
      · iexists _; isplitr; · ipureintro; rfl
        iexact H17
      isplitl [H18]
      · iexists _; isplitr; · ipureintro; rfl
        iexact H18
      isplitl [H19]
      · iexists _; isplitr; · ipureintro; rfl
        iexact H19
      isplitl [H20]
      · iexists _; isplitr; · ipureintro; rfl
        iexact H20
      isplitl [H21]
      · iexists _; isplitr; · ipureintro; rfl
        iexact H21
      isplitl [H22]
      · iexists _; isplitr; · ipureintro; rfl
        iexact H22
      iexact Hp
    isplitl [Ho]; · iexact Ho
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hk10
      iexists _; isplitr; · ipureintro; rfl
      iexact H10
    isplitl [H11]
    · iexists _; isplitr; · ipureintro; exact hk11
      iexists _; isplitr; · ipureintro; rfl
      iexact H11
    isplitl [H12]
    · iexists _; isplitr; · ipureintro; exact hk12
      iexists _; isplitr; · ipureintro; rfl
      iexact H12
    isplitl [H13]
    · iexists _; isplitr; · ipureintro; exact hk13
      iexists _; isplitr; · ipureintro; rfl
      iexact H13
    iexists _; isplitr; · ipureintro; exact hk14
    iexists _; isplitr; · ipureintro; rfl
    iexact H14
  · have hc3 : ¬ cond3 (grid0.coords t) := fun h => h3 ((hcond3 t).mp h)
    iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22).2.2.2.2.2.2.2.2.2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iintro ⟨H2, H3, H4, H5, H6, H7, H8, H9, H10, H11, H12, H13, H14, H15, H16, H17, H18, H19, H20, H21, H22⟩
    have hk := hk.caseC h1 h3 c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22 hf2 hf3 hf4 hf5 hf6 hf7 hf8 hf9
      (by rw [hf15, hf16, hf17, hf18, hf19, hf20, hf21, hf22]; exact hI)
    obtain ⟨hI', hk10, hk11, hk12, hk13, hk14⟩ := hk
    isplitl [H15 H16 H17 H18 H19 H20 H21 H22 Hp]
    · iexists _, _, _, _, _, _, _, _
      isplitr; · ipureintro; exact hI'
      isplitl [H15]
      · iexists _; isplitr; · ipureintro; rfl
        iexact H15
      isplitl [H16]
      · iexists _; isplitr; · ipureintro; rfl
        iexact H16
      isplitl [H17]
      · iexists _; isplitr; · ipureintro; rfl
        iexact H17
      isplitl [H18]
      · iexists _; isplitr; · ipureintro; rfl
        iexact H18
      isplitl [H19]
      · iexists _; isplitr; · ipureintro; rfl
        iexact H19
      isplitl [H20]
      · iexists _; isplitr; · ipureintro; rfl
        iexact H20
      isplitl [H21]
      · iexists _; isplitr; · ipureintro; rfl
        iexact H21
      isplitl [H22]
      · iexists _; isplitr; · ipureintro; rfl
        iexact H22
      iexact Hp
    isplitl [Ho]; · iexact Ho
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hk10
      iexists _; isplitr; · ipureintro; rfl
      iexact H10
    isplitl [H11]
    · iexists _; isplitr; · ipureintro; exact hk11
      iexists _; isplitr; · ipureintro; rfl
      iexact H11
    isplitl [H12]
    · iexists _; isplitr; · ipureintro; exact hk12
      iexists _; isplitr; · ipureintro; rfl
      iexact H12
    isplitl [H13]
    · iexists _; isplitr; · ipureintro; exact hk13
      iexists _; isplitr; · ipureintro; rfl
      iexact H13
    iexists _; isplitr; · ipureintro; exact hk14
    iexists _; isplitr; · ipureintro; rfl
    iexact H14

end Cert.Kernel.Dx

end
-- ==== Proof.KernelFrame.lean ====
/-
  The dx call's run on its whole grid, for any invariant of its scratch buffers and any predicate on what it leaves in its output
  windows that the four cases of the body (`run_A` … `run_D`) are shown to keep: the frame and the value claims are its instances.
-/
module

public import proofs.«01_k».proof.Proof.Gen.Kernel.Frame
public import proofs.«01_k».proof.Proof.KernelRunA
public import proofs.«01_k».proof.Proof.KernelRunB
public import proofs.«01_k».proof.Proof.KernelRunC
public import proofs.«01_k».proof.Proof.KernelRunD
public import proofs.«01_k».proof.Proof.KernelObl
public import Idealize.ShloMosaic.Lib.Pipeline.DatRel
public import Idealize.ShloMosaic.Lib.Pipeline.ArrRel

@[expose] public section

set_option maxRecDepth 16384

noncomputable section

namespace Cert.Kernel.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (Inv : Dev nD → Fin (cfg0.N + 1) → ScrPred F) (R10 : Dev nD → Fin cfg0.N → Vec F S512x32 .f32 → Prop) (R11 : Dev nD → Fin cfg0.N → Vec F S512x4096 .bf16 → Prop) (R12 : Dev nD → Fin cfg0.N → Vec F S512x4096 .fp8e5m2 → Prop) (R13 : Dev nD → Fin cfg0.N → Vec F S1x4096 .f32 → Prop) (R14 : Dev nD → Fin cfg0.N → Vec F S1024x512 .bf16 → Prop)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the outputs held to their predicates. -/
theorem body_obligation (hk : ∀ c t, Keeps m Inv R10 R11 R12 R13 R14 c t) (c : Dev nD) :
    Pipeline.BodyObligationRel (dats m Inv 0 c) (defs₀ (F := F)) Variants.none () Set.univ fgt0 (Rl (R10 c) (R11 c) (R12 c) (R13 c) (R14 c)) := fun t => by
  rw [bigSep_W0, bigSep_W0, defs₀_row]
  refine triple_restated (sound_body m Inv R10 R11 R12 R13 R14 c t (hk c t)) rfl ?_ fun _ => .rfl
  unfold bodyPre
  simp only [show fgt0 0 = false from rfl, show fgt0 1 = false from rfl, show fgt0 2 = false from rfl, show fgt0 3 = false from rfl, show fgt0 4 = false from rfl, show fgt0 5 = false from rfl, show fgt0 6 = false from rfl, show fgt0 7 = false from rfl, show fgt0 8 = true from rfl, show fgt0 9 = true from rfl, show fgt0 10 = true from rfl, show fgt0 11 = true from rfl, show fgt0 12 = true from rfl]
  iintro ⟨HΦ, Ho, H2, H3, H4, H5, H6, H7, H8, H9, ⟨%Y10, %hY10, H10⟩, ⟨%Y11, %hY11, H11⟩, ⟨%Y12, %hY12, H12⟩, ⟨%Y13, %hY13, H13⟩, ⟨%Y14, %hY14, H14⟩⟩
  isplitl [HΦ]; · iexact HΦ
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iexists _; iexact H14

/-- The class invariant is the scratch at any contents. -/
theorem scr_of_any (c : Dev nD) (P : ScrPred F) (hP : ∀ d15 d16 d17 d18 d19 d20 d21 d22, P d15 d16 d17 d18 d19 d20 d21 d22) :
    (Pipeline.ΦA spec0 c : sProp 𝕄) ⊢ Scr c P := by
  unfold Pipeline.ΦA Scr
  rw [scopedRest0_eq]
  simp only [owns_whole]
  iintro ⟨⟨⟨%d15, H15⟩, ⟨%d16, H16⟩, ⟨%d17, H17⟩, ⟨%d18, H18⟩, ⟨%d19, H19⟩, ⟨%d20, H20⟩, ⟨%d21, H21⟩, ⟨%d22, H22⟩⟩, Hp⟩
  iexists d15, d16, d17, d18, d19, d20, d21, d22
  isplitr; · ipureintro; exact hP _ _ _ _ _ _ _ _
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact Hp

/-- Scratch of which something is known is scratch. -/
theorem any_of_scr (c : Dev nD) (P : ScrPred F) : Scr c P ⊢ (Pipeline.ΦA spec0 c : sProp 𝕄) := by
  unfold Pipeline.ΦA Scr
  rw [scopedRest0_eq]
  simp only [owns_whole]
  iintro ⟨%d15, %d16, %d17, %d18, %d19, %d20, %d21, %d22, -, H15, H16, H17, H18, H19, H20, H21, H22, Hp⟩
  isplitl [H15 H16 H17 H18 H19 H20 H21 H22]
  ·
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22
  iexact Hp

set_option backward.isDefEq.respectTransparency.types false in
/-- THE RUN: every execution ends, the input arrays and the buffers off the call as at entry, the output arrays written block by
    block by contents meeting the outputs' predicates, every counter at zero. -/
theorem run_main (h0 : ∀ c d15 d16 d17 d18 d19 d20 d21 d22, Inv c 0 d15 d16 d17 d18 d19 d20 d21 d22) (hk : ∀ c t, Keeps m Inv R10 R11 R12 R13 R14 c t) :
    θ_run defs (onTc (τ := τ) (main (F := F))) (s₀ m ρ) (fun r =>
      Pipeline.RDat.FramePost (cfgs 0) (fun c => (dats m Inv 0 c).toRRel fgt0 (Rl (R10 c) (R11 c) (R12 c) (R13 c) (R14 c))) (V m) r ∧ r.2.sem = fun _ => 0) :=
  Pipeline.RDat.θ_run_frame_track cfgs (0 : Fin 1) launch0 defs₀ Variants.none
    (fun c => (dats m Inv 0 c).toRRel fgt0 (Rl (R10 c) (R11 c) (R12 c) (R13 c) (R14 c))) m ρ main
    (hbody := fun c => (body_obligation m Inv R10 R11 R12 R13 R14 hk c).toRRel) (hshare := fun c => (dats m Inv 0 c).share_full fun _ => rfl)
    (howed := fun _ _ => rfl) (V := V m) (hmain := hmain m Variants.none) (hA := A_eq m Inv)
    (hin := fun c => scr_of_any c _ (h0 c)) (hout := fun c => any_of_scr c _) (Q' := _)

/-- The invariant that says nothing, and no claim on the outputs: kept by any body. -/
theorem keeps_any (c : Dev nD) (t : Fin cfg0.N) : Keeps m (fun _ _ _ _ _ _ _ _ _ _ => True) (fun _ _ _ => True) (fun _ _ _ => True) (fun _ _ _ => True) (fun _ _ _ => True) (fun _ _ _ => True) c t where
  caseA _ := by unfold StepA; intros; exact ⟨trivial, trivial, trivial, trivial, trivial, trivial⟩
  caseB _ _ := by unfold StepB; intros; exact ⟨trivial, trivial, trivial, trivial, trivial, trivial⟩
  caseC _ _ := by unfold StepC; intros; exact ⟨trivial, trivial, trivial, trivial, trivial, trivial⟩
  caseD _ := by unfold StepD; intros; exact ⟨trivial, trivial, trivial, trivial, trivial, trivial⟩

/-- THE FRAME: every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 5 rfl).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
    (run_main m ρ _ _ _ _ _ _ (fun _ _ _ _ _ _ _ _ _ => trivial) (keeps_any m))

end Cert.Kernel.Dx

end
-- ==== Proof.KernelIdealCond.lean ====
/-
  The dx call's body, run once in each of the four cases its three `scf.if`s leave on the grid (first point of the grid; first
  column block of a later row block; a middle column block; the last column block): from every operand whole at some contents, the
  body runs to its return, and what each output window and scratch then holds is the run's own find.
-/
module

public import proofs.«01_k».proof.Proof.Gen.KernelIdeal.Frame
public import proofs.«01_k».proof.Proof.Gen.KernelIdeal.Loops

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first `scf.if`: the first point of the grid. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the second `scf.if`: the first column block. -/
abbrev cond2 (i : grid0.Coords) : Prop := (Scalar.cmpi .ne (Scalar.extui (Scalar.cmpi .eq (BitVec.ofNat 32 (i 1).val) 0#32)) 0#32) = 1#1
/-- The condition of the third `scf.if`: the last column block. -/
abbrev cond3 (i : grid0.Coords) : Prop := k0_cond3 i = 1#1

/-- The first guard holds at the first point only. -/
theorem hcond1 (t : Fin cfg0.N) : cond1 (grid0.coords t) ↔ t.val = 0 := by
  have ht : t.val < 96 := Nat.lt_of_lt_of_eq t.isLt N_0
  have e0 : (grid0.coords t 0).val = t.val / 4 % 24 := Pipeline.Grid.coords_val t 0 (by decide) rfl
  have e1 : (grid0.coords t 1).val = t.val / 1 % 4 := Pipeline.Grid.coords_val t 1 (by decide) rfl
  simp only [cond1, e0, e1]
  word_cmp
/-- The second guard holds at a row block's first point. -/
theorem hcond2 (t : Fin cfg0.N) : cond2 (grid0.coords t) ↔ t.val % 4 = 0 := by
  have ht : t.val < 96 := Nat.lt_of_lt_of_eq t.isLt N_0
  have e1 : (grid0.coords t 1).val = t.val / 1 % 4 := Pipeline.Grid.coords_val t 1 (by decide) rfl
  simp only [cond2, e1]
  word_cmp
/-- The third guard holds at a row block's last point. -/
theorem hcond3 (t : Fin cfg0.N) : cond3 (grid0.coords t) ↔ t.val % 4 = 3 := by
  have ht : t.val < 96 := Nat.lt_of_lt_of_eq t.isLt N_0
  have e1 : (grid0.coords t 1).val = t.val / 1 % 4 := Pipeline.Grid.coords_val t 1 (by decide) rfl
  simp only [cond3, k0_cond3, e1]
  word_cmp

end Cert.KernelIdeal.Dx

end
-- ==== Proof.KernelIdealRunA.lean ====
/-
  The dx call's body, run once in each of the four cases its three `scf.if`s leave on the grid (first point of the grid; first
  column block of a later row block; a middle column block; the last column block): from every operand whole at some contents, the
  body runs to its return, and what each output window and scratch then holds is the run's own find.
-/
module

public import proofs.«01_k».proof.Proof.Gen.KernelIdeal.Frame
public import proofs.«01_k».proof.Proof.Gen.KernelIdeal.Loops
public import proofs.«01_k».proof.Proof.KernelIdealCond

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in each output window and scratch at the first point of the grid, WITH the proof that it runs to its return leaving that. -/
def runA (c : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : cond1 i) (hc2 : cond2 i) (hc3 : ¬cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty),
    { g22 : BufTy.Contents (Elt F) arg22.view.ty // ∀ (E : Set ℕ) (K : PUnit → sProp 𝕄),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22)
        ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
    simp only [cc0_dx_eq_skeleton]; unfold cc0_dx_skel
    iintro ⟨H2, H3, H4, H5, H6, H7, H8, H9, H10, H11, H12, H13, H14, H15, H16, H17, H18, H19, H20, H21, H22, Hk⟩
    sl_exec (disch := first | sl_exact hc1 | sl_exact hc2 | sl_exact hc3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.KernelIdeal.Dx

end
-- ==== Proof.KernelIdealRunB.lean ====
/-
  The dx call's body, run once in each of the four cases its three `scf.if`s leave on the grid (first point of the grid; first
  column block of a later row block; a middle column block; the last column block): from every operand whole at some contents, the
  body runs to its return, and what each output window and scratch then holds is the run's own find.
-/
module

public import proofs.«01_k».proof.Proof.Gen.KernelIdeal.Frame
public import proofs.«01_k».proof.Proof.Gen.KernelIdeal.Loops
public import proofs.«01_k».proof.Proof.KernelIdealCond

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in each output window and scratch at the first column block of a later row block, WITH the proof that it runs to its return leaving that. -/
def runB (c : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : ¬cond1 i) (hc2 : cond2 i) (hc3 : ¬cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty),
    { g22 : BufTy.Contents (Elt F) arg22.view.ty // ∀ (E : Set ℕ) (K : PUnit → sProp 𝕄),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22)
        ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
    simp only [cc0_dx_eq_skeleton]; unfold cc0_dx_skel
    iintro ⟨H2, H3, H4, H5, H6, H7, H8, H9, H10, H11, H12, H13, H14, H15, H16, H17, H18, H19, H20, H21, H22, Hk⟩
    sl_exec (disch := first | sl_exact hc1 | sl_exact hc2 | sl_exact hc3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.KernelIdeal.Dx

end
-- ==== Proof.KernelIdealRunC.lean ====
/-
  The dx call's body, run once in each of the four cases its three `scf.if`s leave on the grid (first point of the grid; first
  column block of a later row block; a middle column block; the last column block): from every operand whole at some contents, the
  body runs to its return, and what each output window and scratch then holds is the run's own find.
-/
module

public import proofs.«01_k».proof.Proof.Gen.KernelIdeal.Frame
public import proofs.«01_k».proof.Proof.Gen.KernelIdeal.Loops
public import proofs.«01_k».proof.Proof.KernelIdealCond

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in each output window and scratch at a middle column block, WITH the proof that it runs to its return leaving that. -/
def runC (c : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : ¬cond1 i) (hc2 : ¬cond2 i) (hc3 : ¬cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty),
    { g22 : BufTy.Contents (Elt F) arg22.view.ty // ∀ (E : Set ℕ) (K : PUnit → sProp 𝕄),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22)
        ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
    simp only [cc0_dx_eq_skeleton]; unfold cc0_dx_skel
    iintro ⟨H2, H3, H4, H5, H6, H7, H8, H9, H10, H11, H12, H13, H14, H15, H16, H17, H18, H19, H20, H21, H22, Hk⟩
    sl_exec (disch := first | sl_exact hc1 | sl_exact hc2 | sl_exact hc3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.KernelIdeal.Dx

end
-- ==== Proof.KernelIdealRunD.lean ====
/-
  The dx call's body, run once in each of the four cases its three `scf.if`s leave on the grid (first point of the grid; first
  column block of a later row block; a middle column block; the last column block): from every operand whole at some contents, the
  body runs to its return, and what each output window and scratch then holds is the run's own find.
-/
module

public import proofs.«01_k».proof.Proof.Gen.KernelIdeal.Frame
public import proofs.«01_k».proof.Proof.Gen.KernelIdeal.Loops
public import proofs.«01_k».proof.Proof.KernelIdealCond

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in each output window and scratch at the last column block, WITH the proof that it runs to its return leaving that. -/
def runD (c : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : ¬cond1 i) (hc2 : ¬cond2 i) (hc3 : cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) :
    Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty),
    { g22 : BufTy.Contents (Elt F) arg22.view.ty // ∀ (E : Set ℕ) (K : PUnit → sProp 𝕄),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22)
        ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, ?_, fun E K => ?run⟩
  case run =>
    simp only [cc0_dx_eq_skeleton]; unfold cc0_dx_skel
    iintro ⟨H2, H3, H4, H5, H6, H7, H8, H9, H10, H11, H12, H13, H14, H15, H16, H17, H18, H19, H20, H21, H22, Hk⟩
    sl_exec (disch := first | sl_exact hc1 | sl_exact hc2 | sl_exact hc3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.KernelIdeal.Dx

end
-- ==== Proof.KernelIdealObl.lean ====
/-
  The dx call's run on its whole grid, for any invariant of its scratch buffers and any predicate on what it leaves in its output
  windows that the four cases of the body (`run_A` … `run_D`) are shown to keep: the frame and the value claims are its instances.
-/
module

public import proofs.«01_k».proof.Proof.Gen.KernelIdeal.Frame
public import proofs.«01_k».proof.Proof.KernelIdealRunA
public import proofs.«01_k».proof.Proof.KernelIdealRunB
public import proofs.«01_k».proof.Proof.KernelIdealRunC
public import proofs.«01_k».proof.Proof.KernelIdealRunD
public import Idealize.ShloMosaic.Lib.Pipeline.DatRel
public import Idealize.ShloMosaic.Lib.Pipeline.ArrRel

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch buffers hold, as a predicate. -/
abbrev ScrPred (F : FTy → Type) := Vec F S512x6144 .bf16 → Vec F S512x4096 .f32 → Vec F S512x4096 .fp8e4m3 → Vec F S512x1024 .bf16 → Vec F S512x128 .f32 → Vec F S512x128 .f32 → Vec F S512x128 .f32 → Vec F S8x4096 .f32 → Prop
/-- What the output windows and the scratch buffers hold, as a predicate. -/
abbrev AllPred (F : FTy → Type) := Vec F S512x32 .f32 → Vec F S512x4096 .bf16 → Vec F S512x4096 .fp8e5m2 → Vec F S1x4096 .f32 → Vec F S1024x512 .bf16 → Vec F S512x6144 .bf16 → Vec F S512x4096 .f32 → Vec F S512x4096 .fp8e4m3 → Vec F S512x1024 .bf16 → Vec F S512x128 .f32 → Vec F S512x128 .f32 → Vec F S512x128 .f32 → Vec F S8x4096 .f32 → Prop

/-- The body at the first point of the grid, from input blocks `x·` and scratch contents meeting `pre`, leaves output windows and scratch meeting `post`. -/
def StepA (i : grid0.Coords) (x2 : Vec F S1x4x128 .f32) (x3 : Vec F S1x4x128 .f32) (x4 : Vec F S1x4096 .f32) (x5 : Vec F S1x6144 .bf16) (x6 : Vec F S512x1024 .fp8e4m3) (x7 : Vec F S1024x6144 .fp8e4m3) (x8 : Vec F S512x6144 .bf16) (x9 : Vec F S512x4096 .bf16) (pre : ScrPred F) (post : AllPred F) : Prop :=
  ∀ (c : Dev nD) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : cond1 i) (hc2 : cond2 i) (hc3 : ¬cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty),
    arg2.view.read (Elt F) X2 = x2 → arg3.view.read (Elt F) X3 = x3 → arg4.view.read (Elt F) X4 = x4 → arg5.view.read (Elt F) X5 = x5 → arg6.view.read (Elt F) X6 = x6 → arg7.view.read (Elt F) X7 = x7 → arg8.view.read (Elt F) X8 = x8 → arg9.view.read (Elt F) X9 = x9 →
    pre (arg15.view.read (Elt F) X15) (arg16.view.read (Elt F) X16) (arg17.view.read (Elt F) X17) (arg18.view.read (Elt F) X18) (arg19.view.read (Elt F) X19) (arg20.view.read (Elt F) X20) (arg21.view.read (Elt F) X21) (arg22.view.read (Elt F) X22) →
    post (arg10.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).1) (arg11.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.1) (arg12.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.1) (arg13.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.1) (arg14.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.1) (arg15.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.1) (arg16.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.1) (arg17.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.1) (arg18.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.1) (arg19.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.1) (arg20.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.1) (arg21.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.1) (arg22.view.read (Elt F) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.2.1)

/-- The body at the first column block of a later row block, from input blocks `x·` and scratch contents meeting `pre`, leaves output windows and scratch meeting `post`. -/
def StepB (i : grid0.Coords) (x2 : Vec F S1x4x128 .f32) (x3 : Vec F S1x4x128 .f32) (x4 : Vec F S1x4096 .f32) (x5 : Vec F S1x6144 .bf16) (x6 : Vec F S512x1024 .fp8e4m3) (x7 : Vec F S1024x6144 .fp8e4m3) (x8 : Vec F S512x6144 .bf16) (x9 : Vec F S512x4096 .bf16) (pre : ScrPred F) (post : AllPred F) : Prop :=
  ∀ (c : Dev nD) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : ¬cond1 i) (hc2 : cond2 i) (hc3 : ¬cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty),
    arg2.view.read (Elt F) X2 = x2 → arg3.view.read (Elt F) X3 = x3 → arg4.view.read (Elt F) X4 = x4 → arg5.view.read (Elt F) X5 = x5 → arg6.view.read (Elt F) X6 = x6 → arg7.view.read (Elt F) X7 = x7 → arg8.view.read (Elt F) X8 = x8 → arg9.view.read (Elt F) X9 = x9 →
    pre (arg15.view.read (Elt F) X15) (arg16.view.read (Elt F) X16) (arg17.view.read (Elt F) X17) (arg18.view.read (Elt F) X18) (arg19.view.read (Elt F) X19) (arg20.view.read (Elt F) X20) (arg21.view.read (Elt F) X21) (arg22.view.read (Elt F) X22) →
    post (arg10.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).1) (arg11.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.1) (arg12.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.1) (arg13.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.1) (arg14.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.1) (arg15.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.1) (arg16.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.1) (arg17.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.1) (arg18.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.1) (arg19.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.1) (arg20.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.1) (arg21.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.1) (arg22.view.read (Elt F) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.2.1)

/-- The body at a middle column block, from input blocks `x·` and scratch contents meeting `pre`, leaves output windows and scratch meeting `post`. -/
def StepC (i : grid0.Coords) (x2 : Vec F S1x4x128 .f32) (x3 : Vec F S1x4x128 .f32) (x4 : Vec F S1x4096 .f32) (x5 : Vec F S1x6144 .bf16) (x6 : Vec F S512x1024 .fp8e4m3) (x7 : Vec F S1024x6144 .fp8e4m3) (x8 : Vec F S512x6144 .bf16) (x9 : Vec F S512x4096 .bf16) (pre : ScrPred F) (post : AllPred F) : Prop :=
  ∀ (c : Dev nD) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : ¬cond1 i) (hc2 : ¬cond2 i) (hc3 : ¬cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty),
    arg2.view.read (Elt F) X2 = x2 → arg3.view.read (Elt F) X3 = x3 → arg4.view.read (Elt F) X4 = x4 → arg5.view.read (Elt F) X5 = x5 → arg6.view.read (Elt F) X6 = x6 → arg7.view.read (Elt F) X7 = x7 → arg8.view.read (Elt F) X8 = x8 → arg9.view.read (Elt F) X9 = x9 →
    pre (arg15.view.read (Elt F) X15) (arg16.view.read (Elt F) X16) (arg17.view.read (Elt F) X17) (arg18.view.read (Elt F) X18) (arg19.view.read (Elt F) X19) (arg20.view.read (Elt F) X20) (arg21.view.read (Elt F) X21) (arg22.view.read (Elt F) X22) →
    post (arg10.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).1) (arg11.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.1) (arg12.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.1) (arg13.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.1) (arg14.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.1) (arg15.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.1) (arg16.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.1) (arg17.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.1) (arg18.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.1) (arg19.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.1) (arg20.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.1) (arg21.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.1) (arg22.view.read (Elt F) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.2.1)

/-- The body at the last column block, from input blocks `x·` and scratch contents meeting `pre`, leaves output windows and scratch meeting `post`. -/
def StepD (i : grid0.Coords) (x2 : Vec F S1x4x128 .f32) (x3 : Vec F S1x4x128 .f32) (x4 : Vec F S1x4096 .f32) (x5 : Vec F S1x6144 .bf16) (x6 : Vec F S512x1024 .fp8e4m3) (x7 : Vec F S1024x6144 .fp8e4m3) (x8 : Vec F S512x6144 .bf16) (x9 : Vec F S512x4096 .bf16) (pre : ScrPred F) (post : AllPred F) : Prop :=
  ∀ (c : Dev nD) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole)
    (hc1 : ¬cond1 i) (hc2 : ¬cond2 i) (hc3 : cond3 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty),
    arg2.view.read (Elt F) X2 = x2 → arg3.view.read (Elt F) X3 = x3 → arg4.view.read (Elt F) X4 = x4 → arg5.view.read (Elt F) X5 = x5 → arg6.view.read (Elt F) X6 = x6 → arg7.view.read (Elt F) X7 = x7 → arg8.view.read (Elt F) X8 = x8 → arg9.view.read (Elt F) X9 = x9 →
    pre (arg15.view.read (Elt F) X15) (arg16.view.read (Elt F) X16) (arg17.view.read (Elt F) X17) (arg18.view.read (Elt F) X18) (arg19.view.read (Elt F) X19) (arg20.view.read (Elt F) X20) (arg21.view.read (Elt F) X21) (arg22.view.read (Elt F) X22) →
    post (arg10.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).1) (arg11.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.1) (arg12.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.1) (arg13.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.1) (arg14.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.1) (arg15.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.1) (arg16.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.1) (arg17.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.1) (arg18.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.1) (arg19.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.1) (arg20.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.1) (arg21.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.1) (arg22.view.read (Elt F) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22).2.2.2.2.2.2.2.2.2.2.2.2.1)

/-- The output windows, held to a predicate each. -/
def fgt0 : Fin 13 → Bool := fun w => decide (8 ≤ w.val)

/-- The predicate of each output window at each point. -/
def Rl (R10 : Fin cfg0.N → Vec F S512x32 .f32 → Prop) (R11 : Fin cfg0.N → Vec F S512x4096 .bf16 → Prop) (R12 : Fin cfg0.N → Vec F S512x4096 .fp8e5m2 → Prop) (R13 : Fin cfg0.N → Vec F S1x4096 .f32 → Prop) (R14 : Fin cfg0.N → Vec F S1024x512 .bf16 → Prop) : (w : Fin cfg0.W) → Fin cfg0.N → ((cfg0.win w).block.Idx → Elt F (cfg0.win w).elt) → Prop := fun w t => match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => R10 t
  | ⟨9, _⟩ => R11 t
  | ⟨10, _⟩ => R12 t
  | ⟨11, _⟩ => R13 t
  | ⟨12, _⟩ => R14 t

/-- The scratch buffers at contents meeting `P`, and the generator register at some state. -/
def Scr (c : Dev nD) (P : ScrPred F) : sProp 𝕄 :=
  iprop(∃ (d15 : Vec F S512x6144 .bf16) (d16 : Vec F S512x4096 .f32) (d17 : Vec F S512x4096 .fp8e4m3) (d18 : Vec F S512x1024 .bf16) (d19 : Vec F S512x128 .f32) (d20 : Vec F S512x128 .f32) (d21 : Vec F S512x128 .f32) (d22 : Vec F S8x4096 .f32), ⌜P d15 d16 d17 d18 d19 d20 d21 d22⌝ ∗ owns (c : Thread nD τ) (Memref.whole cc0_scratch0) fullShare d15 ∗ owns (c : Thread nD τ) (Memref.whole cc0_scratch1) fullShare d16 ∗ owns (c : Thread nD τ) (Memref.whole cc0_scratch2) fullShare d17 ∗ owns (c : Thread nD τ) (Memref.whole cc0_scratch3) fullShare d18 ∗ owns (c : Thread nD τ) (Memref.whole cc0_scratch4) fullShare d19 ∗ owns (c : Thread nD τ) (Memref.whole cc0_scratch5) fullShare d20 ∗ owns (c : Thread nD τ) (Memref.whole cc0_scratch6) fullShare d21 ∗ owns (c : Thread nD τ) (Memref.whole cc0_scratch7) fullShare d22 ∗ (∃ r, prngReg c r))

variable (Inv : Dev nD → Fin (cfg0.N + 1) → ScrPred F) (R10 : Dev nD → Fin cfg0.N → Vec F S512x32 .f32 → Prop) (R11 : Dev nD → Fin cfg0.N → Vec F S512x4096 .bf16 → Prop) (R12 : Dev nD → Fin cfg0.N → Vec F S512x4096 .fp8e5m2 → Prop) (R13 : Dev nD → Fin cfg0.N → Vec F S1x4096 .f32 → Prop) (R14 : Dev nD → Fin cfg0.N → Vec F S1024x512 .bf16 → Prop)

/-- The proof data: each input's buffer at its block, the outputs unnamed, the scratch meeting the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ t := Scr c (Inv c t)
  q _ := fullShare
  owed _ := 0

theorem A_eq (c : Dev nD) (w : Fin cfg0.W) : (dats m Inv 0 c).A w = V m c (Pipeline.arrRef spec0 w) := by
  dsimp only [dats]

theorem after0_0 (c : Dev nD) (t : Fin cfg0.N) : (dats m Inv 0 c).after 0 t = iblk m c 0 t := by dsimp only [dats]
theorem before0_0 (c : Dev nD) (t : Fin cfg0.N) (d) : (dats m Inv 0 c).before 0 t d = iblk m c 0 t :=
  before0_0_of m (dats m Inv 0 c) (A_eq m Inv c 0) (after0_0 m Inv c) t d
theorem after0_1 (c : Dev nD) (t : Fin cfg0.N) : (dats m Inv 0 c).after 1 t = iblk m c 1 t := by dsimp only [dats]
theorem before0_1 (c : Dev nD) (t : Fin cfg0.N) (d) : (dats m Inv 0 c).before 1 t d = iblk m c 1 t :=
  before0_1_of m (dats m Inv 0 c) (A_eq m Inv c 1) (after0_1 m Inv c) t d
theorem after0_2 (c : Dev nD) (t : Fin cfg0.N) : (dats m Inv 0 c).after 2 t = iblk m c 2 t := by dsimp only [dats]
theorem before0_2 (c : Dev nD) (t : Fin cfg0.N) (d) : (dats m Inv 0 c).before 2 t d = iblk m c 2 t :=
  before0_2_of m (dats m Inv 0 c) (A_eq m Inv c 2) (after0_2 m Inv c) t d
theorem after0_3 (c : Dev nD) (t : Fin cfg0.N) : (dats m Inv 0 c).after 3 t = iblk m c 3 t := by dsimp only [dats]
theorem before0_3 (c : Dev nD) (t : Fin cfg0.N) (d) : (dats m Inv 0 c).before 3 t d = iblk m c 3 t :=
  before0_3_of m (dats m Inv 0 c) (A_eq m Inv c 3) (after0_3 m Inv c) t d
theorem after0_4 (c : Dev nD) (t : Fin cfg0.N) : (dats m Inv 0 c).after 4 t = iblk m c 4 t := by dsimp only [dats]
theorem before0_4 (c : Dev nD) (t : Fin cfg0.N) (d) : (dats m Inv 0 c).before 4 t d = iblk m c 4 t :=
  before0_4_of m (dats m Inv 0 c) (A_eq m Inv c 4) (after0_4 m Inv c) t d
theorem after0_5 (c : Dev nD) (t : Fin cfg0.N) : (dats m Inv 0 c).after 5 t = iblk m c 5 t := by dsimp only [dats]
theorem before0_5 (c : Dev nD) (t : Fin cfg0.N) (d) : (dats m Inv 0 c).before 5 t d = iblk m c 5 t :=
  before0_5_of m (dats m Inv 0 c) (A_eq m Inv c 5) (after0_5 m Inv c) t d
theorem after0_6 (c : Dev nD) (t : Fin cfg0.N) : (dats m Inv 0 c).after 6 t = iblk m c 6 t := by dsimp only [dats]
theorem before0_6 (c : Dev nD) (t : Fin cfg0.N) (d) : (dats m Inv 0 c).before 6 t d = iblk m c 6 t :=
  before0_6_of m (dats m Inv 0 c) (A_eq m Inv c 6) (after0_6 m Inv c) t d
theorem after0_7 (c : Dev nD) (t : Fin cfg0.N) : (dats m Inv 0 c).after 7 t = iblk m c 7 t := by dsimp only [dats]
theorem before0_7 (c : Dev nD) (t : Fin cfg0.N) (d) : (dats m Inv 0 c).before 7 t d = iblk m c 7 t :=
  before0_7_of m (dats m Inv 0 c) (A_eq m Inv c 7) (after0_7 m Inv c) t d
/-- Window 0's current staging memref at point `t`, as the pipeline passes it. -/
abbrev ms0 (t : Fin cfg0.N) : Memref sig .tc .vmem S1x4x128 .f32 := win0_0.stage (cfg0.slots t 0)
theorem hs0 (t : Fin cfg0.N) : (ms0 t).IsWhole := hstage0_0 ((cfg0.slots t 0).cast nbuf0_0)
/-- Window 1's current staging memref at point `t`, as the pipeline passes it. -/
abbrev ms1 (t : Fin cfg0.N) : Memref sig .tc .vmem S1x4x128 .f32 := win0_1.stage (cfg0.slots t 1)
theorem hs1 (t : Fin cfg0.N) : (ms1 t).IsWhole := hstage0_1 ((cfg0.slots t 1).cast nbuf0_1)
/-- Window 2's current staging memref at point `t`, as the pipeline passes it. -/
abbrev ms2 (t : Fin cfg0.N) : Memref sig .tc .vmem S1x4096 .f32 := win0_2.stage (cfg0.slots t 2)
theorem hs2 (t : Fin cfg0.N) : (ms2 t).IsWhole := hstage0_2 ((cfg0.slots t 2).cast nbuf0_2)
/-- Window 3's current staging memref at point `t`, as the pipeline passes it. -/
abbrev ms3 (t : Fin cfg0.N) : Memref sig .tc .vmem S1x6144 .bf16 := win0_3.stage (cfg0.slots t 3)
theorem hs3 (t : Fin cfg0.N) : (ms3 t).IsWhole := hstage0_3 ((cfg0.slots t 3).cast nbuf0_3)
/-- Window 4's current staging memref at point `t`, as the pipeline passes it. -/
abbrev ms4 (t : Fin cfg0.N) : Memref sig .tc .vmem S512x1024 .fp8e4m3 := win0_4.stage (cfg0.slots t 4)
theorem hs4 (t : Fin cfg0.N) : (ms4 t).IsWhole := hstage0_4 ((cfg0.slots t 4).cast nbuf0_4)
/-- Window 5's current staging memref at point `t`, as the pipeline passes it. -/
abbrev ms5 (t : Fin cfg0.N) : Memref sig .tc .vmem S1024x6144 .fp8e4m3 := win0_5.stage (cfg0.slots t 5)
theorem hs5 (t : Fin cfg0.N) : (ms5 t).IsWhole := hstage0_5 ((cfg0.slots t 5).cast nbuf0_5)
/-- Window 6's current staging memref at point `t`, as the pipeline passes it. -/
abbrev ms6 (t : Fin cfg0.N) : Memref sig .tc .vmem S512x6144 .bf16 := win0_6.stage (cfg0.slots t 6)
theorem hs6 (t : Fin cfg0.N) : (ms6 t).IsWhole := hstage0_6 ((cfg0.slots t 6).cast nbuf0_6)
/-- Window 7's current staging memref at point `t`, as the pipeline passes it. -/
abbrev ms7 (t : Fin cfg0.N) : Memref sig .tc .vmem S512x4096 .bf16 := win0_7.stage (cfg0.slots t 7)
theorem hs7 (t : Fin cfg0.N) : (ms7 t).IsWhole := hstage0_7 ((cfg0.slots t 7).cast nbuf0_7)
/-- Window 8's current staging memref at point `t`, as the pipeline passes it. -/
abbrev ms8 (t : Fin cfg0.N) : Memref sig .tc .vmem S512x32 .f32 := win0_8.stage (cfg0.slots t 8)
theorem hs8 (t : Fin cfg0.N) : (ms8 t).IsWhole := hstage0_8 ((cfg0.slots t 8).cast nbuf0_8)
/-- Window 9's current staging memref at point `t`, as the pipeline passes it. -/
abbrev ms9 (t : Fin cfg0.N) : Memref sig .tc .vmem S512x4096 .bf16 := win0_9.stage (cfg0.slots t 9)
theorem hs9 (t : Fin cfg0.N) : (ms9 t).IsWhole := hstage0_9 ((cfg0.slots t 9).cast nbuf0_9)
/-- Window 10's current staging memref at point `t`, as the pipeline passes it. -/
abbrev ms10 (t : Fin cfg0.N) : Memref sig .tc .vmem S512x4096 .fp8e5m2 := win0_10.stage (cfg0.slots t 10)
theorem hs10 (t : Fin cfg0.N) : (ms10 t).IsWhole := hstage0_10 ((cfg0.slots t 10).cast nbuf0_10)
/-- Window 11's current staging memref at point `t`, as the pipeline passes it. -/
abbrev ms11 (t : Fin cfg0.N) : Memref sig .tc .vmem S1x4096 .f32 := win0_11.stage (cfg0.slots t 11)
theorem hs11 (t : Fin cfg0.N) : (ms11 t).IsWhole := hstage0_11 ((cfg0.slots t 11).cast nbuf0_11)
/-- Window 12's current staging memref at point `t`, as the pipeline passes it. -/
abbrev ms12 (t : Fin cfg0.N) : Memref sig .tc .vmem S1024x512 .bf16 := win0_12.stage (cfg0.slots t 12)
theorem hs12 (t : Fin cfg0.N) : (ms12 t).IsWhole := hstage0_12 ((cfg0.slots t 12).cast nbuf0_12)

/-- What the body is called with at point `t`, -/
def bodyPre (c : Dev nD) (t : Fin cfg0.N) : sProp 𝕄 :=
  iprop((dats m Inv 0 c).Φ t.castSucc ∗ (dats m Inv 0 c).owesAt () t.castSucc
    ∗ (∃ d, owns (c : Thread nD τ) (ms0 t) fullShare ((dats m Inv 0 c).before 0 t d))
    ∗ (∃ d, owns (c : Thread nD τ) (ms1 t) fullShare ((dats m Inv 0 c).before 1 t d))
    ∗ (∃ d, owns (c : Thread nD τ) (ms2 t) fullShare ((dats m Inv 0 c).before 2 t d))
    ∗ (∃ d, owns (c : Thread nD τ) (ms3 t) fullShare ((dats m Inv 0 c).before 3 t d))
    ∗ (∃ d, owns (c : Thread nD τ) (ms4 t) fullShare ((dats m Inv 0 c).before 4 t d))
    ∗ (∃ d, owns (c : Thread nD τ) (ms5 t) fullShare ((dats m Inv 0 c).before 5 t d))
    ∗ (∃ d, owns (c : Thread nD τ) (ms6 t) fullShare ((dats m Inv 0 c).before 6 t d))
    ∗ (∃ d, owns (c : Thread nD τ) (ms7 t) fullShare ((dats m Inv 0 c).before 7 t d))
    ∗ (∃ d, owns (c : Thread nD τ) (ms8 t) fullShare d)
    ∗ (∃ d, owns (c : Thread nD τ) (ms9 t) fullShare d)
    ∗ (∃ d, owns (c : Thread nD τ) (ms10 t) fullShare d)
    ∗ (∃ d, owns (c : Thread nD τ) (ms11 t) fullShare d)
    ∗ (∃ d, owns (c : Thread nD τ) (ms12 t) fullShare d))

/-- and what it returns. -/
def bodyPost (c : Dev nD) (t : Fin cfg0.N) : sProp 𝕄 :=
  iprop((dats m Inv 0 c).Φ t.succ ∗ (dats m Inv 0 c).owesAt () t.succ
    ∗ owns (c : Thread nD τ) (ms0 t) fullShare ((dats m Inv 0 c).after 0 t)
    ∗ owns (c : Thread nD τ) (ms1 t) fullShare ((dats m Inv 0 c).after 1 t)
    ∗ owns (c : Thread nD τ) (ms2 t) fullShare ((dats m Inv 0 c).after 2 t)
    ∗ owns (c : Thread nD τ) (ms3 t) fullShare ((dats m Inv 0 c).after 3 t)
    ∗ owns (c : Thread nD τ) (ms4 t) fullShare ((dats m Inv 0 c).after 4 t)
    ∗ owns (c : Thread nD τ) (ms5 t) fullShare ((dats m Inv 0 c).after 5 t)
    ∗ owns (c : Thread nD τ) (ms6 t) fullShare ((dats m Inv 0 c).after 6 t)
    ∗ owns (c : Thread nD τ) (ms7 t) fullShare ((dats m Inv 0 c).after 7 t)
    ∗ (∃ d, ⌜R10 c t d⌝ ∗ owns (c : Thread nD τ) (ms8 t) fullShare d)
    ∗ (∃ d, ⌜R11 c t d⌝ ∗ owns (c : Thread nD τ) (ms9 t) fullShare d)
    ∗ (∃ d, ⌜R12 c t d⌝ ∗ owns (c : Thread nD τ) (ms10 t) fullShare d)
    ∗ (∃ d, ⌜R13 c t d⌝ ∗ owns (c : Thread nD τ) (ms11 t) fullShare d)
    ∗ (∃ d, ⌜R14 c t d⌝ ∗ owns (c : Thread nD τ) (ms12 t) fullShare d))

/-- The invariant after the point together with the outputs' predicates there, as one predicate. -/
abbrev PostAt (c : Dev nD) (t : Fin cfg0.N) : AllPred F := fun y10 y11 y12 y13 y14 y15 y16 y17 y18 y19 y20 y21 y22 =>
  Inv c t.succ y15 y16 y17 y18 y19 y20 y21 y22 ∧ R10 c t y10 ∧ R11 c t y11 ∧ R12 c t y12 ∧ R13 c t y13 ∧ R14 c t y14

/-- The body keeps the invariant at every point: one clause for each case. -/
structure Keeps (c : Dev nD) (t : Fin cfg0.N) : Prop where
  caseA : t.val = 0 → StepA (grid0.coords t) (iblk m c 0 t) (iblk m c 1 t) (iblk m c 2 t) (iblk m c 3 t) (iblk m c 4 t) (iblk m c 5 t) (iblk m c 6 t) (iblk m c 7 t) (Inv c t.castSucc) (PostAt Inv R10 R11 R12 R13 R14 c t)
  caseB : t.val ≠ 0 → t.val % 4 = 0 → StepB (grid0.coords t) (iblk m c 0 t) (iblk m c 1 t) (iblk m c 2 t) (iblk m c 3 t) (iblk m c 4 t) (iblk m c 5 t) (iblk m c 6 t) (iblk m c 7 t) (Inv c t.castSucc) (PostAt Inv R10 R11 R12 R13 R14 c t)
  caseC : t.val % 4 ≠ 0 → t.val % 4 ≠ 3 → StepC (grid0.coords t) (iblk m c 0 t) (iblk m c 1 t) (iblk m c 2 t) (iblk m c 3 t) (iblk m c 4 t) (iblk m c 5 t) (iblk m c 6 t) (iblk m c 7 t) (Inv c t.castSucc) (PostAt Inv R10 R11 R12 R13 R14 c t)
  caseD : t.val % 4 = 3 → StepD (grid0.coords t) (iblk m c 0 t) (iblk m c 1 t) (iblk m c 2 t) (iblk m c 3 t) (iblk m c 4 t) (iblk m c 5 t) (iblk m c 6 t) (iblk m c 7 t) (Inv c t.castSucc) (PostAt Inv R10 R11 R12 R13 R14 c t)

set_option maxHeartbeats 4000000 in
/-- The body at any point: the case's run, the invariant and the outputs' predicates kept by `Keeps`. -/
theorem sound_body (c : Dev nD) (t : Fin cfg0.N) (hk : Keeps m Inv R10 R11 R12 R13 R14 c t) :
    bodyPre m Inv c t ⊢ wp frame (wpE (defs₀ (F := F)) Variants.none c none) Set.univ (bodyAt0 t) (fun _ => bodyPost m Inv R10 R11 R12 R13 R14 c t) := by
  unfold bodyPre bodyPost bodyAt0
  simp only [before0_0, before0_1, before0_2, before0_3, before0_4, before0_5, before0_6, before0_7]
  rw [show (dats m Inv 0 c).Φ t.succ = Scr c (Inv c t.succ) from rfl, show (dats m Inv 0 c).Φ t.castSucc = Scr c (Inv c t.castSucc) from rfl,
    show (dats m Inv 0 c).owesAt () t.succ = (dats m Inv 0 c).owesAt () t.castSucc from rfl,
    after0_0, after0_1, after0_2, after0_3, after0_4, after0_5, after0_6, after0_7]
  unfold Scr
  unfold owns
  iintro ⟨⟨%d15, %d16, %d17, %d18, %d19, %d20, %d21, %d22, %hI, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hp⟩, Ho, ⟨%d2, ⟨%f2, %hf2, H2⟩⟩, ⟨%d3, ⟨%f3, %hf3, H3⟩⟩, ⟨%d4, ⟨%f4, %hf4, H4⟩⟩, ⟨%d5, ⟨%f5, %hf5, H5⟩⟩, ⟨%d6, ⟨%f6, %hf6, H6⟩⟩, ⟨%d7, ⟨%f7, %hf7, H7⟩⟩, ⟨%d8, ⟨%f8, %hf8, H8⟩⟩, ⟨%d9, ⟨%f9, %hf9, H9⟩⟩, ⟨%d10, ⟨%f10, %hf10, H10⟩⟩, ⟨%d11, ⟨%f11, %hf11, H11⟩⟩, ⟨%d12, ⟨%f12, %hf12, H12⟩⟩, ⟨%d13, ⟨%f13, %hf13, H13⟩⟩, ⟨%d14, ⟨%f14, %hf14, H14⟩⟩⟩
  by_cases h0 : t.val = 0
  · have hc1 := (hcond1 t).mpr h0
    have hc2 := (hcond2 t).mpr (by omega)
    have hc3 : ¬ cond3 (grid0.coords t) := fun h => by have := (hcond3 t).mp h; omega
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22).2.2.2.2.2.2.2.2.2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iintro ⟨H2, H3, H4, H5, H6, H7, H8, H9, H10, H11, H12, H13, H14, H15, H16, H17, H18, H19, H20, H21, H22⟩
    have hk := hk.caseA h0 c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22 hf2 hf3 hf4 hf5 hf6 hf7 hf8 hf9
      (by rw [hf15, hf16, hf17, hf18, hf19, hf20, hf21, hf22]; exact hI)
    obtain ⟨hI', hk10, hk11, hk12, hk13, hk14⟩ := hk
    isplitl [H15 H16 H17 H18 H19 H20 H21 H22 Hp]
    · iexists _, _, _, _, _, _, _, _
      isplitr; · ipureintro; exact hI'
      isplitl [H15]
      · iexists _; isplitr; · ipureintro; rfl
        iexact H15
      isplitl [H16]
      · iexists _; isplitr; · ipureintro; rfl
        iexact H16
      isplitl [H17]
      · iexists _; isplitr; · ipureintro; rfl
        iexact H17
      isplitl [H18]
      · iexists _; isplitr; · ipureintro; rfl
        iexact H18
      isplitl [H19]
      · iexists _; isplitr; · ipureintro; rfl
        iexact H19
      isplitl [H20]
      · iexists _; isplitr; · ipureintro; rfl
        iexact H20
      isplitl [H21]
      · iexists _; isplitr; · ipureintro; rfl
        iexact H21
      isplitl [H22]
      · iexists _; isplitr; · ipureintro; rfl
        iexact H22
      iexact Hp
    isplitl [Ho]; · iexact Ho
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hk10
      iexists _; isplitr; · ipureintro; rfl
      iexact H10
    isplitl [H11]
    · iexists _; isplitr; · ipureintro; exact hk11
      iexists _; isplitr; · ipureintro; rfl
      iexact H11
    isplitl [H12]
    · iexists _; isplitr; · ipureintro; exact hk12
      iexists _; isplitr; · ipureintro; rfl
      iexact H12
    isplitl [H13]
    · iexists _; isplitr; · ipureintro; exact hk13
      iexists _; isplitr; · ipureintro; rfl
      iexact H13
    iexists _; isplitr; · ipureintro; exact hk14
    iexists _; isplitr; · ipureintro; rfl
    iexact H14
  by_cases h1 : t.val % 4 = 0
  · have hc1 : ¬ cond1 (grid0.coords t) := fun h => h0 ((hcond1 t).mp h)
    have hc2 := (hcond2 t).mpr h1
    have hc3 : ¬ cond3 (grid0.coords t) := fun h => by have := (hcond3 t).mp h; omega
    iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22).2.2.2.2.2.2.2.2.2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iintro ⟨H2, H3, H4, H5, H6, H7, H8, H9, H10, H11, H12, H13, H14, H15, H16, H17, H18, H19, H20, H21, H22⟩
    have hk := hk.caseB h0 h1 c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22 hf2 hf3 hf4 hf5 hf6 hf7 hf8 hf9
      (by rw [hf15, hf16, hf17, hf18, hf19, hf20, hf21, hf22]; exact hI)
    obtain ⟨hI', hk10, hk11, hk12, hk13, hk14⟩ := hk
    isplitl [H15 H16 H17 H18 H19 H20 H21 H22 Hp]
    · iexists _, _, _, _, _, _, _, _
      isplitr; · ipureintro; exact hI'
      isplitl [H15]
      · iexists _; isplitr; · ipureintro; rfl
        iexact H15
      isplitl [H16]
      · iexists _; isplitr; · ipureintro; rfl
        iexact H16
      isplitl [H17]
      · iexists _; isplitr; · ipureintro; rfl
        iexact H17
      isplitl [H18]
      · iexists _; isplitr; · ipureintro; rfl
        iexact H18
      isplitl [H19]
      · iexists _; isplitr; · ipureintro; rfl
        iexact H19
      isplitl [H20]
      · iexists _; isplitr; · ipureintro; rfl
        iexact H20
      isplitl [H21]
      · iexists _; isplitr; · ipureintro; rfl
        iexact H21
      isplitl [H22]
      · iexists _; isplitr; · ipureintro; rfl
        iexact H22
      iexact Hp
    isplitl [Ho]; · iexact Ho
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hk10
      iexists _; isplitr; · ipureintro; rfl
      iexact H10
    isplitl [H11]
    · iexists _; isplitr; · ipureintro; exact hk11
      iexists _; isplitr; · ipureintro; rfl
      iexact H11
    isplitl [H12]
    · iexists _; isplitr; · ipureintro; exact hk12
      iexists _; isplitr; · ipureintro; rfl
      iexact H12
    isplitl [H13]
    · iexists _; isplitr; · ipureintro; exact hk13
      iexists _; isplitr; · ipureintro; rfl
      iexact H13
    iexists _; isplitr; · ipureintro; exact hk14
    iexists _; isplitr; · ipureintro; rfl
    iexact H14
  have hc1 : ¬ cond1 (grid0.coords t) := fun h => h0 ((hcond1 t).mp h)
  have hc2 : ¬ cond2 (grid0.coords t) := fun h => h1 ((hcond2 t).mp h)
  by_cases h3 : t.val % 4 = 3
  · have hc3 := (hcond3 t).mpr h3
    iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22).2.2.2.2.2.2.2.2.2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iintro ⟨H2, H3, H4, H5, H6, H7, H8, H9, H10, H11, H12, H13, H14, H15, H16, H17, H18, H19, H20, H21, H22⟩
    have hk := hk.caseD h3 c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22 hf2 hf3 hf4 hf5 hf6 hf7 hf8 hf9
      (by rw [hf15, hf16, hf17, hf18, hf19, hf20, hf21, hf22]; exact hI)
    obtain ⟨hI', hk10, hk11, hk12, hk13, hk14⟩ := hk
    isplitl [H15 H16 H17 H18 H19 H20 H21 H22 Hp]
    · iexists _, _, _, _, _, _, _, _
      isplitr; · ipureintro; exact hI'
      isplitl [H15]
      · iexists _; isplitr; · ipureintro; rfl
        iexact H15
      isplitl [H16]
      · iexists _; isplitr; · ipureintro; rfl
        iexact H16
      isplitl [H17]
      · iexists _; isplitr; · ipureintro; rfl
        iexact H17
      isplitl [H18]
      · iexists _; isplitr; · ipureintro; rfl
        iexact H18
      isplitl [H19]
      · iexists _; isplitr; · ipureintro; rfl
        iexact H19
      isplitl [H20]
      · iexists _; isplitr; · ipureintro; rfl
        iexact H20
      isplitl [H21]
      · iexists _; isplitr; · ipureintro; rfl
        iexact H21
      isplitl [H22]
      · iexists _; isplitr; · ipureintro; rfl
        iexact H22
      iexact Hp
    isplitl [Ho]; · iexact Ho
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hk10
      iexists _; isplitr; · ipureintro; rfl
      iexact H10
    isplitl [H11]
    · iexists _; isplitr; · ipureintro; exact hk11
      iexists _; isplitr; · ipureintro; rfl
      iexact H11
    isplitl [H12]
    · iexists _; isplitr; · ipureintro; exact hk12
      iexists _; isplitr; · ipureintro; rfl
      iexact H12
    isplitl [H13]
    · iexists _; isplitr; · ipureintro; exact hk13
      iexists _; isplitr; · ipureintro; rfl
      iexact H13
    iexists _; isplitr; · ipureintro; exact hk14
    iexists _; isplitr; · ipureintro; rfl
    iexact H14
  · have hc3 : ¬ cond3 (grid0.coords t) := fun h => h3 ((hcond3 t).mp h)
    iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22).2.2.2.2.2.2.2.2.2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iintro ⟨H2, H3, H4, H5, H6, H7, H8, H9, H10, H11, H12, H13, H14, H15, H16, H17, H18, H19, H20, H21, H22⟩
    have hk := hk.caseC h1 h3 c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc1 hc2 hc3 f2 f3 f4 f5 f6 f7 f8 f9 f10 f11 f12 f13 f14 f15 f16 f17 f18 f19 f20 f21 f22 hf2 hf3 hf4 hf5 hf6 hf7 hf8 hf9
      (by rw [hf15, hf16, hf17, hf18, hf19, hf20, hf21, hf22]; exact hI)
    obtain ⟨hI', hk10, hk11, hk12, hk13, hk14⟩ := hk
    isplitl [H15 H16 H17 H18 H19 H20 H21 H22 Hp]
    · iexists _, _, _, _, _, _, _, _
      isplitr; · ipureintro; exact hI'
      isplitl [H15]
      · iexists _; isplitr; · ipureintro; rfl
        iexact H15
      isplitl [H16]
      · iexists _; isplitr; · ipureintro; rfl
        iexact H16
      isplitl [H17]
      · iexists _; isplitr; · ipureintro; rfl
        iexact H17
      isplitl [H18]
      · iexists _; isplitr; · ipureintro; rfl
        iexact H18
      isplitl [H19]
      · iexists _; isplitr; · ipureintro; rfl
        iexact H19
      isplitl [H20]
      · iexists _; isplitr; · ipureintro; rfl
        iexact H20
      isplitl [H21]
      · iexists _; isplitr; · ipureintro; rfl
        iexact H21
      isplitl [H22]
      · iexists _; isplitr; · ipureintro; rfl
        iexact H22
      iexact Hp
    isplitl [Ho]; · iexact Ho
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hk10
      iexists _; isplitr; · ipureintro; rfl
      iexact H10
    isplitl [H11]
    · iexists _; isplitr; · ipureintro; exact hk11
      iexists _; isplitr; · ipureintro; rfl
      iexact H11
    isplitl [H12]
    · iexists _; isplitr; · ipureintro; exact hk12
      iexists _; isplitr; · ipureintro; rfl
      iexact H12
    isplitl [H13]
    · iexists _; isplitr; · ipureintro; exact hk13
      iexists _; isplitr; · ipureintro; rfl
      iexact H13
    iexists _; isplitr; · ipureintro; exact hk14
    iexists _; isplitr; · ipureintro; rfl
    iexact H14

end Cert.KernelIdeal.Dx

end
-- ==== Proof.KernelIdealFrame.lean ====
/-
  The dx call's run on its whole grid, for any invariant of its scratch buffers and any predicate on what it leaves in its output
  windows that the four cases of the body (`run_A` … `run_D`) are shown to keep: the frame and the value claims are its instances.
-/
module

public import proofs.«01_k».proof.Proof.Gen.KernelIdeal.Frame
public import proofs.«01_k».proof.Proof.KernelIdealRunA
public import proofs.«01_k».proof.Proof.KernelIdealRunB
public import proofs.«01_k».proof.Proof.KernelIdealRunC
public import proofs.«01_k».proof.Proof.KernelIdealRunD
public import proofs.«01_k».proof.Proof.KernelIdealObl
public import Idealize.ShloMosaic.Lib.Pipeline.DatRel
public import Idealize.ShloMosaic.Lib.Pipeline.ArrRel

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (Inv : Dev nD → Fin (cfg0.N + 1) → ScrPred F) (R10 : Dev nD → Fin cfg0.N → Vec F S512x32 .f32 → Prop) (R11 : Dev nD → Fin cfg0.N → Vec F S512x4096 .bf16 → Prop) (R12 : Dev nD → Fin cfg0.N → Vec F S512x4096 .fp8e5m2 → Prop) (R13 : Dev nD → Fin cfg0.N → Vec F S1x4096 .f32 → Prop) (R14 : Dev nD → Fin cfg0.N → Vec F S1024x512 .bf16 → Prop)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the outputs held to their predicates. -/
theorem body_obligation (hk : ∀ c t, Keeps m Inv R10 R11 R12 R13 R14 c t) (c : Dev nD) :
    Pipeline.BodyObligationRel (dats m Inv 0 c) (defs₀ (F := F)) Variants.none () Set.univ fgt0 (Rl (R10 c) (R11 c) (R12 c) (R13 c) (R14 c)) := fun t => by
  rw [bigSep_W0, bigSep_W0, defs₀_row]
  refine triple_restated (sound_body m Inv R10 R11 R12 R13 R14 c t (hk c t)) rfl ?_ fun _ => .rfl
  unfold bodyPre
  simp only [show fgt0 0 = false from rfl, show fgt0 1 = false from rfl, show fgt0 2 = false from rfl, show fgt0 3 = false from rfl, show fgt0 4 = false from rfl, show fgt0 5 = false from rfl, show fgt0 6 = false from rfl, show fgt0 7 = false from rfl, show fgt0 8 = true from rfl, show fgt0 9 = true from rfl, show fgt0 10 = true from rfl, show fgt0 11 = true from rfl, show fgt0 12 = true from rfl]
  iintro ⟨HΦ, Ho, H2, H3, H4, H5, H6, H7, H8, H9, ⟨%Y10, %hY10, H10⟩, ⟨%Y11, %hY11, H11⟩, ⟨%Y12, %hY12, H12⟩, ⟨%Y13, %hY13, H13⟩, ⟨%Y14, %hY14, H14⟩⟩
  isplitl [HΦ]; · iexact HΦ
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iexists _; iexact H14

/-- The class invariant is the scratch at any contents. -/
theorem scr_of_any (c : Dev nD) (P : ScrPred F) (hP : ∀ d15 d16 d17 d18 d19 d20 d21 d22, P d15 d16 d17 d18 d19 d20 d21 d22) :
    (Pipeline.ΦA spec0 c : sProp 𝕄) ⊢ Scr c P := by
  unfold Pipeline.ΦA Scr
  rw [scopedRest0_eq]
  simp only [owns_whole]
  iintro ⟨⟨⟨%d15, H15⟩, ⟨%d16, H16⟩, ⟨%d17, H17⟩, ⟨%d18, H18⟩, ⟨%d19, H19⟩, ⟨%d20, H20⟩, ⟨%d21, H21⟩, ⟨%d22, H22⟩⟩, Hp⟩
  iexists d15, d16, d17, d18, d19, d20, d21, d22
  isplitr; · ipureintro; exact hP _ _ _ _ _ _ _ _
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact Hp

/-- Scratch of which something is known is scratch. -/
theorem any_of_scr (c : Dev nD) (P : ScrPred F) : Scr c P ⊢ (Pipeline.ΦA spec0 c : sProp 𝕄) := by
  unfold Pipeline.ΦA Scr
  rw [scopedRest0_eq]
  simp only [owns_whole]
  iintro ⟨%d15, %d16, %d17, %d18, %d19, %d20, %d21, %d22, -, H15, H16, H17, H18, H19, H20, H21, H22, Hp⟩
  isplitl [H15 H16 H17 H18 H19 H20 H21 H22]
  ·
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22
  iexact Hp

set_option backward.isDefEq.respectTransparency.types false in
/-- THE RUN: every execution ends, the input arrays and the buffers off the call as at entry, the output arrays written block by
    block by contents meeting the outputs' predicates, every counter at zero. -/
theorem run_main (h0 : ∀ c d15 d16 d17 d18 d19 d20 d21 d22, Inv c 0 d15 d16 d17 d18 d19 d20 d21 d22) (hk : ∀ c t, Keeps m Inv R10 R11 R12 R13 R14 c t) :
    θ_run defs (onTc (τ := τ) (main (F := F))) (s₀ m ρ) (fun r =>
      Pipeline.RDat.FramePost (cfgs 0) (fun c => (dats m Inv 0 c).toRRel fgt0 (Rl (R10 c) (R11 c) (R12 c) (R13 c) (R14 c))) (V m) r ∧ r.2.sem = fun _ => 0) :=
  Pipeline.RDat.θ_run_frame_track cfgs (0 : Fin 1) launch0 defs₀ Variants.none
    (fun c => (dats m Inv 0 c).toRRel fgt0 (Rl (R10 c) (R11 c) (R12 c) (R13 c) (R14 c))) m ρ main
    (hbody := fun c => (body_obligation m Inv R10 R11 R12 R13 R14 hk c).toRRel) (hshare := fun c => (dats m Inv 0 c).share_full fun _ => rfl)
    (howed := fun _ _ => rfl) (V := V m) (hmain := hmain m Variants.none) (hA := A_eq m Inv)
    (hin := fun c => scr_of_any c _ (h0 c)) (hout := fun c => any_of_scr c _) (Q' := _)

/-- The invariant that says nothing, and no claim on the outputs: kept by any body. -/
theorem keeps_any (c : Dev nD) (t : Fin cfg0.N) : Keeps m (fun _ _ _ _ _ _ _ _ _ _ => True) (fun _ _ _ => True) (fun _ _ _ => True) (fun _ _ _ => True) (fun _ _ _ => True) (fun _ _ _ => True) c t where
  caseA _ := by unfold StepA; intros; exact ⟨trivial, trivial, trivial, trivial, trivial, trivial⟩
  caseB _ _ := by unfold StepB; intros; exact ⟨trivial, trivial, trivial, trivial, trivial, trivial⟩
  caseC _ _ := by unfold StepC; intros; exact ⟨trivial, trivial, trivial, trivial, trivial, trivial⟩
  caseD _ := by unfold StepD; intros; exact ⟨trivial, trivial, trivial, trivial, trivial, trivial⟩

/-- THE FRAME: every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 5 rfl).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
    (run_main m ρ _ _ _ _ _ _ (fun _ _ _ _ _ _ _ _ _ => trivial) (keeps_any m))

end Cert.KernelIdeal.Dx

end
-- ==== Proof.KernelIdealNat2.lean ====
/-
  Loads and stores of boxes of rank-two buffers over the extended reals, read at a pair of numbers.
-/
module

public import proofs.«01_k».proof.Proof.Gen.KernelIdeal.Frame
public import Idealize.ShloMosaic.Lib.Pointwise
public import Idealize.ShloMosaic.Lib.WritesUnit
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- An array of extended reals at a pair of numbers, zero off its extents. -/
def nat2 {n m : ℕ} (v : (⟨2, ![n, m]⟩ : Shape).Idx → EReal) (a b : ℕ) : EReal :=
  if h : a < n ∧ b < m then v (ix2 ⟨a, h.1⟩ ⟨b, h.2⟩) else 0

/-- An array at an index is its number at the index's two numbers. -/
theorem nat2_of {n m : ℕ} (v : (⟨2, ![n, m]⟩ : Shape).Idx → EReal) (a : Fin n) (b : Fin m) : v (ix2 a b) = nat2 v a.val b.val := by
  unfold nat2; rw [dif_pos ⟨a.isLt, b.isLt⟩]

/-- Inside the array the number is the entry. -/
theorem nat2_lt {n m : ℕ} (v : (⟨2, ![n, m]⟩ : Shape).Idx → EReal) {a b : ℕ} (ha : a < n) (hb : b < m) : nat2 v a b = v (ix2 ⟨a, ha⟩ ⟨b, hb⟩) := by
  unfold nat2; rw [dif_pos ⟨ha, hb⟩]

/-- A rank-two vector of extended reals, whatever its element type was. -/
abbrev ev {n m : ℕ} (v : (⟨2, ![n, m]⟩ : Shape).Idx → EReal) := v

/-- Equal row and column numbers give equal entries. -/
theorem nat2_congr {n m : ℕ} {v : (⟨2, ![n, m]⟩ : Shape).Idx → EReal} {a a' b b' : ℕ} (ha : a = a') (hb : b = b') : nat2 v a b = nat2 v a' b' := by rw [ha, hb]
/-- Sums of equals are equal. -/
theorem add_congr {a a' b b' : EReal} (ha : a = a') (hb : b = b') : a + b = a' + b' := by rw [ha, hb]
/-- Products of equals are equal. -/
theorem mul_congr {a a' b b' : EReal} (ha : a = a') (hb : b = b') : a * b = a' * b' := by rw [ha, hb]

/-- A load of a unit-stride box reads the view's element at the box's offsets plus the place in it. -/
theorem rd {sig : RefSig} {κ : Kind} {sp : Space} {n m p q : ℕ} {e : EltTy} (v : View sig κ sp ⟨2, ![n, m]⟩ e) (f : v.ty.Contents (Elt Ideal))
    {off : Fin 2 → ℕ} {o0 o1 : ℕ} (inb) (h : off = ![o0, o1]) (a : Fin p) (b : Fin q) (h0 : o0 + a.val < n) (h1 : o1 + b.val < m) :
    v.readAt (Elt Ideal) (Rect.unit (s := ⟨2, ![n, m]⟩) off ![p, q] inb).toLoadRect f (ix2 a b) = v.read (Elt Ideal) f (ix2 ⟨o0 + a.val, h0⟩ ⟨o1 + b.val, h1⟩) := by
  subst h
  rw [View.readAt_apply]
  refine congrArg (v.read (Elt Ideal) f) ?_
  funext x
  refine Fin.ext ?_
  refine Fin.cases ?_ (fun y => ?_) x
  · show o0 + 1 * a.val = o0 + a.val
    omega
  · obtain rfl : y = 0 := Subsingleton.elim _ _
    show o1 + 1 * b.val = o1 + b.val
    omega

section
variable {sig : RefSig} {κ : Kind} {sp : Space} {n m p q : ℕ}

/-- A rectangle inside an array is inside along both axes. -/
private theorem in0 {n m p q : ℕ} {off : Fin 2 → ℕ} {o0 o1 : ℕ} (inb : ∀ a, off a + (![p, q] : Fin 2 → ℕ) a ≤ (![n, m] : Fin 2 → ℕ) a) (h : off = ![o0, o1]) :
    o0 + p ≤ n ∧ o1 + q ≤ m := by
  subst h
  exact ⟨inb 0, inb 1⟩

/-- A load of a box of a buffer of type `.f32`, by numbers. -/
theorem rdF (v : View sig κ sp ⟨2, ![n, m]⟩ .f32) (f : v.ty.Contents (Elt Ideal))
    {off : Fin 2 → ℕ} {o0 o1 : ℕ} (inb) (h : off = ![o0, o1]) (a : Fin p) (b : Fin q) :
    v.readAt (Elt Ideal) (Rect.unit (s := ⟨2, ![n, m]⟩) off ![p, q] inb).toLoadRect f (ix2 a b)
      = nat2 (n := n) (m := m) (v.read (Elt Ideal) f) (o0 + a.val) (o1 + b.val) := by
  have h0 := (in0 inb h).1
  have h1 := (in0 inb h).2
  have := a.isLt
  have := b.isLt
  rw [rd v f inb h a b (by omega) (by omega), nat2_lt _ (by omega) (by omega)]

/-- Under the newest piece of a buffer of type `.f32`: its payload. -/
theorem wrInF (v : View sig κ sp ⟨2, ![n, m]⟩ .f32) (f : v.ty.Contents (Elt Ideal)) {off : Fin 2 → ℕ} {o0 o1 : ℕ} (inb)
    (w : (⟨2, ![p, q]⟩ : Shape).Idx → EReal) (L : List (View.Piece (Elt Ideal) ⟨2, ![n, m]⟩ .f32)) (h : off = ![o0, o1]) {r c : ℕ}
    (hr : o0 ≤ r ∧ r < o0 + p) (hc : o1 ≤ c ∧ c < o1 + q) :
    nat2 (n := n) (m := m) (
        v.read (Elt Ideal) (v.writes (Elt Ideal) f ((⟨Rect.unit (s := ⟨2, ![n, m]⟩) off ![p, q] inb, w⟩ : View.Piece (Elt Ideal) ⟨2, ![n, m]⟩ .f32) :: L))) r c
      = w (ix2 ⟨r - o0, by omega⟩ ⟨c - o1, by omega⟩) := by
  have h0 := (in0 inb h).1
  have h1 := (in0 inb h).2
  rw [nat2_lt _ (by omega) (by omega)]
  refine View.read_writes_cons_unit_of_mem v f inb w L _ (ix2 ⟨r - o0, by omega⟩ ⟨c - o1, by omega⟩) h fun a => ?_
  refine Fin.cases ?_ (fun y => ?_) a
  · show r = o0 + (r - o0)
    omega
  · obtain rfl : y = 0 := Subsingleton.elim _ _
    show c = o1 + (c - o1)
    omega

/-- Off the newest piece's rows. -/
theorem wrRowF (v : View sig κ sp ⟨2, ![n, m]⟩ .f32) (f : v.ty.Contents (Elt Ideal)) {off : Fin 2 → ℕ} {o0 o1 : ℕ} (inb)
    (w : (⟨2, ![p, q]⟩ : Shape).Idx → EReal) (L : List (View.Piece (Elt Ideal) ⟨2, ![n, m]⟩ .f32)) (h : off = ![o0, o1]) {r c : ℕ}
    (hr : r < o0 ∨ o0 + p ≤ r) :
    nat2 (n := n) (m := m) (
        v.read (Elt Ideal) (v.writes (Elt Ideal) f ((⟨Rect.unit (s := ⟨2, ![n, m]⟩) off ![p, q] inb, w⟩ : View.Piece (Elt Ideal) ⟨2, ![n, m]⟩ .f32) :: L))) r c
      = nat2 (n := n) (m := m) (v.read (Elt Ideal) (v.writes (Elt Ideal) f L)) r c := by
  unfold nat2
  split
  · exact View.read_writes_cons_unit_of_not_mem v f inb w L _ h 0 hr
  · rfl

/-- Off the newest piece's columns. -/
theorem wrColF (v : View sig κ sp ⟨2, ![n, m]⟩ .f32) (f : v.ty.Contents (Elt Ideal)) {off : Fin 2 → ℕ} {o0 o1 : ℕ} (inb)
    (w : (⟨2, ![p, q]⟩ : Shape).Idx → EReal) (L : List (View.Piece (Elt Ideal) ⟨2, ![n, m]⟩ .f32)) (h : off = ![o0, o1]) {r c : ℕ}
    (hc : c < o1 ∨ o1 + q ≤ c) :
    nat2 (n := n) (m := m) (
        v.read (Elt Ideal) (v.writes (Elt Ideal) f ((⟨Rect.unit (s := ⟨2, ![n, m]⟩) off ![p, q] inb, w⟩ : View.Piece (Elt Ideal) ⟨2, ![n, m]⟩ .f32) :: L))) r c
      = nat2 (n := n) (m := m) (v.read (Elt Ideal) (v.writes (Elt Ideal) f L)) r c := by
  unfold nat2
  split
  · exact View.read_writes_cons_unit_of_not_mem v f inb w L _ h 1 hc
  · rfl

/-- A load of a box of a buffer of type `.bf16`, by numbers. -/
theorem rdB (v : View sig κ sp ⟨2, ![n, m]⟩ .bf16) (f : v.ty.Contents (Elt Ideal))
    {off : Fin 2 → ℕ} {o0 o1 : ℕ} (inb) (h : off = ![o0, o1]) (a : Fin p) (b : Fin q) :
    v.readAt (Elt Ideal) (Rect.unit (s := ⟨2, ![n, m]⟩) off ![p, q] inb).toLoadRect f (ix2 a b)
      = nat2 (n := n) (m := m) (v.read (Elt Ideal) f) (o0 + a.val) (o1 + b.val) := by
  have h0 := (in0 inb h).1
  have h1 := (in0 inb h).2
  have := a.isLt
  have := b.isLt
  rw [rd v f inb h a b (by omega) (by omega), nat2_lt _ (by omega) (by omega)]

/-- Under the newest piece of a buffer of type `.bf16`: its payload. -/
theorem wrInB (v : View sig κ sp ⟨2, ![n, m]⟩ .bf16) (f : v.ty.Contents (Elt Ideal)) {off : Fin 2 → ℕ} {o0 o1 : ℕ} (inb)
    (w : (⟨2, ![p, q]⟩ : Shape).Idx → EReal) (L : List (View.Piece (Elt Ideal) ⟨2, ![n, m]⟩ .bf16)) (h : off = ![o0, o1]) {r c : ℕ}
    (hr : o0 ≤ r ∧ r < o0 + p) (hc : o1 ≤ c ∧ c < o1 + q) :
    nat2 (n := n) (m := m) (
        v.read (Elt Ideal) (v.writes (Elt Ideal) f ((⟨Rect.unit (s := ⟨2, ![n, m]⟩) off ![p, q] inb, w⟩ : View.Piece (Elt Ideal) ⟨2, ![n, m]⟩ .bf16) :: L))) r c
      = w (ix2 ⟨r - o0, by omega⟩ ⟨c - o1, by omega⟩) := by
  have h0 := (in0 inb h).1
  have h1 := (in0 inb h).2
  rw [nat2_lt _ (by omega) (by omega)]
  refine View.read_writes_cons_unit_of_mem v f inb w L _ (ix2 ⟨r - o0, by omega⟩ ⟨c - o1, by omega⟩) h fun a => ?_
  refine Fin.cases ?_ (fun y => ?_) a
  · show r = o0 + (r - o0)
    omega
  · obtain rfl : y = 0 := Subsingleton.elim _ _
    show c = o1 + (c - o1)
    omega

/-- Off the newest piece's rows. -/
theorem wrRowB (v : View sig κ sp ⟨2, ![n, m]⟩ .bf16) (f : v.ty.Contents (Elt Ideal)) {off : Fin 2 → ℕ} {o0 o1 : ℕ} (inb)
    (w : (⟨2, ![p, q]⟩ : Shape).Idx → EReal) (L : List (View.Piece (Elt Ideal) ⟨2, ![n, m]⟩ .bf16)) (h : off = ![o0, o1]) {r c : ℕ}
    (hr : r < o0 ∨ o0 + p ≤ r) :
    nat2 (n := n) (m := m) (
        v.read (Elt Ideal) (v.writes (Elt Ideal) f ((⟨Rect.unit (s := ⟨2, ![n, m]⟩) off ![p, q] inb, w⟩ : View.Piece (Elt Ideal) ⟨2, ![n, m]⟩ .bf16) :: L))) r c
      = nat2 (n := n) (m := m) (v.read (Elt Ideal) (v.writes (Elt Ideal) f L)) r c := by
  unfold nat2
  split
  · exact View.read_writes_cons_unit_of_not_mem v f inb w L _ h 0 hr
  · rfl

/-- Off the newest piece's columns. -/
theorem wrColB (v : View sig κ sp ⟨2, ![n, m]⟩ .bf16) (f : v.ty.Contents (Elt Ideal)) {off : Fin 2 → ℕ} {o0 o1 : ℕ} (inb)
    (w : (⟨2, ![p, q]⟩ : Shape).Idx → EReal) (L : List (View.Piece (Elt Ideal) ⟨2, ![n, m]⟩ .bf16)) (h : off = ![o0, o1]) {r c : ℕ}
    (hc : c < o1 ∨ o1 + q ≤ c) :
    nat2 (n := n) (m := m) (
        v.read (Elt Ideal) (v.writes (Elt Ideal) f ((⟨Rect.unit (s := ⟨2, ![n, m]⟩) off ![p, q] inb, w⟩ : View.Piece (Elt Ideal) ⟨2, ![n, m]⟩ .bf16) :: L))) r c
      = nat2 (n := n) (m := m) (v.read (Elt Ideal) (v.writes (Elt Ideal) f L)) r c := by
  unfold nat2
  split
  · exact View.read_writes_cons_unit_of_not_mem v f inb w L _ h 1 hc
  · rfl

/-- A load of a box of a buffer of type `.fp8e4m3`, by numbers. -/
theorem rdE (v : View sig κ sp ⟨2, ![n, m]⟩ .fp8e4m3) (f : v.ty.Contents (Elt Ideal))
    {off : Fin 2 → ℕ} {o0 o1 : ℕ} (inb) (h : off = ![o0, o1]) (a : Fin p) (b : Fin q) :
    v.readAt (Elt Ideal) (Rect.unit (s := ⟨2, ![n, m]⟩) off ![p, q] inb).toLoadRect f (ix2 a b)
      = nat2 (n := n) (m := m) (v.read (Elt Ideal) f) (o0 + a.val) (o1 + b.val) := by
  have h0 := (in0 inb h).1
  have h1 := (in0 inb h).2
  have := a.isLt
  have := b.isLt
  rw [rd v f inb h a b (by omega) (by omega), nat2_lt _ (by omega) (by omega)]

/-- Under the newest piece of a buffer of type `.fp8e4m3`: its payload. -/
theorem wrInE (v : View sig κ sp ⟨2, ![n, m]⟩ .fp8e4m3) (f : v.ty.Contents (Elt Ideal)) {off : Fin 2 → ℕ} {o0 o1 : ℕ} (inb)
    (w : (⟨2, ![p, q]⟩ : Shape).Idx → EReal) (L : List (View.Piece (Elt Ideal) ⟨2, ![n, m]⟩ .fp8e4m3)) (h : off = ![o0, o1]) {r c : ℕ}
    (hr : o0 ≤ r ∧ r < o0 + p) (hc : o1 ≤ c ∧ c < o1 + q) :
    nat2 (n := n) (m := m) (
        v.read (Elt Ideal) (v.writes (Elt Ideal) f ((⟨Rect.unit (s := ⟨2, ![n, m]⟩) off ![p, q] inb, w⟩ : View.Piece (Elt Ideal) ⟨2, ![n, m]⟩ .fp8e4m3) :: L))) r c
      = w (ix2 ⟨r - o0, by omega⟩ ⟨c - o1, by omega⟩) := by
  have h0 := (in0 inb h).1
  have h1 := (in0 inb h).2
  rw [nat2_lt _ (by omega) (by omega)]
  refine View.read_writes_cons_unit_of_mem v f inb w L _ (ix2 ⟨r - o0, by omega⟩ ⟨c - o1, by omega⟩) h fun a => ?_
  refine Fin.cases ?_ (fun y => ?_) a
  · show r = o0 + (r - o0)
    omega
  · obtain rfl : y = 0 := Subsingleton.elim _ _
    show c = o1 + (c - o1)
    omega

/-- Off the newest piece's rows. -/
theorem wrRowE (v : View sig κ sp ⟨2, ![n, m]⟩ .fp8e4m3) (f : v.ty.Contents (Elt Ideal)) {off : Fin 2 → ℕ} {o0 o1 : ℕ} (inb)
    (w : (⟨2, ![p, q]⟩ : Shape).Idx → EReal) (L : List (View.Piece (Elt Ideal) ⟨2, ![n, m]⟩ .fp8e4m3)) (h : off = ![o0, o1]) {r c : ℕ}
    (hr : r < o0 ∨ o0 + p ≤ r) :
    nat2 (n := n) (m := m) (
        v.read (Elt Ideal) (v.writes (Elt Ideal) f ((⟨Rect.unit (s := ⟨2, ![n, m]⟩) off ![p, q] inb, w⟩ : View.Piece (Elt Ideal) ⟨2, ![n, m]⟩ .fp8e4m3) :: L))) r c
      = nat2 (n := n) (m := m) (v.read (Elt Ideal) (v.writes (Elt Ideal) f L)) r c := by
  unfold nat2
  split
  · exact View.read_writes_cons_unit_of_not_mem v f inb w L _ h 0 hr
  · rfl

/-- Off the newest piece's columns. -/
theorem wrColE (v : View sig κ sp ⟨2, ![n, m]⟩ .fp8e4m3) (f : v.ty.Contents (Elt Ideal)) {off : Fin 2 → ℕ} {o0 o1 : ℕ} (inb)
    (w : (⟨2, ![p, q]⟩ : Shape).Idx → EReal) (L : List (View.Piece (Elt Ideal) ⟨2, ![n, m]⟩ .fp8e4m3)) (h : off = ![o0, o1]) {r c : ℕ}
    (hc : c < o1 ∨ o1 + q ≤ c) :
    nat2 (n := n) (m := m) (
        v.read (Elt Ideal) (v.writes (Elt Ideal) f ((⟨Rect.unit (s := ⟨2, ![n, m]⟩) off ![p, q] inb, w⟩ : View.Piece (Elt Ideal) ⟨2, ![n, m]⟩ .fp8e4m3) :: L))) r c
      = nat2 (n := n) (m := m) (v.read (Elt Ideal) (v.writes (Elt Ideal) f L)) r c := by
  unfold nat2
  split
  · exact View.read_writes_cons_unit_of_not_mem v f inb w L _ h 1 hc
  · rfl

end

end Cert.KernelIdeal.Dx

end
-- ==== Proof.KernelIdealTrip.lean ====
/-
  What one trip of the dx call's first loop stores, and what all its trips leave, read at an index over the extended reals.
-/
module

public import proofs.«01_k».proof.Proof.Gen.KernelIdeal.Frame
public import proofs.«01_k».proof.Proof.Gen.KernelIdeal.Loops
public import Idealize.ShloMosaic.Lib.Pointwise
public import proofs.«01_k».proof.Proof.KernelIdealNat2
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The column block's first column. -/
def offc (i : grid0.Coords) : ℕ := 1024 * (i 1).val

/-- The last column block starts at 3072. -/
theorem offc_lt (i : grid0.Coords) : offc i ≤ 3072 := by
  have h : (i 1).val < 4 := (i 1).isLt
  unfold offc
  omega

/-- A loop makes 16 trips. -/
theorem lt_k (k : Fin k0_t1_loop.trips) : k.val < 16 := k.isLt

/-- Where column group 0 starts. -/
theorem e4_0 (i : grid0.Coords) : k0_off4 i 0#32 = ![0, offc i + 0] := k0_off4_eq i 0
/-- Where column group 0 of a trip's rows starts. -/
theorem e5_0 (i : grid0.Coords) (k : Fin k0_t1_loop.trips) : k0_off5 i k 0#32 = ![32 * k.val, offc i + 0] := k0_off5_eq i k 0
/-- Where column group 0 starts. -/
theorem e6_0 (i : grid0.Coords) : k0_off6 i 0#32 = ![0, offc i + 0] := k0_off6_eq i 0
/-- Where column group 1 starts. -/
theorem e4_1 (i : grid0.Coords) : k0_off4 i 128#32 = ![0, offc i + 128] := k0_off4_eq i 1
/-- Where column group 1 of a trip's rows starts. -/
theorem e5_1 (i : grid0.Coords) (k : Fin k0_t1_loop.trips) : k0_off5 i k 128#32 = ![32 * k.val, offc i + 128] := k0_off5_eq i k 1
/-- Where column group 1 starts. -/
theorem e6_1 (i : grid0.Coords) : k0_off6 i 128#32 = ![0, offc i + 128] := k0_off6_eq i 1
/-- Where column group 2 starts. -/
theorem e4_2 (i : grid0.Coords) : k0_off4 i 256#32 = ![0, offc i + 256] := k0_off4_eq i 2
/-- Where column group 2 of a trip's rows starts. -/
theorem e5_2 (i : grid0.Coords) (k : Fin k0_t1_loop.trips) : k0_off5 i k 256#32 = ![32 * k.val, offc i + 256] := k0_off5_eq i k 2
/-- Where column group 2 starts. -/
theorem e6_2 (i : grid0.Coords) : k0_off6 i 256#32 = ![0, offc i + 256] := k0_off6_eq i 2
/-- Where column group 3 starts. -/
theorem e4_3 (i : grid0.Coords) : k0_off4 i 384#32 = ![0, offc i + 384] := k0_off4_eq i 3
/-- Where column group 3 of a trip's rows starts. -/
theorem e5_3 (i : grid0.Coords) (k : Fin k0_t1_loop.trips) : k0_off5 i k 384#32 = ![32 * k.val, offc i + 384] := k0_off5_eq i k 3
/-- Where column group 3 starts. -/
theorem e6_3 (i : grid0.Coords) : k0_off6 i 384#32 = ![0, offc i + 384] := k0_off6_eq i 3
/-- Where column group 4 starts. -/
theorem e4_4 (i : grid0.Coords) : k0_off4 i 512#32 = ![0, offc i + 512] := k0_off4_eq i 4
/-- Where column group 4 of a trip's rows starts. -/
theorem e5_4 (i : grid0.Coords) (k : Fin k0_t1_loop.trips) : k0_off5 i k 512#32 = ![32 * k.val, offc i + 512] := k0_off5_eq i k 4
/-- Where column group 4 starts. -/
theorem e6_4 (i : grid0.Coords) : k0_off6 i 512#32 = ![0, offc i + 512] := k0_off6_eq i 4
/-- Where column group 5 starts. -/
theorem e4_5 (i : grid0.Coords) : k0_off4 i 640#32 = ![0, offc i + 640] := k0_off4_eq i 5
/-- Where column group 5 of a trip's rows starts. -/
theorem e5_5 (i : grid0.Coords) (k : Fin k0_t1_loop.trips) : k0_off5 i k 640#32 = ![32 * k.val, offc i + 640] := k0_off5_eq i k 5
/-- Where column group 5 starts. -/
theorem e6_5 (i : grid0.Coords) : k0_off6 i 640#32 = ![0, offc i + 640] := k0_off6_eq i 5
/-- Where column group 6 starts. -/
theorem e4_6 (i : grid0.Coords) : k0_off4 i 768#32 = ![0, offc i + 768] := k0_off4_eq i 6
/-- Where column group 6 of a trip's rows starts. -/
theorem e5_6 (i : grid0.Coords) (k : Fin k0_t1_loop.trips) : k0_off5 i k 768#32 = ![32 * k.val, offc i + 768] := k0_off5_eq i k 6
/-- Where column group 6 starts. -/
theorem e6_6 (i : grid0.Coords) : k0_off6 i 768#32 = ![0, offc i + 768] := k0_off6_eq i 6
/-- Where column group 7 starts. -/
theorem e4_7 (i : grid0.Coords) : k0_off4 i 896#32 = ![0, offc i + 896] := k0_off4_eq i 7
/-- Where column group 7 of a trip's rows starts. -/
theorem e5_7 (i : grid0.Coords) (k : Fin k0_t1_loop.trips) : k0_off5 i k 896#32 = ![32 * k.val, offc i + 896] := k0_off5_eq i k 7
/-- Where column group 7 starts. -/
theorem e6_7 (i : grid0.Coords) : k0_off6 i 896#32 = ![0, offc i + 896] := k0_off6_eq i 7
set_option maxHeartbeats 4000000 in
/-- What a trip leaves of the normalised activations' block. -/
theorem trip18_apply (𝒱 : Variants) (c : Dev nD) (bd : Option 𝒱.V) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X16 : BufTy.Contents (Elt Ideal) arg16.view.ty) (X20 : BufTy.Contents (Elt Ideal) arg20.view.ty) (k : Fin k0_t1_loop.trips) (f18 : BufTy.Contents (Elt Ideal) arg18.view.ty) (f21 : BufTy.Contents (Elt Ideal) arg21.view.ty) (f22 : BufTy.Contents (Elt Ideal) arg22.view.ty) (r l : ℕ) (hl : l < 1024) :
    nat2 (ev (arg18.view.read (Elt Ideal) (arg18.view.writes (Elt Ideal) f18 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X16 X20 k).1 f18 f21 f22)))) r l
      = if 32 * k.val ≤ r ∧ r < 32 * k.val + 32 then
          nat2 (ev (arg6.view.read (Elt Ideal) X6)) r l * nat2 (ev (arg20.view.read (Elt Ideal) X20)) r (l % 128) * nat2 (ev (arg4.view.read (Elt Ideal) X4)) 0 (offc i + l)
        else nat2 (ev (arg18.view.read (Elt Ideal) f18)) r l := by
  have hk := lt_k k
  have hi := offc_lt i
  unfold trip_k0_t1
  dsimp only [ev]
  split
  · rename_i hr
    obtain ⟨b, hb'⟩ : ∃ b : ℕ, 128 * b ≤ l ∧ l < 128 * b + 128 := ⟨l / 128, by omega⟩
    have hb8 : b < 8 := by omega
    interval_cases b
    ·
      rw [wrColB _ _ _ _ _ (k0_off13_eq k) (by omega)]
      rw [wrColB _ _ _ _ _ (k0_off12_eq k) (by omega)]
      rw [wrColB _ _ _ _ _ (k0_off11_eq k) (by omega)]
      rw [wrColB _ _ _ _ _ (k0_off10_eq k) (by omega)]
      rw [wrColB _ _ _ _ _ (k0_off9_eq k) (by omega)]
      rw [wrColB _ _ _ _ _ (k0_off8_eq k) (by omega)]
      rw [wrColB _ _ _ _ _ (k0_off7_eq k) (by omega)]
      rw [wrInB _ _ _ _ _ (k0_off3_eq k) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      rw [rdE _ _ _ (k0_off3_eq k), rdF _ _ _ (k0_off2_eq k), rdF _ _ _ (e4_0 i)]
      repeat' first | refine add_congr ?_ ?_ | refine mul_congr ?_ ?_ | refine nat2_congr ?_ ?_
      all_goals (try simp only [Fin.val_zero, Fin.isValue]) <;> omega
    ·
      rw [wrColB _ _ _ _ _ (k0_off13_eq k) (by omega)]
      rw [wrColB _ _ _ _ _ (k0_off12_eq k) (by omega)]
      rw [wrColB _ _ _ _ _ (k0_off11_eq k) (by omega)]
      rw [wrColB _ _ _ _ _ (k0_off10_eq k) (by omega)]
      rw [wrColB _ _ _ _ _ (k0_off9_eq k) (by omega)]
      rw [wrColB _ _ _ _ _ (k0_off8_eq k) (by omega)]
      rw [wrInB _ _ _ _ _ (k0_off7_eq k) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      rw [rdE _ _ _ (k0_off7_eq k), rdF _ _ _ (k0_off2_eq k), rdF _ _ _ (e4_1 i)]
      repeat' first | refine add_congr ?_ ?_ | refine mul_congr ?_ ?_ | refine nat2_congr ?_ ?_
      all_goals (try simp only [Fin.val_zero, Fin.isValue]) <;> omega
    ·
      rw [wrColB _ _ _ _ _ (k0_off13_eq k) (by omega)]
      rw [wrColB _ _ _ _ _ (k0_off12_eq k) (by omega)]
      rw [wrColB _ _ _ _ _ (k0_off11_eq k) (by omega)]
      rw [wrColB _ _ _ _ _ (k0_off10_eq k) (by omega)]
      rw [wrColB _ _ _ _ _ (k0_off9_eq k) (by omega)]
      rw [wrInB _ _ _ _ _ (k0_off8_eq k) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      rw [rdE _ _ _ (k0_off8_eq k), rdF _ _ _ (k0_off2_eq k), rdF _ _ _ (e4_2 i)]
      repeat' first | refine add_congr ?_ ?_ | refine mul_congr ?_ ?_ | refine nat2_congr ?_ ?_
      all_goals (try simp only [Fin.val_zero, Fin.isValue]) <;> omega
    ·
      rw [wrColB _ _ _ _ _ (k0_off13_eq k) (by omega)]
      rw [wrColB _ _ _ _ _ (k0_off12_eq k) (by omega)]
      rw [wrColB _ _ _ _ _ (k0_off11_eq k) (by omega)]
      rw [wrColB _ _ _ _ _ (k0_off10_eq k) (by omega)]
      rw [wrInB _ _ _ _ _ (k0_off9_eq k) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      rw [rdE _ _ _ (k0_off9_eq k), rdF _ _ _ (k0_off2_eq k), rdF _ _ _ (e4_3 i)]
      repeat' first | refine add_congr ?_ ?_ | refine mul_congr ?_ ?_ | refine nat2_congr ?_ ?_
      all_goals (try simp only [Fin.val_zero, Fin.isValue]) <;> omega
    ·
      rw [wrColB _ _ _ _ _ (k0_off13_eq k) (by omega)]
      rw [wrColB _ _ _ _ _ (k0_off12_eq k) (by omega)]
      rw [wrColB _ _ _ _ _ (k0_off11_eq k) (by omega)]
      rw [wrInB _ _ _ _ _ (k0_off10_eq k) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      rw [rdE _ _ _ (k0_off10_eq k), rdF _ _ _ (k0_off2_eq k), rdF _ _ _ (e4_4 i)]
      repeat' first | refine add_congr ?_ ?_ | refine mul_congr ?_ ?_ | refine nat2_congr ?_ ?_
      all_goals (try simp only [Fin.val_zero, Fin.isValue]) <;> omega
    ·
      rw [wrColB _ _ _ _ _ (k0_off13_eq k) (by omega)]
      rw [wrColB _ _ _ _ _ (k0_off12_eq k) (by omega)]
      rw [wrInB _ _ _ _ _ (k0_off11_eq k) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      rw [rdE _ _ _ (k0_off11_eq k), rdF _ _ _ (k0_off2_eq k), rdF _ _ _ (e4_5 i)]
      repeat' first | refine add_congr ?_ ?_ | refine mul_congr ?_ ?_ | refine nat2_congr ?_ ?_
      all_goals (try simp only [Fin.val_zero, Fin.isValue]) <;> omega
    ·
      rw [wrColB _ _ _ _ _ (k0_off13_eq k) (by omega)]
      rw [wrInB _ _ _ _ _ (k0_off12_eq k) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      rw [rdE _ _ _ (k0_off12_eq k), rdF _ _ _ (k0_off2_eq k), rdF _ _ _ (e4_6 i)]
      repeat' first | refine add_congr ?_ ?_ | refine mul_congr ?_ ?_ | refine nat2_congr ?_ ?_
      all_goals (try simp only [Fin.val_zero, Fin.isValue]) <;> omega
    ·
      rw [wrInB _ _ _ _ _ (k0_off13_eq k) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      rw [rdE _ _ _ (k0_off13_eq k), rdF _ _ _ (k0_off2_eq k), rdF _ _ _ (e4_7 i)]
      repeat' first | refine add_congr ?_ ?_ | refine mul_congr ?_ ?_ | refine nat2_congr ?_ ?_
      all_goals (try simp only [Fin.val_zero, Fin.isValue]) <;> omega
  · rename_i hr
    have hr : r < 32 * k.val ∨ 32 * k.val + 32 ≤ r := by omega
    rw [wrRowB _ _ _ _ _ (k0_off13_eq k) hr]
    rw [wrRowB _ _ _ _ _ (k0_off12_eq k) hr]
    rw [wrRowB _ _ _ _ _ (k0_off11_eq k) hr]
    rw [wrRowB _ _ _ _ _ (k0_off10_eq k) hr]
    rw [wrRowB _ _ _ _ _ (k0_off9_eq k) hr]
    rw [wrRowB _ _ _ _ _ (k0_off8_eq k) hr]
    rw [wrRowB _ _ _ _ _ (k0_off7_eq k) hr]
    rw [wrRowB _ _ _ _ _ (k0_off3_eq k) hr]
    rfl

set_option maxHeartbeats 4000000 in
/-- What a trip leaves of the rows' running sums: each lane gains its eight columns of the block. -/
theorem trip21_apply (𝒱 : Variants) (c : Dev nD) (bd : Option 𝒱.V) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X16 : BufTy.Contents (Elt Ideal) arg16.view.ty) (X20 : BufTy.Contents (Elt Ideal) arg20.view.ty) (k : Fin k0_t1_loop.trips) (f18 : BufTy.Contents (Elt Ideal) arg18.view.ty) (f21 : BufTy.Contents (Elt Ideal) arg21.view.ty) (f22 : BufTy.Contents (Elt Ideal) arg22.view.ty) (r l : ℕ) (hl : l < 128) :
    nat2 (ev (arg21.view.read (Elt Ideal) (arg21.view.writes (Elt Ideal) f21 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X16 X20 k).2.1 f18 f21 f22)))) r l
      = if 32 * k.val ≤ r ∧ r < 32 * k.val + 32 then
          nat2 (ev (arg21.view.read (Elt Ideal) f21)) r l + ∑ b ∈ Finset.range 8, nat2 (ev (arg16.view.read (Elt Ideal) X16)) r (offc i + (128 * b + l)) * (nat2 (ev (arg6.view.read (Elt Ideal) X6)) r (128 * b + l) * nat2 (ev (arg20.view.read (Elt Ideal) X20)) r l) * nat2 (ev (arg4.view.read (Elt Ideal) X4)) 0 (offc i + (128 * b + l))
        else nat2 (ev (arg21.view.read (Elt Ideal) f21)) r l := by
  have hk := lt_k k
  have hi := offc_lt i
  unfold trip_k0_t1
  dsimp only [ev]
  split
  · rename_i hr
    rw [wrInF _ _ _ _ _ (k0_off2_eq k) (by omega) (by omega)]
    simp only [trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
    pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328]
    simp only [rdF _ _ _ (k0_off2_eq k), rdE _ _ _ (k0_off3_eq k), rdF _ _ _ (e4_0 i), rdF _ _ _ (e5_0 i k), rdF _ _ _ (e6_0 i), rdE _ _ _ (k0_off7_eq k), rdF _ _ _ (e4_1 i), rdF _ _ _ (e5_1 i k), rdF _ _ _ (e6_1 i), rdE _ _ _ (k0_off8_eq k), rdF _ _ _ (e4_2 i), rdF _ _ _ (e5_2 i k), rdF _ _ _ (e6_2 i), rdE _ _ _ (k0_off9_eq k), rdF _ _ _ (e4_3 i), rdF _ _ _ (e5_3 i k), rdF _ _ _ (e6_3 i), rdE _ _ _ (k0_off10_eq k), rdF _ _ _ (e4_4 i), rdF _ _ _ (e5_4 i k), rdF _ _ _ (e6_4 i), rdE _ _ _ (k0_off11_eq k), rdF _ _ _ (e4_5 i), rdF _ _ _ (e5_5 i k), rdF _ _ _ (e6_5 i), rdE _ _ _ (k0_off12_eq k), rdF _ _ _ (e4_6 i), rdF _ _ _ (e5_6 i k), rdF _ _ _ (e6_6 i), rdE _ _ _ (k0_off13_eq k), rdF _ _ _ (e4_7 i), rdF _ _ _ (e5_7 i k), rdF _ _ _ (e6_7 i), Finset.sum_range_succ, Finset.sum_range_zero, zero_add, ← add_assoc]
    repeat' first | refine add_congr ?_ ?_ | refine mul_congr ?_ ?_ | refine nat2_congr ?_ ?_
    all_goals (try simp only [Fin.val_zero, Fin.isValue]) <;> omega
  · rename_i hr
    rw [wrRowF _ _ _ _ _ (k0_off2_eq k) (by omega)]
    rfl

set_option maxHeartbeats 4000000 in
/-- What a trip leaves of the gains' gradient sums: each sublane gains its four rows of the trip, in the block's columns. -/
theorem trip22_apply (𝒱 : Variants) (c : Dev nD) (bd : Option 𝒱.V) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X16 : BufTy.Contents (Elt Ideal) arg16.view.ty) (X20 : BufTy.Contents (Elt Ideal) arg20.view.ty) (k : Fin k0_t1_loop.trips) (f18 : BufTy.Contents (Elt Ideal) arg18.view.ty) (f21 : BufTy.Contents (Elt Ideal) arg21.view.ty) (f22 : BufTy.Contents (Elt Ideal) arg22.view.ty) (r l : ℕ) (hr : r < 8) :
    nat2 (ev (arg22.view.read (Elt Ideal) (arg22.view.writes (Elt Ideal) f22 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X16 X20 k).2.2.1 f18 f21 f22)))) r l
      = if offc i ≤ l ∧ l < offc i + 1024 then
          nat2 (ev (arg22.view.read (Elt Ideal) f22)) r l + ∑ q ∈ Finset.range 4, nat2 (ev (arg16.view.read (Elt Ideal) X16)) (32 * k.val + (8 * q + r)) l * (nat2 (ev (arg6.view.read (Elt Ideal) X6)) (32 * k.val + (8 * q + r)) (l - offc i) * nat2 (ev (arg20.view.read (Elt Ideal) X20)) (32 * k.val + (8 * q + r)) ((l - offc i) % 128))
        else nat2 (ev (arg22.view.read (Elt Ideal) f22)) r l := by
  have hk := lt_k k
  have hi := offc_lt i
  unfold trip_k0_t1
  dsimp only [ev]
  split
  · rename_i hl
    obtain ⟨b, hb'⟩ : ∃ b : ℕ, offc i + 128 * b ≤ l ∧ l < offc i + 128 * b + 128 := ⟨(l - offc i) / 128, by omega⟩
    have hb8 : b < 8 := by omega
    interval_cases b
    ·
      rw [wrColF _ _ _ _ _ (e6_7 i) (by omega)]
      rw [wrColF _ _ _ _ _ (e6_6 i) (by omega)]
      rw [wrColF _ _ _ _ _ (e6_5 i) (by omega)]
      rw [wrColF _ _ _ _ _ (e6_4 i) (by omega)]
      rw [wrColF _ _ _ _ _ (e6_3 i) (by omega)]
      rw [wrColF _ _ _ _ _ (e6_2 i) (by omega)]
      rw [wrColF _ _ _ _ _ (e6_1 i) (by omega)]
      rw [wrInF _ _ _ _ _ (e6_0 i) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      simp only [rdF _ _ _ (k0_off2_eq k), rdE _ _ _ (k0_off3_eq k), rdF _ _ _ (e4_0 i), rdF _ _ _ (e5_0 i k), rdF _ _ _ (e6_0 i), rdE _ _ _ (k0_off7_eq k), rdF _ _ _ (e4_1 i), rdF _ _ _ (e5_1 i k), rdF _ _ _ (e6_1 i), rdE _ _ _ (k0_off8_eq k), rdF _ _ _ (e4_2 i), rdF _ _ _ (e5_2 i k), rdF _ _ _ (e6_2 i), rdE _ _ _ (k0_off9_eq k), rdF _ _ _ (e4_3 i), rdF _ _ _ (e5_3 i k), rdF _ _ _ (e6_3 i), rdE _ _ _ (k0_off10_eq k), rdF _ _ _ (e4_4 i), rdF _ _ _ (e5_4 i k), rdF _ _ _ (e6_4 i), rdE _ _ _ (k0_off11_eq k), rdF _ _ _ (e4_5 i), rdF _ _ _ (e5_5 i k), rdF _ _ _ (e6_5 i), rdE _ _ _ (k0_off12_eq k), rdF _ _ _ (e4_6 i), rdF _ _ _ (e5_6 i k), rdF _ _ _ (e6_6 i), rdE _ _ _ (k0_off13_eq k), rdF _ _ _ (e4_7 i), rdF _ _ _ (e5_7 i k), rdF _ _ _ (e6_7 i), Finset.sum_range_succ, Finset.sum_range_zero, zero_add, ← add_assoc]
      rw [add_assoc, add_assoc]
      simp only [← add_assoc]
      repeat' first | refine add_congr ?_ ?_ | refine mul_congr ?_ ?_ | refine nat2_congr ?_ ?_
      all_goals (try simp only [Fin.val_zero, Fin.isValue]) <;> omega
    ·
      rw [wrColF _ _ _ _ _ (e6_7 i) (by omega)]
      rw [wrColF _ _ _ _ _ (e6_6 i) (by omega)]
      rw [wrColF _ _ _ _ _ (e6_5 i) (by omega)]
      rw [wrColF _ _ _ _ _ (e6_4 i) (by omega)]
      rw [wrColF _ _ _ _ _ (e6_3 i) (by omega)]
      rw [wrColF _ _ _ _ _ (e6_2 i) (by omega)]
      rw [wrInF _ _ _ _ _ (e6_1 i) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      simp only [rdF _ _ _ (k0_off2_eq k), rdE _ _ _ (k0_off3_eq k), rdF _ _ _ (e4_0 i), rdF _ _ _ (e5_0 i k), rdF _ _ _ (e6_0 i), rdE _ _ _ (k0_off7_eq k), rdF _ _ _ (e4_1 i), rdF _ _ _ (e5_1 i k), rdF _ _ _ (e6_1 i), rdE _ _ _ (k0_off8_eq k), rdF _ _ _ (e4_2 i), rdF _ _ _ (e5_2 i k), rdF _ _ _ (e6_2 i), rdE _ _ _ (k0_off9_eq k), rdF _ _ _ (e4_3 i), rdF _ _ _ (e5_3 i k), rdF _ _ _ (e6_3 i), rdE _ _ _ (k0_off10_eq k), rdF _ _ _ (e4_4 i), rdF _ _ _ (e5_4 i k), rdF _ _ _ (e6_4 i), rdE _ _ _ (k0_off11_eq k), rdF _ _ _ (e4_5 i), rdF _ _ _ (e5_5 i k), rdF _ _ _ (e6_5 i), rdE _ _ _ (k0_off12_eq k), rdF _ _ _ (e4_6 i), rdF _ _ _ (e5_6 i k), rdF _ _ _ (e6_6 i), rdE _ _ _ (k0_off13_eq k), rdF _ _ _ (e4_7 i), rdF _ _ _ (e5_7 i k), rdF _ _ _ (e6_7 i), Finset.sum_range_succ, Finset.sum_range_zero, zero_add, ← add_assoc]
      rw [add_assoc, add_assoc]
      simp only [← add_assoc]
      repeat' first | refine add_congr ?_ ?_ | refine mul_congr ?_ ?_ | refine nat2_congr ?_ ?_
      all_goals (try simp only [Fin.val_zero, Fin.isValue]) <;> omega
    ·
      rw [wrColF _ _ _ _ _ (e6_7 i) (by omega)]
      rw [wrColF _ _ _ _ _ (e6_6 i) (by omega)]
      rw [wrColF _ _ _ _ _ (e6_5 i) (by omega)]
      rw [wrColF _ _ _ _ _ (e6_4 i) (by omega)]
      rw [wrColF _ _ _ _ _ (e6_3 i) (by omega)]
      rw [wrInF _ _ _ _ _ (e6_2 i) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      simp only [rdF _ _ _ (k0_off2_eq k), rdE _ _ _ (k0_off3_eq k), rdF _ _ _ (e4_0 i), rdF _ _ _ (e5_0 i k), rdF _ _ _ (e6_0 i), rdE _ _ _ (k0_off7_eq k), rdF _ _ _ (e4_1 i), rdF _ _ _ (e5_1 i k), rdF _ _ _ (e6_1 i), rdE _ _ _ (k0_off8_eq k), rdF _ _ _ (e4_2 i), rdF _ _ _ (e5_2 i k), rdF _ _ _ (e6_2 i), rdE _ _ _ (k0_off9_eq k), rdF _ _ _ (e4_3 i), rdF _ _ _ (e5_3 i k), rdF _ _ _ (e6_3 i), rdE _ _ _ (k0_off10_eq k), rdF _ _ _ (e4_4 i), rdF _ _ _ (e5_4 i k), rdF _ _ _ (e6_4 i), rdE _ _ _ (k0_off11_eq k), rdF _ _ _ (e4_5 i), rdF _ _ _ (e5_5 i k), rdF _ _ _ (e6_5 i), rdE _ _ _ (k0_off12_eq k), rdF _ _ _ (e4_6 i), rdF _ _ _ (e5_6 i k), rdF _ _ _ (e6_6 i), rdE _ _ _ (k0_off13_eq k), rdF _ _ _ (e4_7 i), rdF _ _ _ (e5_7 i k), rdF _ _ _ (e6_7 i), Finset.sum_range_succ, Finset.sum_range_zero, zero_add, ← add_assoc]
      rw [add_assoc, add_assoc]
      simp only [← add_assoc]
      repeat' first | refine add_congr ?_ ?_ | refine mul_congr ?_ ?_ | refine nat2_congr ?_ ?_
      all_goals (try simp only [Fin.val_zero, Fin.isValue]) <;> omega
    ·
      rw [wrColF _ _ _ _ _ (e6_7 i) (by omega)]
      rw [wrColF _ _ _ _ _ (e6_6 i) (by omega)]
      rw [wrColF _ _ _ _ _ (e6_5 i) (by omega)]
      rw [wrColF _ _ _ _ _ (e6_4 i) (by omega)]
      rw [wrInF _ _ _ _ _ (e6_3 i) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      simp only [rdF _ _ _ (k0_off2_eq k), rdE _ _ _ (k0_off3_eq k), rdF _ _ _ (e4_0 i), rdF _ _ _ (e5_0 i k), rdF _ _ _ (e6_0 i), rdE _ _ _ (k0_off7_eq k), rdF _ _ _ (e4_1 i), rdF _ _ _ (e5_1 i k), rdF _ _ _ (e6_1 i), rdE _ _ _ (k0_off8_eq k), rdF _ _ _ (e4_2 i), rdF _ _ _ (e5_2 i k), rdF _ _ _ (e6_2 i), rdE _ _ _ (k0_off9_eq k), rdF _ _ _ (e4_3 i), rdF _ _ _ (e5_3 i k), rdF _ _ _ (e6_3 i), rdE _ _ _ (k0_off10_eq k), rdF _ _ _ (e4_4 i), rdF _ _ _ (e5_4 i k), rdF _ _ _ (e6_4 i), rdE _ _ _ (k0_off11_eq k), rdF _ _ _ (e4_5 i), rdF _ _ _ (e5_5 i k), rdF _ _ _ (e6_5 i), rdE _ _ _ (k0_off12_eq k), rdF _ _ _ (e4_6 i), rdF _ _ _ (e5_6 i k), rdF _ _ _ (e6_6 i), rdE _ _ _ (k0_off13_eq k), rdF _ _ _ (e4_7 i), rdF _ _ _ (e5_7 i k), rdF _ _ _ (e6_7 i), Finset.sum_range_succ, Finset.sum_range_zero, zero_add, ← add_assoc]
      rw [add_assoc, add_assoc]
      simp only [← add_assoc]
      repeat' first | refine add_congr ?_ ?_ | refine mul_congr ?_ ?_ | refine nat2_congr ?_ ?_
      all_goals (try simp only [Fin.val_zero, Fin.isValue]) <;> omega
    ·
      rw [wrColF _ _ _ _ _ (e6_7 i) (by omega)]
      rw [wrColF _ _ _ _ _ (e6_6 i) (by omega)]
      rw [wrColF _ _ _ _ _ (e6_5 i) (by omega)]
      rw [wrInF _ _ _ _ _ (e6_4 i) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      simp only [rdF _ _ _ (k0_off2_eq k), rdE _ _ _ (k0_off3_eq k), rdF _ _ _ (e4_0 i), rdF _ _ _ (e5_0 i k), rdF _ _ _ (e6_0 i), rdE _ _ _ (k0_off7_eq k), rdF _ _ _ (e4_1 i), rdF _ _ _ (e5_1 i k), rdF _ _ _ (e6_1 i), rdE _ _ _ (k0_off8_eq k), rdF _ _ _ (e4_2 i), rdF _ _ _ (e5_2 i k), rdF _ _ _ (e6_2 i), rdE _ _ _ (k0_off9_eq k), rdF _ _ _ (e4_3 i), rdF _ _ _ (e5_3 i k), rdF _ _ _ (e6_3 i), rdE _ _ _ (k0_off10_eq k), rdF _ _ _ (e4_4 i), rdF _ _ _ (e5_4 i k), rdF _ _ _ (e6_4 i), rdE _ _ _ (k0_off11_eq k), rdF _ _ _ (e4_5 i), rdF _ _ _ (e5_5 i k), rdF _ _ _ (e6_5 i), rdE _ _ _ (k0_off12_eq k), rdF _ _ _ (e4_6 i), rdF _ _ _ (e5_6 i k), rdF _ _ _ (e6_6 i), rdE _ _ _ (k0_off13_eq k), rdF _ _ _ (e4_7 i), rdF _ _ _ (e5_7 i k), rdF _ _ _ (e6_7 i), Finset.sum_range_succ, Finset.sum_range_zero, zero_add, ← add_assoc]
      rw [add_assoc, add_assoc]
      simp only [← add_assoc]
      repeat' first | refine add_congr ?_ ?_ | refine mul_congr ?_ ?_ | refine nat2_congr ?_ ?_
      all_goals (try simp only [Fin.val_zero, Fin.isValue]) <;> omega
    ·
      rw [wrColF _ _ _ _ _ (e6_7 i) (by omega)]
      rw [wrColF _ _ _ _ _ (e6_6 i) (by omega)]
      rw [wrInF _ _ _ _ _ (e6_5 i) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      simp only [rdF _ _ _ (k0_off2_eq k), rdE _ _ _ (k0_off3_eq k), rdF _ _ _ (e4_0 i), rdF _ _ _ (e5_0 i k), rdF _ _ _ (e6_0 i), rdE _ _ _ (k0_off7_eq k), rdF _ _ _ (e4_1 i), rdF _ _ _ (e5_1 i k), rdF _ _ _ (e6_1 i), rdE _ _ _ (k0_off8_eq k), rdF _ _ _ (e4_2 i), rdF _ _ _ (e5_2 i k), rdF _ _ _ (e6_2 i), rdE _ _ _ (k0_off9_eq k), rdF _ _ _ (e4_3 i), rdF _ _ _ (e5_3 i k), rdF _ _ _ (e6_3 i), rdE _ _ _ (k0_off10_eq k), rdF _ _ _ (e4_4 i), rdF _ _ _ (e5_4 i k), rdF _ _ _ (e6_4 i), rdE _ _ _ (k0_off11_eq k), rdF _ _ _ (e4_5 i), rdF _ _ _ (e5_5 i k), rdF _ _ _ (e6_5 i), rdE _ _ _ (k0_off12_eq k), rdF _ _ _ (e4_6 i), rdF _ _ _ (e5_6 i k), rdF _ _ _ (e6_6 i), rdE _ _ _ (k0_off13_eq k), rdF _ _ _ (e4_7 i), rdF _ _ _ (e5_7 i k), rdF _ _ _ (e6_7 i), Finset.sum_range_succ, Finset.sum_range_zero, zero_add, ← add_assoc]
      rw [add_assoc, add_assoc]
      simp only [← add_assoc]
      repeat' first | refine add_congr ?_ ?_ | refine mul_congr ?_ ?_ | refine nat2_congr ?_ ?_
      all_goals (try simp only [Fin.val_zero, Fin.isValue]) <;> omega
    ·
      rw [wrColF _ _ _ _ _ (e6_7 i) (by omega)]
      rw [wrInF _ _ _ _ _ (e6_6 i) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      simp only [rdF _ _ _ (k0_off2_eq k), rdE _ _ _ (k0_off3_eq k), rdF _ _ _ (e4_0 i), rdF _ _ _ (e5_0 i k), rdF _ _ _ (e6_0 i), rdE _ _ _ (k0_off7_eq k), rdF _ _ _ (e4_1 i), rdF _ _ _ (e5_1 i k), rdF _ _ _ (e6_1 i), rdE _ _ _ (k0_off8_eq k), rdF _ _ _ (e4_2 i), rdF _ _ _ (e5_2 i k), rdF _ _ _ (e6_2 i), rdE _ _ _ (k0_off9_eq k), rdF _ _ _ (e4_3 i), rdF _ _ _ (e5_3 i k), rdF _ _ _ (e6_3 i), rdE _ _ _ (k0_off10_eq k), rdF _ _ _ (e4_4 i), rdF _ _ _ (e5_4 i k), rdF _ _ _ (e6_4 i), rdE _ _ _ (k0_off11_eq k), rdF _ _ _ (e4_5 i), rdF _ _ _ (e5_5 i k), rdF _ _ _ (e6_5 i), rdE _ _ _ (k0_off12_eq k), rdF _ _ _ (e4_6 i), rdF _ _ _ (e5_6 i k), rdF _ _ _ (e6_6 i), rdE _ _ _ (k0_off13_eq k), rdF _ _ _ (e4_7 i), rdF _ _ _ (e5_7 i k), rdF _ _ _ (e6_7 i), Finset.sum_range_succ, Finset.sum_range_zero, zero_add, ← add_assoc]
      rw [add_assoc, add_assoc]
      simp only [← add_assoc]
      repeat' first | refine add_congr ?_ ?_ | refine mul_congr ?_ ?_ | refine nat2_congr ?_ ?_
      all_goals (try simp only [Fin.val_zero, Fin.isValue]) <;> omega
    ·
      rw [wrInF _ _ _ _ _ (e6_7 i) (by omega) (by omega)]
      pointwise [k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay327,k0_pay328,trip_k0_t1.sl.r,trip_k0_t1.sl.r_1,trip_k0_t1.sl.r_2,trip_k0_t1.sl.r_3,trip_k0_t1.sl.r_4,trip_k0_t1.sl.r_5,trip_k0_t1.sl.r_6,trip_k0_t1.sl.r_7,trip_k0_t1.sl.r_8,trip_k0_t1.sl.r_9,trip_k0_t1.sl.r_10,trip_k0_t1.sl.r_11,trip_k0_t1.sl.r_12,trip_k0_t1.sl.r_13,trip_k0_t1.sl.r_14,trip_k0_t1.sl.r_15,trip_k0_t1.sl.r_16,trip_k0_t1.sl.v110,trip_k0_t1.sl.v148,trip_k0_t1.sl.v186,trip_k0_t1.sl.v224,trip_k0_t1.sl.v262,trip_k0_t1.sl.v300,trip_k0_t1.sl.v338]
      simp only [rdF _ _ _ (k0_off2_eq k), rdE _ _ _ (k0_off3_eq k), rdF _ _ _ (e4_0 i), rdF _ _ _ (e5_0 i k), rdF _ _ _ (e6_0 i), rdE _ _ _ (k0_off7_eq k), rdF _ _ _ (e4_1 i), rdF _ _ _ (e5_1 i k), rdF _ _ _ (e6_1 i), rdE _ _ _ (k0_off8_eq k), rdF _ _ _ (e4_2 i), rdF _ _ _ (e5_2 i k), rdF _ _ _ (e6_2 i), rdE _ _ _ (k0_off9_eq k), rdF _ _ _ (e4_3 i), rdF _ _ _ (e5_3 i k), rdF _ _ _ (e6_3 i), rdE _ _ _ (k0_off10_eq k), rdF _ _ _ (e4_4 i), rdF _ _ _ (e5_4 i k), rdF _ _ _ (e6_4 i), rdE _ _ _ (k0_off11_eq k), rdF _ _ _ (e4_5 i), rdF _ _ _ (e5_5 i k), rdF _ _ _ (e6_5 i), rdE _ _ _ (k0_off12_eq k), rdF _ _ _ (e4_6 i), rdF _ _ _ (e5_6 i k), rdF _ _ _ (e6_6 i), rdE _ _ _ (k0_off13_eq k), rdF _ _ _ (e4_7 i), rdF _ _ _ (e5_7 i k), rdF _ _ _ (e6_7 i), Finset.sum_range_succ, Finset.sum_range_zero, zero_add, ← add_assoc]
      rw [add_assoc, add_assoc]
      simp only [← add_assoc]
      repeat' first | refine add_congr ?_ ?_ | refine mul_congr ?_ ?_ | refine nat2_congr ?_ ?_
      all_goals (try simp only [Fin.val_zero, Fin.isValue]) <;> omega
  · rename_i hl
    have hl : ∀ {d}, d + 128 ≤ 1024 → l < offc i + d ∨ offc i + d + 128 ≤ l := fun h => by omega
    rw [wrColF _ _ _ _ _ (e6_7 i) (hl (by decide))]
    rw [wrColF _ _ _ _ _ (e6_6 i) (hl (by decide))]
    rw [wrColF _ _ _ _ _ (e6_5 i) (hl (by decide))]
    rw [wrColF _ _ _ _ _ (e6_4 i) (hl (by decide))]
    rw [wrColF _ _ _ _ _ (e6_3 i) (hl (by decide))]
    rw [wrColF _ _ _ _ _ (e6_2 i) (hl (by decide))]
    rw [wrColF _ _ _ _ _ (e6_1 i) (hl (by decide))]
    rw [wrColF _ _ _ _ _ (e6_0 i) (hl (by decide))]
    rfl

end Cert.KernelIdeal.Dx

end
-- ==== Proof.KernelIdealLoop.lean ====
/-
  What one trip of the dx call's first loop stores, and what all its trips leave, read at an index over the extended reals.
-/
module

public import proofs.«01_k».proof.Proof.Gen.KernelIdeal.Frame
public import proofs.«01_k».proof.Proof.Gen.KernelIdeal.Loops
public import proofs.«01_k».proof.Proof.KernelIdealTrip
public import Idealize.ShloMosaic.Lib.Pointwise
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 1000000

/-- What the first loop's first trips leave of the normalised activations. -/
theorem loop18_apply (𝒱 : Variants) (c : Dev nD) (bd : Option 𝒱.V) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X16 : BufTy.Contents (Elt Ideal) arg16.view.ty) (X20 : BufTy.Contents (Elt Ideal) arg20.view.ty) (G18 : BufTy.Contents (Elt Ideal) arg18.view.ty) (G21 : BufTy.Contents (Elt Ideal) arg21.view.ty) (G22 : BufTy.Contents (Elt Ideal) arg22.view.ty) (k : ℕ) (hk : k ≤ 16) (r l : ℕ) (hl : l < 1024) :
    nat2 (ev (arg18.view.read (Elt Ideal) (arg18.view.writes (Elt Ideal) G18 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X16 X20 G18 G21 G22 k).1))) r l
      = if r < 32 * k then nat2 (ev (arg6.view.read (Elt Ideal) X6)) r l * nat2 (ev (arg20.view.read (Elt Ideal) X20)) r (l % 128) * nat2 (ev (arg4.view.read (Elt Ideal) X4)) 0 (offc i + l) else nat2 (ev (arg18.view.read (Elt Ideal) G18)) r l := by
  induction k with
  | zero =>
    show nat2 (ev (arg18.view.read (Elt Ideal) G18)) r l = _
    simp
  | succ k ih =>
    have ih := ih (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X16 X20 G18 G21 G22 ⟨k, (by have : k < 16 := hk; exact this)⟩
    dsimp only at e
    rw [e]
    dsimp only [tripL_k0_t1]
    rw [View.writes_append, trip18_apply]
    · rw [ev, ih]
      dsimp only
      split_ifs <;> first | rfl | omega
    · assumption

/-- What the first loop's first trips leave of the row sums. -/
theorem loop21_apply (𝒱 : Variants) (c : Dev nD) (bd : Option 𝒱.V) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X16 : BufTy.Contents (Elt Ideal) arg16.view.ty) (X20 : BufTy.Contents (Elt Ideal) arg20.view.ty) (G18 : BufTy.Contents (Elt Ideal) arg18.view.ty) (G21 : BufTy.Contents (Elt Ideal) arg21.view.ty) (G22 : BufTy.Contents (Elt Ideal) arg22.view.ty) (k : ℕ) (hk : k ≤ 16) (r l : ℕ) (hl : l < 128) :
    nat2 (ev (arg21.view.read (Elt Ideal) (arg21.view.writes (Elt Ideal) G21 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X16 X20 G18 G21 G22 k).2.1))) r l
      = if r < 32 * k then nat2 (ev (arg21.view.read (Elt Ideal) G21)) r l + ∑ b ∈ Finset.range 8, nat2 (ev (arg16.view.read (Elt Ideal) X16)) r (offc i + (128 * b + l)) * (nat2 (ev (arg6.view.read (Elt Ideal) X6)) r (128 * b + l) * nat2 (ev (arg20.view.read (Elt Ideal) X20)) r l) * nat2 (ev (arg4.view.read (Elt Ideal) X4)) 0 (offc i + (128 * b + l)) else nat2 (ev (arg21.view.read (Elt Ideal) G21)) r l := by
  induction k with
  | zero =>
    show nat2 (ev (arg21.view.read (Elt Ideal) G21)) r l = _
    simp
  | succ k ih =>
    have ih := ih (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X16 X20 G18 G21 G22 ⟨k, (by have : k < 16 := hk; exact this)⟩
    dsimp only at e
    rw [e]
    dsimp only [tripL_k0_t1]
    rw [View.writes_append, trip21_apply]
    · rw [ev, ih]
      dsimp only
      split_ifs <;> first | rfl | omega
    · assumption

/-- What the first loop's first trips leave of the gain's gradient. -/
theorem loop22_apply (𝒱 : Variants) (c : Dev nD) (bd : Option 𝒱.V) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X16 : BufTy.Contents (Elt Ideal) arg16.view.ty) (X20 : BufTy.Contents (Elt Ideal) arg20.view.ty) (G18 : BufTy.Contents (Elt Ideal) arg18.view.ty) (G21 : BufTy.Contents (Elt Ideal) arg21.view.ty) (G22 : BufTy.Contents (Elt Ideal) arg22.view.ty) (k : ℕ) (hk : k ≤ 16) (r l : ℕ) (hr : r < 8) :
    nat2 (ev (arg22.view.read (Elt Ideal) (arg22.view.writes (Elt Ideal) G22 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X16 X20 G18 G21 G22 k).2.2))) r l
      = nat2 (ev (arg22.view.read (Elt Ideal) G22)) r l + if offc i ≤ l ∧ l < offc i + 1024 then ∑ k' ∈ Finset.range k, ∑ q ∈ Finset.range 4, nat2 (ev (arg16.view.read (Elt Ideal) X16)) (32 * k' + (8 * q + r)) l * (nat2 (ev (arg6.view.read (Elt Ideal) X6)) (32 * k' + (8 * q + r)) (l - offc i) * nat2 (ev (arg20.view.read (Elt Ideal) X20)) (32 * k' + (8 * q + r)) ((l - offc i) % 128)) else 0 := by
  induction k with
  | zero =>
    show nat2 (ev (arg22.view.read (Elt Ideal) G22)) r l = _
    simp
  | succ k ih =>
    have ih := ih (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X16 X20 G18 G21 G22 ⟨k, (by have : k < 16 := hk; exact this)⟩
    dsimp only at e
    rw [e]
    dsimp only [tripL_k0_t1]
    rw [View.writes_append, trip22_apply]
    · rw [ev, ih]
      dsimp only
      split_ifs
      · rw [Finset.sum_range_succ _ k, add_assoc]
      · rfl
    · assumption
end Cert.KernelIdeal.Dx

end
-- ==== Proof.KernelIdealPow.lean ====
/-
  The quantiser's exponent over the extended reals: the greatest power of two of the table not above a number gives the scale and the
  reciprocal scale that the logarithm's floor gives.
-/
module

public import Idealize.ShloMosaic.Lib.Pointwise

@[expose] public section

set_option maxRecDepth 4000

noncomputable section

namespace Cert.KernelIdeal.Dx

open Idealize.ShloMosaic

/-- The table's word of exponent field `n`. -/
def pwd (n : ℕ) : BitVec 32 := BitVec.ofNat 32 (n * 8388608)

/-- The word as a natural number. -/
theorem pwd_toNat {n : ℕ} (h : n < 256) : (pwd n).toNat = n * 8388608 := by
  rw [pwd, BitVec.toNat_ofNat]; omega

/-- The word as an integer. -/
theorem pwd_toInt {n : ℕ} (h : n < 256) : (pwd n).toInt = if n < 128 * 2 ∧ n * 8388608 < 2147483648 then (n * 8388608 : ℤ) else (n * 8388608 : ℤ) - 4294967296 := by
  rw [BitVec.toInt_eq_toNat_cond, pwd_toNat h]
  split_ifs <;> push_cast <;> omega

/-- The word's exponent field is its number. -/
theorem pwd_field {n : ℕ} (h : n < 256) : ((pwd n).extractLsb' 23 8).toNat = n := by
  rw [BitVec.extractLsb'_toNat, pwd_toNat h, Nat.shiftRight_eq_div_pow]; omega

/-- The word's fraction field is zero. -/
theorem pwd_low {n : ℕ} (h : n < 256) : ((pwd n).extractLsb' 0 23).toNat = 0 := by
  rw [BitVec.extractLsb'_toNat, pwd_toNat h, Nat.shiftRight_eq_div_pow]; omega

/-- The word's sign is plus. -/
theorem pwd_neg {n : ℕ} (h : n < 256) : ((pwd n).extractLsb' 31 1 == 1#1) = false := by
  have : ((pwd n).extractLsb' 31 1).toNat = 0 := by
    rw [BitVec.extractLsb'_toNat, pwd_toNat h, Nat.shiftRight_eq_div_pow]; omega
  rw [beq_eq_false_iff_ne]
  intro e
  rw [e] at this
  exact absurd this (by decide)

/-- A word whose bits below the exponent field are zero is the power of two. -/
theorem ofBits_pwd {n : ℕ} (h1 : 1 ≤ n) (h : n < 255) : Ideal.ofBits .f32 (pwd n) = (((2 : ℝ) ^ ((n : ℤ) - 127) : ℝ) : EReal) := by
  show Ideal.ieee 8 23 (pwd n) = _
  unfold Ideal.ieee
  rw [pwd_neg (by omega), pwd_field (by omega), pwd_low (by omega)]
  rw [if_neg (by omega), if_neg (by omega)]
  refine congrArg _ ?_
  have : ((n : ℤ) - 127) = 23 + ((n : ℤ) - 127 - 23) := by ring
  rw [this, zpow_add₀ (by norm_num)]
  norm_num

/-- The first word reads as zero. -/
theorem ofBits_pwd_zero : Ideal.ofBits .f32 (pwd 0) = 0 := by
  simp [pwd, Ideal.ofBits, Ideal.ieee]

/-- A number shifted by 23 is the word of that exponent field. -/
theorem shl_pwd {n : ℕ} (h : n < 256) : IntOp.shli .vector (BitVec.ofNat 32 n) 23#32 = pwd n := by
  refine BitVec.eq_of_toNat_eq ?_
  rw [pwd_toNat h, IntOp.shli, if_pos (by decide), BitVec.shiftLeft_eq', BitVec.toNat_shiftLeft, Nat.shiftLeft_eq]
  rw [BitVec.toNat_ofNat, show (23#32).toNat = 23 from rfl]
  omega

/-- Adding one to the exponent field. -/
theorem add_pwd {n : ℕ} : IntOp.addi (pwd n) 8388608#32 = pwd (n + 1) := by
  show BitVec.ofNat 32 _ + BitVec.ofNat 32 8388608 = BitVec.ofNat 32 _
  rw [← BitVec.ofNat_add]
  exact congrArg _ (by ring)

/-- The exponent field of the inverse. -/
theorem sub_pwd {n : ℕ} (h : n < 240) : IntOp.subi 2122317824#32 (pwd n) = pwd (253 - n) := by
  refine BitVec.eq_of_toNat_eq ?_
  rw [IntOp.subi, BitVec.toNat_sub, pwd_toNat (by omega), pwd_toNat (by omega)]
  simp only [BitVec.toNat_ofNat]
  omega

/-- A word is zero when its exponent field is. -/
theorem pwd_eq_zero {n : ℕ} (h : n < 256) : IntOp.cmpi .eq (pwd n) 0#32 = if n = 0 then 1#1 else 0#1 := by
  have : (pwd n == 0#32) = decide (n = 0) := by
    rw [Bool.eq_iff_iff, beq_iff_eq, decide_eq_true_iff]
    constructor
    · intro e
      have := congrArg BitVec.toNat e
      rw [pwd_toNat h] at this
      simp at this
      exact this
    · rintro rfl; rfl
  show BitVec.ofBool (pwd n == 0#32) = _
  rw [this]
  by_cases h0 : n = 0 <;> simp [h0]

/-- The exponent word of a number: the greatest of the table's words whose power of two is not above it. -/
def ew (y : EReal) : BitVec 32 :=
  Finset.fold IntOp.maxsi 2147483648#32 (fun x : Fin 240 => if Ideal.ofBits .f32 (pwd x.val) ≤ y then pwd x.val else 0#32) Finset.univ

/-- The scale the exponent word gives. -/
def scw (y : EReal) : EReal := Scalar.select (IntOp.cmpi .eq (ew y) 0#32) 1 (Ideal.ofBits .f32 (IntOp.addi (ew y) 8388608#32))
/-- The reciprocal scale the exponent word gives. -/
def inw (y : EReal) : EReal := Scalar.select (IntOp.cmpi .eq (ew y) 0#32) 1 (Ideal.ofBits .f32 (IntOp.subi 2122317824#32 (ew y)))

/-- A fold of the signed maximum whose greatest member is `N` is `N`. -/
theorem fold_maxsi {ι : Type} [DecidableEq ι] (f : ι → BitVec 32) (N : BitVec 32) (s : Finset ι) (hf : ∀ x ∈ s, (f x).toInt ≤ N.toInt) (n : ι) (hn : f n = N) :
    (Finset.fold IntOp.maxsi 2147483648#32 f s).toInt ≤ N.toInt ∧ (n ∈ s → Finset.fold IntOp.maxsi 2147483648#32 f s = N) := by
  induction s using Finset.induction_on with
  | empty =>
    refine ⟨?_, fun h => absurd h (Finset.notMem_empty _)⟩
    rw [Finset.fold_empty]
    refine le_trans (le_of_eq (by decide)) (BitVec.le_toInt N)
  | insert a s ha ih =>
    obtain ⟨i1, i2⟩ := ih fun x hx => hf x (Finset.mem_insert_of_mem hx)
    have hA := hf a (Finset.mem_insert_self a s)
    rw [Finset.fold_insert ha]
    generalize Finset.fold IntOp.maxsi 2147483648#32 f s = X at i1 i2 ⊢
    have em : IntOp.maxsi (f a) X = if X.toInt < (f a).toInt then f a else X := by
      unfold IntOp.maxsi
      simp only [BitVec.slt_eq_decide, decide_eq_true_eq]
    rw [em]
    refine ⟨by split <;> assumption, fun hm => ?_⟩
    rcases Finset.mem_insert.1 hm with rfl | hs
    · rw [hn] at hA ⊢
      split
      · rfl
      · exact BitVec.eq_of_toInt_eq (by omega)
    · rw [i2 hs]
      split
      · exact BitVec.eq_of_toInt_eq (by omega)
      · rfl

/-- If the power of field `n` is not above `y` (or `n` is zero) and none of a larger field is, the exponent bits of `y` are those of `n`. -/
theorem ew_eq {y : EReal} {n : ℕ} (hn : n < 240) (h1 : n = 0 ∨ Ideal.ofBits .f32 (pwd n) ≤ y) (h2 : ∀ k, n < k → k < 240 → ¬ Ideal.ofBits .f32 (pwd k) ≤ y) : ew y = pwd n := by
  refine (fold_maxsi _ (pwd n) Finset.univ (fun x _ => ?_) ⟨n, hn⟩ ?_).2 (Finset.mem_univ _)
  · have hx := x.isLt
    split
    · rename_i h
      have : x.val ≤ n := by by_contra hc; exact h2 _ (by omega) hx h
      rw [pwd_toInt (by omega), pwd_toInt (by omega), if_pos (by omega), if_pos (by omega)]
      omega
    · rw [pwd_toInt (by omega), if_pos (by omega)]
      simp
  · rcases h1 with rfl | h1
    · split <;> rfl
    · rw [if_pos h1]

/-- The exponent the reference takes: the floor of the logarithm plus one, at most 113, and zero below the smallest normal number. -/
def rexp (y : EReal) : EReal :=
  if y < Ideal.ofBits .f32 0x00800000#32 then 0
  else min (Ideal.liftRound Int.floor (Ideal.div (Ideal.log y) (Ideal.log (Ideal.ofBits .f32 0x40000000#32))) + 1) (Ideal.ofBits .f32 0x42E20000#32)

/-- The constant 2. -/
theorem bits_two : Ideal.ofBits .f32 0x40000000#32 = ((2 : ℝ) : EReal) := by
  simp [Ideal.ofBits, Ideal.ieee, -EReal.coe_mul]; norm_num
/-- The constant 113. -/
theorem bits_113 : Ideal.ofBits .f32 0x42E20000#32 = ((113 : ℝ) : EReal) := by
  simp [Ideal.ofBits, Ideal.ieee, -EReal.coe_mul]; norm_num

/-- The logarithm of two is the real one. -/
theorem log_two : Ideal.log ((2 : ℝ) : EReal) = ((Real.log 2 : ℝ) : EReal) := by
  show (if (2 : ℝ) ≤ 0 then ⊥ else (Real.log 2 : EReal)) = _
  rw [if_neg (by norm_num)]

/-- The logarithm of two is positive. -/
theorem log2_pos : (0 : ℝ) < Real.log 2 := Real.log_pos (by norm_num)

/-- The exponent of a number between two consecutive powers of two. -/
theorem rexp_eq {y : EReal} {n : ℕ} (h0 : 1 ≤ n) (hn : n < 240) (h1 : Ideal.ofBits .f32 (pwd n) ≤ y) (h2 : ∀ k, n < k → k < 240 → ¬ Ideal.ofBits .f32 (pwd k) ≤ y) :
    rexp y = (((n : ℝ) - 126 : ℝ) : EReal) := by
  rw [ofBits_pwd h0 (by omega)] at h1
  have hp : (((2 : ℝ) ^ ((1 : ℤ) - 127) : ℝ) : EReal) ≤ (((2 : ℝ) ^ ((n : ℤ) - 127) : ℝ) : EReal) :=
    EReal.coe_le_coe_iff.2 (zpow_le_zpow_right₀ (by norm_num) (by omega))
  unfold rexp
  rw [if_neg (by rw [show (0x00800000#32) = pwd 1 from rfl, ofBits_pwd (le_refl _) (by omega), not_lt]; exact hp.trans h1), bits_two, log_two, bits_113]
  induction y using EReal.rec with
  | bot => exact absurd h1 (by rw [not_le]; exact EReal.bot_lt_coe _)
  | top =>
    have hn' : n = 239 := by
      by_contra hc
      exact h2 239 (by omega) (by omega) le_top
    subst hn'
    have e : Ideal.div (Ideal.log ⊤) ((Real.log 2 : ℝ) : EReal) = ⊤ := by
      show Ideal.div ⊤ _ = ⊤
      unfold Ideal.div
      rw [if_neg (by exact_mod_cast log2_pos.ne'), ← EReal.coe_inv]
      exact EReal.top_mul_coe_of_pos (inv_pos.2 log2_pos)
    rw [e, Ideal.liftRound_top, EReal.top_add_of_ne_bot (by exact EReal.coe_ne_bot 1), min_eq_right le_top]
    norm_num
  | coe r =>
    have h1 := EReal.coe_le_coe_iff.1 h1
    have hr : 0 < r := lt_of_lt_of_le (zpow_pos (by norm_num) _) h1
    have e : Ideal.div (Ideal.log (r : EReal)) ((Real.log 2 : ℝ) : EReal) = ((Real.log r / Real.log 2 : ℝ) : EReal) := by
      have : Ideal.log (r : EReal) = ((Real.log r : ℝ) : EReal) := by
        show (if r ≤ 0 then ⊥ else (Real.log r : EReal)) = _
        rw [if_neg (not_le.2 hr)]
      rw [this, Ideal.div_coe log2_pos.ne', ← EReal.coe_mul]
      exact congrArg _ (by ring)
    have hlo : ((n : ℝ) - 127) ≤ Real.log r / Real.log 2 := by
      rw [le_div_iff₀ log2_pos]
      have := Real.log_le_log (zpow_pos (by norm_num) _) h1
      rw [Real.log_zpow] at this
      push_cast at this
      exact this
    have hf : ((n : ℤ) - 127) ≤ ⌊Real.log r / Real.log 2⌋ := Int.le_floor.2 (by push_cast; exact hlo)
    rw [e, Ideal.liftRound_coe]
    show min (((⌊Real.log r / Real.log 2⌋ : ℤ) : ℝ) + ((1 : ℝ) : EReal) : EReal) _ = _
    rw [← EReal.coe_add, ← EReal.coe_strictMono.monotone.map_min]
    refine congrArg _ ?_
    rcases Nat.lt_or_ge n 239 with hlt | hge
    · have h3 := h2 (n + 1) (by omega) (by omega)
      rw [ofBits_pwd (by omega) (by omega), EReal.coe_le_coe_iff, not_le] at h3
      have hhi : Real.log r / Real.log 2 < ((n : ℤ) - 127 : ℤ) + 1 := by
        rw [div_lt_iff₀ log2_pos]
        have := Real.log_lt_log hr h3
        rw [Real.log_zpow] at this
        push_cast at this ⊢
        linarith [this]
      have hff : ⌊Real.log r / Real.log 2⌋ = (n : ℤ) - 127 := Int.floor_eq_iff.2 ⟨by push_cast; exact hlo, hhi⟩
      rw [hff, min_eq_left]
      · push_cast; ring
      · have : (n : ℝ) ≤ 238 := by exact_mod_cast (by omega : n ≤ 238)
        push_cast; linarith
    · have hn' : n = 239 := by omega
      subst hn'
      have : (112 : ℝ) ≤ (⌊Real.log r / Real.log 2⌋ : ℝ) := by
        have : (112 : ℤ) ≤ ⌊Real.log r / Real.log 2⌋ := by have := hf; push_cast at this; omega
        exact_mod_cast this
      rw [min_eq_right (by linarith)]
      norm_num

/-- Two to a whole number is the real power. -/
theorem exp2_int (z : ℤ) (x : ℝ) (h : x = z) : Ideal.exp2 (x : EReal) = (((2 : ℝ) ^ z : ℝ) : EReal) := by
  show ((Real.rpow 2 x : ℝ) : EReal) = _
  rw [h]
  exact congrArg _ (Real.rpow_intCast 2 z)

/-- The table's scale and reciprocal scale are two to the reference's exponent and to its negative. -/
theorem scale_eq (y : EReal) : scw y = Ideal.exp2 (rexp y) ∧ inw y = Ideal.exp2 (0 - rexp y) := by
  classical
  by_cases hy : y < Ideal.ofBits .f32 (pwd 1)
  · have he : ew y = pwd 0 := ew_eq (by omega) (.inl rfl) fun k hk hk' hc => by
      have : Ideal.ofBits .f32 (pwd 1) ≤ Ideal.ofBits .f32 (pwd k) := by
        rw [ofBits_pwd (le_refl _) (by omega), ofBits_pwd (by omega) (by omega)]
        exact EReal.coe_le_coe_iff.2 (zpow_le_zpow_right₀ (by norm_num) (by omega))
      exact absurd (this.trans hc) (not_le.2 hy)
    have hr : rexp y = ((0 : ℝ) : EReal) := if_pos hy
    unfold scw inw
    rw [he, hr, pwd_eq_zero (by omega), if_pos rfl, exp2_int 0 _ (by simp), show (0 : EReal) - ((0 : ℝ) : EReal) = ((0 : ℝ) : EReal) by simp, exp2_int 0 _ (by simp)]
    constructor <;> (show (1 : EReal) = _; simp)
  · have hy := not_lt.1 hy
    let P : ℕ → Prop := fun k => Ideal.ofBits .f32 (pwd k) ≤ y
    let n := Nat.findGreatest P 239
    have hn : n ≤ 239 := Nat.findGreatest_le 239
    have h1 : P n := Nat.findGreatest_spec (P := P) (m := 1) (by omega) hy
    have h0 : 1 ≤ n := Nat.le_findGreatest (by omega) hy
    have h2 : ∀ k, n < k → k < 240 → ¬ P k := fun k hk hk' => Nat.findGreatest_is_greatest hk (by omega)
    have he : ew y = pwd n := ew_eq (by omega) (.inr h1) h2
    have hr := rexp_eq h0 (by omega) h1 h2
    unfold scw inw
    rw [he, hr, pwd_eq_zero (by omega), if_neg (by omega), add_pwd, sub_pwd (by omega), ofBits_pwd (by omega) (by omega), ofBits_pwd (by omega) (by omega),
      exp2_int ((n : ℤ) - 126) _ (by push_cast; ring), show (0 : EReal) - (((n : ℝ) - 126 : ℝ) : EReal) = ((126 - (n : ℝ) : ℝ) : EReal) by
        rw [← EReal.coe_zero, ← EReal.coe_sub]; exact congrArg _ (by ring), exp2_int (126 - (n : ℤ)) _ (by push_cast; ring)]
    constructor
    · show (((2 : ℝ) ^ (((n + 1 : ℕ) : ℤ) - 127) : ℝ) : EReal) = _
      refine congrArg _ (congrArg _ (by push_cast; ring))
    · show (((2 : ℝ) ^ (((253 - n : ℕ) : ℤ) - 127) : ℝ) : EReal) = _
      refine congrArg _ (congrArg _ ?_)
      rw [Nat.cast_sub (by omega)]; push_cast; ring

end Cert.KernelIdeal.Dx

end
-- ==== Proof.KernelIdealQuant.lean ====
/-
  What one trip of the dx call's second loop stores of the codes and of the scales, and what all its trips leave, read at an index over
  the extended reals.
-/
module

public import proofs.«01_k».proof.Proof.Gen.KernelIdeal.Frame
public import proofs.«01_k».proof.Proof.Gen.KernelIdeal.Loops
public import Idealize.ShloMosaic.Lib.Pointwise
public import proofs.«01_k».proof.Proof.KernelIdealNat2
public import proofs.«01_k».proof.Proof.KernelIdealPow
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {sig : RefSig} {κ : Kind} {sp : Space} {n m p q : ℕ}

/-- A rectangle inside an array is inside along both axes. -/
private theorem in0 {n m p q : ℕ} {off : Fin 2 → ℕ} {o0 o1 : ℕ} (inb : ∀ a, off a + (![p, q] : Fin 2 → ℕ) a ≤ (![n, m] : Fin 2 → ℕ) a) (h : off = ![o0, o1]) :
    o0 + p ≤ n ∧ o1 + q ≤ m := by
  subst h
  exact ⟨inb 0, inb 1⟩

/-- Under the newest piece of a buffer of type `.fp8e5m2`: its payload. -/
theorem wrInG (v : View sig κ sp ⟨2, ![n, m]⟩ .fp8e5m2) (f : v.ty.Contents (Elt Ideal)) {off : Fin 2 → ℕ} {o0 o1 : ℕ} (inb)
    (w : (⟨2, ![p, q]⟩ : Shape).Idx → EReal) (L : List (View.Piece (Elt Ideal) ⟨2, ![n, m]⟩ .fp8e5m2)) (h : off = ![o0, o1]) {r c : ℕ}
    (hr : o0 ≤ r ∧ r < o0 + p) (hc : o1 ≤ c ∧ c < o1 + q) :
    nat2 (n := n) (m := m) (
        v.read (Elt Ideal) (v.writes (Elt Ideal) f ((⟨Rect.unit (s := ⟨2, ![n, m]⟩) off ![p, q] inb, w⟩ : View.Piece (Elt Ideal) ⟨2, ![n, m]⟩ .fp8e5m2) :: L))) r c
      = w (ix2 ⟨r - o0, by omega⟩ ⟨c - o1, by omega⟩) := by
  have h0 := (in0 inb h).1
  have h1 := (in0 inb h).2
  rw [nat2_lt _ (by omega) (by omega)]
  refine View.read_writes_cons_unit_of_mem v f inb w L _ (ix2 ⟨r - o0, by omega⟩ ⟨c - o1, by omega⟩) h fun a => ?_
  refine Fin.cases ?_ (fun y => ?_) a
  · show r = o0 + (r - o0)
    omega
  · obtain rfl : y = 0 := Subsingleton.elim _ _
    show c = o1 + (c - o1)
    omega

/-- Off the newest piece's rows. -/
theorem wrRowG (v : View sig κ sp ⟨2, ![n, m]⟩ .fp8e5m2) (f : v.ty.Contents (Elt Ideal)) {off : Fin 2 → ℕ} {o0 o1 : ℕ} (inb)
    (w : (⟨2, ![p, q]⟩ : Shape).Idx → EReal) (L : List (View.Piece (Elt Ideal) ⟨2, ![n, m]⟩ .fp8e5m2)) (h : off = ![o0, o1]) {r c : ℕ}
    (hr : r < o0 ∨ o0 + p ≤ r) :
    nat2 (n := n) (m := m) (
        v.read (Elt Ideal) (v.writes (Elt Ideal) f ((⟨Rect.unit (s := ⟨2, ![n, m]⟩) off ![p, q] inb, w⟩ : View.Piece (Elt Ideal) ⟨2, ![n, m]⟩ .fp8e5m2) :: L))) r c
      = nat2 (n := n) (m := m) (v.read (Elt Ideal) (v.writes (Elt Ideal) f L)) r c := by
  unfold nat2
  split
  · exact View.read_writes_cons_unit_of_not_mem v f inb w L _ h 0 hr
  · rfl

/-- Off the newest piece's columns. -/
theorem wrColG (v : View sig κ sp ⟨2, ![n, m]⟩ .fp8e5m2) (f : v.ty.Contents (Elt Ideal)) {off : Fin 2 → ℕ} {o0 o1 : ℕ} (inb)
    (w : (⟨2, ![p, q]⟩ : Shape).Idx → EReal) (L : List (View.Piece (Elt Ideal) ⟨2, ![n, m]⟩ .fp8e5m2)) (h : off = ![o0, o1]) {r c : ℕ}
    (hc : c < o1 ∨ o1 + q ≤ c) :
    nat2 (n := n) (m := m) (
        v.read (Elt Ideal) (v.writes (Elt Ideal) f ((⟨Rect.unit (s := ⟨2, ![n, m]⟩) off ![p, q] inb, w⟩ : View.Piece (Elt Ideal) ⟨2, ![n, m]⟩ .fp8e5m2) :: L))) r c
      = nat2 (n := n) (m := m) (v.read (Elt Ideal) (v.writes (Elt Ideal) f L)) r c := by
  unfold nat2
  split
  · exact View.read_writes_cons_unit_of_not_mem v f inb w L _ h 1 hc
  · rfl

end

/-- The gradient at a row and column, of what the second loop reads. -/
def dxv (R19 R16 R4 R17 R20 R21 R9 : ℕ → ℕ → EReal) (r l : ℕ) : EReal :=
  R19 r (l % 128) * (R16 r l * R4 0 l - R17 r l * R20 r (l % 128) * ((∑ j ∈ Finset.range 128, R21 r j) * Ideal.ofBits .f32 0x39800000#32)) + R9 r l

/-- The greatest magnitude of 128 numbers, times the word of one in 57344. -/
def amx (f : Fin 128 → EReal) : EReal :=
  Finset.fold max (Ideal.ofBits .f32 0xFF800000#32) (fun x => FloatOps.absf (F := Ideal) (φ := .f32) (f x)) Finset.univ * Ideal.ofBits .f32 0x37924925#32

/-- The scaled greatest magnitude of block `b` of row `r`. -/
def blkm (V : ℕ → ℕ → EReal) (r b : ℕ) : EReal := amx fun x => V r (128 * b + x.val)
/-- A number times a reciprocal scale, clipped. -/
def clipw (x i : EReal) : EReal := min (Ideal.ofBits .f32 0x47600000#32) (max (Ideal.ofBits .f32 0xC7600000#32) (x * i))
/-- The code at a row and column. -/
def codew (V : ℕ → ℕ → EReal) (r l : ℕ) : EReal := clipw (V r l) (inw (blkm V r (l / 128)))

/-- The scaled greatest magnitudes of a block's rows, as the body takes them. -/
def kQ (v : FVec Ideal S32x128 .f32) : FVec Ideal S32x1 .f32 :=
  mulf (shapeCast S32x1 (multiReduction .maximumf [1] S32 (absf v) 0xFF800000#32 reduces_S32x128_S32 (.inl rfl) rfl) shapeCasts_S32_S32x1) (broadcast S32x1 (Scalar.ofBits .f32 0x37924925#32))
/-- The exponent words of a block's rows. -/
def kE (v : FVec Ideal S32x128 .f32) : IVec S32x1 32 := k0_pay67 (kQ v) (iota .tc S32x240 32 [1] iota_S32x240_d1_w32) 23#32
/-- The scales of a block's rows. -/
def kS (v : FVec Ideal S32x128 .f32) : FVec Ideal S32x1 .f32 :=
  select (cmpi .eq (kE v) (broadcast S32x1 0#32)) (broadcast S32x1 (Scalar.ofBits .f32 0x3F800000#32)) (bitcastToFloat .f32 (addi (kE v) (broadcast S32x1 8388608#32)))
/-- The codes of a block. -/
def kC (v : FVec Ideal S32x128 .f32) : FVec Ideal S32x128 .fp8e5m2 := k0_pay69 v (kQ v) (iota .tc S32x240 32 [1] iota_S32x240_d1_w32) 23#32
/-- The scales with lane `b` set. -/
def kL (prev : FVec Ideal S32x128 .f32) (b : BitVec 32) (w : FVec Ideal S32x1 .f32) : FVec Ideal S32x128 .f32 :=
  select (cmpi .eq (iota .tc S32x128 32 [1] iota_S32x128_d1_w32) (broadcast S32x128 b)) (broadcastTo S32x128 (shapeCast S32x1 w shapeCasts_S32x1_S32x1) broadcasts_S32x1_S32x128) prev

/-- A row's scaled maximum. -/
theorem kQ_apply (v : FVec Ideal S32x128 .f32) (r : Fin 32) : kQ v (ix2 r 0) = amx fun x => v (ix2 r x) := by
  unfold kQ amx
  pointwise []

/-- A row's exponent bits. -/
theorem kE_apply (v : FVec Ideal S32x128 .f32) (r : Fin 32) : kE v (ix2 r 0) = ew (amx fun x => v (ix2 r x)) := by
  unfold kE ew
  rw [← kQ_apply]
  generalize kQ v = y
  pointwise [k0_pay67]
  refine congrArg (fun g => Finset.fold IntOp.maxsi 2147483648#32 g Finset.univ) (funext fun x => ?_)
  show (if Ideal.ofBits .f32 (IntOp.shli .vector (BitVec.ofNat 32 x.val) 23#32) ≤ _ then IntOp.shli .vector (BitVec.ofNat 32 x.val) 23#32 else _) = _
  rw [shl_pwd (by have := x.isLt; omega)]

/-- A code of a block. -/
theorem kC_apply (v : FVec Ideal S32x128 .f32) (r : Fin 32) (l : Fin 128) : kC v (ix2 r l) = clipw (v (ix2 r l)) (inw (amx fun x => v (ix2 r x))) := by
  have he := kE_apply v r
  unfold kE at he
  unfold kC k0_pay69 k0_pay68
  generalize k0_pay67 (F := Ideal) (kQ v) (iota .tc S32x240 32 [1] iota_S32x240_d1_w32) 23#32 = e at he ⊢
  unfold inw clipw
  rw [← he]
  pointwise []

/-- A row's scale. -/
theorem kS_apply (v : FVec Ideal S32x128 .f32) (r : Fin 32) : kS v (ix2 r 0) = scw (amx fun x => v (ix2 r x)) := by
  have he := kE_apply v r
  unfold kS
  generalize kE v = e at he ⊢
  unfold scw
  rw [← he]
  pointwise []

/-- A select on the lane number, read at a lane. -/
theorem kL_apply (prev : FVec Ideal S32x128 .f32) (b : ℕ) (hb : b < 128) (w : FVec Ideal S32x1 .f32) (r : Fin 32) (l : Fin 128) :
    kL prev (BitVec.ofNat 32 b) w (ix2 r l) = if l.val = b then w (ix2 r 0) else prev (ix2 r l) := by
  have hl := l.isLt
  unfold kL
  pointwise []
  show (if IntOp.cmpi .eq (BitVec.ofNat 32 l.val) (BitVec.ofNat 32 b) = 1#1 then _ else _) = _
  refine if_congr ?_ rfl rfl
  have e : IntOp.cmpi .eq (BitVec.ofNat 32 l.val) (BitVec.ofNat 32 b) = BitVec.ofBool (BitVec.ofNat 32 l.val == BitVec.ofNat 32 b) := rfl
  rw [e]
  constructor
  · intro h
    by_contra hne
    have hf : (BitVec.ofNat 32 l.val == BitVec.ofNat 32 b) = false := by
      rw [beq_eq_false_iff_ne]
      intro he
      have := congrArg BitVec.toNat he
      rw [BitVec.toNat_ofNat, BitVec.toNat_ofNat, Nat.mod_eq_of_lt (by omega), Nat.mod_eq_of_lt (by omega)] at this
      exact hne this
    rw [hf] at h
    exact absurd h (by decide)
  · intro h
    rw [h, beq_self_eq_true]
    rfl

/-- A box's extents, of its offsets. -/
theorem inbox {n m p q : ℕ} {off : Fin 2 → ℕ} {o0 o1 : ℕ} (h : off = ![o0, o1]) (h0 : o0 + p ≤ n) (h1 : o1 + q ≤ m) :
    ∀ a, off a + (![p, q] : Fin 2 → ℕ) a ≤ (![n, m] : Fin 2 → ℕ) a := by
  subst h
  intro a
  refine Fin.cases ?_ (fun y => ?_) a
  · exact h0
  · obtain rfl : y = 0 := Subsingleton.elim _ _
    exact h1

/-- A sum over the lanes as a sum over numbers below 128. -/
theorem sum_lanes {f : Fin 128 → EReal} {g : ℕ → EReal} (h : ∀ x : Fin 128, f x = g x.val) : ∑ x, f x = ∑ j ∈ Finset.range 128, g j := by
  rw [Finset.sum_range]
  exact Finset.sum_congr rfl fun x _ => h x

/-- Differences of equals are equal. -/
theorem sub_congr {a b c d : EReal} (h : a = b) (h' : c = d) : a - c = b - d := by rw [h, h']

section
variable {k b n4 : ℕ} (hk : k < 16) (hb : b < 32) (h4 : n4 = 128 * b) {o14 o : Fin 2 → ℕ} (h14 : o14 = ![32 * k, 0]) (ho : o = ![32 * k, 128 * b])
    (arg4 : Memref sig Kind.tc Space.vmem S1x4096 EltTy.f32) (arg9 : Memref sig Kind.tc Space.vmem S512x4096 EltTy.bf16)
    (arg16 : Memref sig Kind.tc Space.vmem S512x4096 EltTy.f32) (arg17 : Memref sig Kind.tc Space.vmem S512x4096 EltTy.fp8e4m3)
    (arg19 arg20 arg21 : Memref sig Kind.tc Space.vmem S512x128 EltTy.f32)
    (X4 : BufTy.Contents (Elt Ideal) arg4.view.ty) (X9 : BufTy.Contents (Elt Ideal) arg9.view.ty) (X16 : BufTy.Contents (Elt Ideal) arg16.view.ty)
    (X17 : BufTy.Contents (Elt Ideal) arg17.view.ty) (X19 : BufTy.Contents (Elt Ideal) arg19.view.ty) (X20 : BufTy.Contents (Elt Ideal) arg20.view.ty)
    (X21 : BufTy.Contents (Elt Ideal) arg21.view.ty)

/-- Block `b` of the gradient at trip `k`, as the body computes it of its loads. -/
def vblk : FVec Ideal S32x128 .f32 :=
  k0_pay64 (F := Ideal)
    (View.readAt (Elt Ideal) arg20.view (Rect.unit (s := S512x128) o14 ![32, 128] (inbox h14 (by omega) (by omega))).toLoadRect X20)
    (View.readAt (Elt Ideal) arg19.view (Rect.unit (s := S512x128) o14 ![32, 128] (inbox h14 (by omega) (by omega))).toLoadRect X19)
    (View.readAt (Elt Ideal) arg21.view (Rect.unit (s := S512x128) o14 ![32, 128] (inbox h14 (by omega) (by omega))).toLoadRect X21)
    (View.readAt (Elt Ideal) arg17.view (Rect.unit (s := S512x4096) o ![32, 128] (inbox ho (by omega) (by omega))).toLoadRect X17)
    (View.readAt (Elt Ideal) arg16.view (Rect.unit (s := S512x4096) o ![32, 128] (inbox ho (by omega) (by omega))).toLoadRect X16)
    (View.readAt (Elt Ideal) arg4.view (Rect.unit (s := S1x4096) ![0, n4] ![1, 128] (inbox rfl (by omega) (by omega))).toLoadRect X4)
    (View.readAt (Elt Ideal) arg9.view (Rect.unit (s := S512x4096) o ![32, 128] (inbox ho (by omega) (by omega))).toLoadRect X9)

/-- A block's gradient is the gradient at the block's rows and columns. -/
theorem vblk_apply (a : Fin 32) (x : Fin 128) : vblk hk hb h4 h14 ho arg4 arg9 arg16 arg17 arg19 arg20 arg21 X4 X9 X16 X17 X19 X20 X21 (ix2 a x) = (dxv (nat2 (ev (arg19.view.read (Elt Ideal) X19))) (nat2 (ev (arg16.view.read (Elt Ideal) X16))) (nat2 (ev (arg4.view.read (Elt Ideal) X4))) (nat2 (ev (arg17.view.read (Elt Ideal) X17))) (nat2 (ev (arg20.view.read (Elt Ideal) X20))) (nat2 (ev (arg21.view.read (Elt Ideal) X21))) (nat2 (ev (arg9.view.read (Elt Ideal) X9)))) (32 * k + a.val) (128 * b + x.val) := by
  unfold vblk dxv
  pointwise [k0_pay64,k0_pay62,k0_pay63]
  rw [rdF _ _ _ h14, rdF _ _ _ h14, rdF _ _ _ ho, rdF _ _ _ (rfl : _ = ![0, n4]), rdE _ _ _ ho, rdB _ _ _ ho]
  refine add_congr (mul_congr (nat2_congr ?_ ?_) (sub_congr (mul_congr (nat2_congr ?_ ?_) (nat2_congr ?_ ?_)) (mul_congr (mul_congr (nat2_congr ?_ ?_) (nat2_congr ?_ ?_)) (mul_congr (sum_lanes fun x => ?_) rfl)))) (nat2_congr ?_ ?_)
  case refine_11 => rw [rdF _ _ _ h14]; exact nat2_congr rfl (by omega)
  all_goals (try simp only [Fin.val_zero, Fin.isValue]) <;> omega

/-- The gradient of a block. -/
theorem dxblk {r l : ℕ} (hr : 32 * k ≤ r ∧ r < 32 * k + 32) (hl : 128 * b ≤ l ∧ l < 128 * b + 128) :
    truncf .bf16 (vblk hk hb h4 h14 ho arg4 arg9 arg16 arg17 arg19 arg20 arg21 X4 X9 X16 X17 X19 X20 X21) bitsLt_bf16_f32 (ix2 ⟨r - 32 * k, by omega⟩ ⟨l - 128 * b, by omega⟩) = (dxv (nat2 (ev (arg19.view.read (Elt Ideal) X19))) (nat2 (ev (arg16.view.read (Elt Ideal) X16))) (nat2 (ev (arg4.view.read (Elt Ideal) X4))) (nat2 (ev (arg17.view.read (Elt Ideal) X17))) (nat2 (ev (arg20.view.read (Elt Ideal) X20))) (nat2 (ev (arg21.view.read (Elt Ideal) X21))) (nat2 (ev (arg9.view.read (Elt Ideal) X9)))) r l := by
  show vblk hk hb h4 h14 ho arg4 arg9 arg16 arg17 arg19 arg20 arg21 X4 X9 X16 X17 X19 X20 X21 (ix2 _ _) = _
  rw [vblk_apply]
  rw [show 32 * k + (r - 32 * k) = r from by omega, show 128 * b + (l - 128 * b) = l from by omega]

/-- The codes of a block. -/
theorem codeblk {r l : ℕ} (hr : 32 * k ≤ r ∧ r < 32 * k + 32) (hl : 128 * b ≤ l ∧ l < 128 * b + 128) :
    kC (vblk hk hb h4 h14 ho arg4 arg9 arg16 arg17 arg19 arg20 arg21 X4 X9 X16 X17 X19 X20 X21) (ix2 ⟨r - 32 * k, by omega⟩ ⟨l - 128 * b, by omega⟩) = codew (dxv (nat2 (ev (arg19.view.read (Elt Ideal) X19))) (nat2 (ev (arg16.view.read (Elt Ideal) X16))) (nat2 (ev (arg4.view.read (Elt Ideal) X4))) (nat2 (ev (arg17.view.read (Elt Ideal) X17))) (nat2 (ev (arg20.view.read (Elt Ideal) X20))) (nat2 (ev (arg21.view.read (Elt Ideal) X21))) (nat2 (ev (arg9.view.read (Elt Ideal) X9)))) r l := by
  rw [kC_apply, vblk_apply]
  unfold codew blkm
  have e : l / 128 = b := by omega
  simp only [vblk_apply, e]
  rw [show 32 * k + (r - 32 * k) = r from by omega, show 128 * b + (l - 128 * b) = l from by omega]

/-- The scales of a block. -/
theorem scblk {r : ℕ} (hr : 32 * k ≤ r ∧ r < 32 * k + 32) :
    kS (vblk hk hb h4 h14 ho arg4 arg9 arg16 arg17 arg19 arg20 arg21 X4 X9 X16 X17 X19 X20 X21) (ix2 ⟨r - 32 * k, by omega⟩ 0) = scw (blkm (dxv (nat2 (ev (arg19.view.read (Elt Ideal) X19))) (nat2 (ev (arg16.view.read (Elt Ideal) X16))) (nat2 (ev (arg4.view.read (Elt Ideal) X4))) (nat2 (ev (arg17.view.read (Elt Ideal) X17))) (nat2 (ev (arg20.view.read (Elt Ideal) X20))) (nat2 (ev (arg21.view.read (Elt Ideal) X21))) (nat2 (ev (arg9.view.read (Elt Ideal) X9)))) r b) := by
  rw [kS_apply]
  unfold blkm
  simp only [vblk_apply]
  rw [show 32 * k + (r - 32 * k) = r from by omega]

/-- The scales' lanes, the newest on top. -/
theorem scstep {r : ℕ} (hr : 32 * k ≤ r ∧ r < 32 * k + 32) {l : ℕ} (hl : l < 128) (prev : FVec Ideal S32x128 .f32)
    (h : l ≠ b → prev (ix2 ⟨r - 32 * k, by omega⟩ ⟨l, hl⟩) = scw (blkm (dxv (nat2 (ev (arg19.view.read (Elt Ideal) X19))) (nat2 (ev (arg16.view.read (Elt Ideal) X16))) (nat2 (ev (arg4.view.read (Elt Ideal) X4))) (nat2 (ev (arg17.view.read (Elt Ideal) X17))) (nat2 (ev (arg20.view.read (Elt Ideal) X20))) (nat2 (ev (arg21.view.read (Elt Ideal) X21))) (nat2 (ev (arg9.view.read (Elt Ideal) X9)))) r l)) :
    kL prev (BitVec.ofNat 32 b) (kS (vblk hk hb h4 h14 ho arg4 arg9 arg16 arg17 arg19 arg20 arg21 X4 X9 X16 X17 X19 X20 X21)) (ix2 ⟨r - 32 * k, by omega⟩ ⟨l, hl⟩) = scw (blkm (dxv (nat2 (ev (arg19.view.read (Elt Ideal) X19))) (nat2 (ev (arg16.view.read (Elt Ideal) X16))) (nat2 (ev (arg4.view.read (Elt Ideal) X4))) (nat2 (ev (arg17.view.read (Elt Ideal) X17))) (nat2 (ev (arg20.view.read (Elt Ideal) X20))) (nat2 (ev (arg21.view.read (Elt Ideal) X21))) (nat2 (ev (arg9.view.read (Elt Ideal) X9)))) r l) := by
  rw [kL_apply _ _ (by omega)]
  split
  · rename_i e
    dsimp only at e
    rw [scblk _ _ _ _ _ _ _ _ _ _ _ _ _ _ _ _ _ _ _ hr, e]
  · rename_i e
    exact h e
end

/-- The first 32 lanes are the same lanes. -/
theorem slice_at (v : FVec Ideal S32x128 .f32) (r : Fin 32) (l : Fin 32) :
    extractStridedSlice S32x32 ![0, 0] v slices_S32x128_o0_0_S32x32 (ix2 r l) = v (ix2 r ⟨l.val, by omega⟩) := by
  pointwise []

end Cert.KernelIdeal.Dx

end
-- ==== Proof.KernelIdealLoop3.lean ====
/-
  What one trip of the dx call's second loop stores of dx, of its codes and of the scales, and what all its trips leave, read at an index over
  the extended reals.
-/
module

public import proofs.«01_k».proof.Proof.Gen.KernelIdeal.Frame
public import proofs.«01_k».proof.Proof.Gen.KernelIdeal.Loops
public import Idealize.ShloMosaic.Lib.Pointwise
public import proofs.«01_k».proof.Proof.KernelIdealQuant
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (𝒱 : Variants) (c : Dev nD) (bd : Option 𝒱.V) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (k0_h3 : k0_cond3 i = 1#1) (X4 : BufTy.Contents (Elt Ideal) arg4.view.ty) (X9 : BufTy.Contents (Elt Ideal) arg9.view.ty) (X16 : BufTy.Contents (Elt Ideal) arg16.view.ty) (X17 : BufTy.Contents (Elt Ideal) arg17.view.ty) (X19 : BufTy.Contents (Elt Ideal) arg19.view.ty) (X20 : BufTy.Contents (Elt Ideal) arg20.view.ty) (X21 : BufTy.Contents (Elt Ideal) arg21.view.ty)
set_option maxHeartbeats 8000000
set_option maxRecDepth 16384
/-- What a trip of the second loop leaves of the codes. -/
theorem trip12_apply (k : Fin k0_t2_loop.trips) (f12 : BufTy.Contents (Elt Ideal) arg12.view.ty) (r l : ℕ) (hl : l < 4096) :
    nat2 (ev (arg12.view.read (Elt Ideal) (arg12.view.writes (Elt Ideal) f12 ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h3 X4 X9 X16 X17 X19 X20 X21 k).2.2)))) r l
      = if 32 * k.val ≤ r ∧ r < 32 * k.val + 32 then codew (dxv (nat2 (ev (arg19.view.read (Elt Ideal) X19))) (nat2 (ev (arg16.view.read (Elt Ideal) X16))) (nat2 (ev (arg4.view.read (Elt Ideal) X4))) (nat2 (ev (arg17.view.read (Elt Ideal) X17))) (nat2 (ev (arg20.view.read (Elt Ideal) X20))) (nat2 (ev (arg21.view.read (Elt Ideal) X21))) (nat2 (ev (arg9.view.read (Elt Ideal) X9)))) r l
        else nat2 (ev (arg12.view.read (Elt Ideal) f12)) r l := by
  have hk : k.val < 16 := k.isLt
  unfold trip_k0_t2
  dsimp only [ev]
  split
  · rename_i hr
    have cb := fun (b n4 : ℕ) (hb : b < 32) (h4 : n4 = 128 * b) {o : Fin 2 → ℕ} (ho : o = ![32 * k.val, 128 * b]) (hl : 128 * b ≤ l ∧ l < 128 * b + 128) =>
      codeblk hk hb h4 (k0_off14_eq k) ho arg4 arg9 arg16 arg17 arg19 arg20 arg21 X4 X9 X16 X17 X19 X20 X21 hr hl
    rcases Nat.lt_or_ge l 3968 with hb | hb
    case inr =>
      have hb' : l < 4096 := by omega
      rw [wrInG _ _ _ _ _ (k0_off46_eq k) (by omega) (by omega)]
      exact cb 31 3968 (by omega) rfl (k0_off46_eq k) (by omega)
    rw [wrColG _ _ _ _ _ (k0_off46_eq k) (by omega)]
    rcases Nat.lt_or_ge l 3840 with hb | hb
    case inr =>
      have hb' : l < 3968 := by omega
      rw [wrInG _ _ _ _ _ (k0_off45_eq k) (by omega) (by omega)]
      exact cb 30 3840 (by omega) rfl (k0_off45_eq k) (by omega)
    rw [wrColG _ _ _ _ _ (k0_off45_eq k) (by omega)]
    rcases Nat.lt_or_ge l 3712 with hb | hb
    case inr =>
      have hb' : l < 3840 := by omega
      rw [wrInG _ _ _ _ _ (k0_off44_eq k) (by omega) (by omega)]
      exact cb 29 3712 (by omega) rfl (k0_off44_eq k) (by omega)
    rw [wrColG _ _ _ _ _ (k0_off44_eq k) (by omega)]
    rcases Nat.lt_or_ge l 3584 with hb | hb
    case inr =>
      have hb' : l < 3712 := by omega
      rw [wrInG _ _ _ _ _ (k0_off43_eq k) (by omega) (by omega)]
      exact cb 28 3584 (by omega) rfl (k0_off43_eq k) (by omega)
    rw [wrColG _ _ _ _ _ (k0_off43_eq k) (by omega)]
    rcases Nat.lt_or_ge l 3456 with hb | hb
    case inr =>
      have hb' : l < 3584 := by omega
      rw [wrInG _ _ _ _ _ (k0_off42_eq k) (by omega) (by omega)]
      exact cb 27 3456 (by omega) rfl (k0_off42_eq k) (by omega)
    rw [wrColG _ _ _ _ _ (k0_off42_eq k) (by omega)]
    rcases Nat.lt_or_ge l 3328 with hb | hb
    case inr =>
      have hb' : l < 3456 := by omega
      rw [wrInG _ _ _ _ _ (k0_off41_eq k) (by omega) (by omega)]
      exact cb 26 3328 (by omega) rfl (k0_off41_eq k) (by omega)
    rw [wrColG _ _ _ _ _ (k0_off41_eq k) (by omega)]
    rcases Nat.lt_or_ge l 3200 with hb | hb
    case inr =>
      have hb' : l < 3328 := by omega
      rw [wrInG _ _ _ _ _ (k0_off40_eq k) (by omega) (by omega)]
      exact cb 25 3200 (by omega) rfl (k0_off40_eq k) (by omega)
    rw [wrColG _ _ _ _ _ (k0_off40_eq k) (by omega)]
    rcases Nat.lt_or_ge l 3072 with hb | hb
    case inr =>
      have hb' : l < 3200 := by omega
      rw [wrInG _ _ _ _ _ (k0_off39_eq k) (by omega) (by omega)]
      exact cb 24 3072 (by omega) rfl (k0_off39_eq k) (by omega)
    rw [wrColG _ _ _ _ _ (k0_off39_eq k) (by omega)]
    rcases Nat.lt_or_ge l 2944 with hb | hb
    case inr =>
      have hb' : l < 3072 := by omega
      rw [wrInG _ _ _ _ _ (k0_off38_eq k) (by omega) (by omega)]
      exact cb 23 2944 (by omega) rfl (k0_off38_eq k) (by omega)
    rw [wrColG _ _ _ _ _ (k0_off38_eq k) (by omega)]
    rcases Nat.lt_or_ge l 2816 with hb | hb
    case inr =>
      have hb' : l < 2944 := by omega
      rw [wrInG _ _ _ _ _ (k0_off37_eq k) (by omega) (by omega)]
      exact cb 22 2816 (by omega) rfl (k0_off37_eq k) (by omega)
    rw [wrColG _ _ _ _ _ (k0_off37_eq k) (by omega)]
    rcases Nat.lt_or_ge l 2688 with hb | hb
    case inr =>
      have hb' : l < 2816 := by omega
      rw [wrInG _ _ _ _ _ (k0_off36_eq k) (by omega) (by omega)]
      exact cb 21 2688 (by omega) rfl (k0_off36_eq k) (by omega)
    rw [wrColG _ _ _ _ _ (k0_off36_eq k) (by omega)]
    rcases Nat.lt_or_ge l 2560 with hb | hb
    case inr =>
      have hb' : l < 2688 := by omega
      rw [wrInG _ _ _ _ _ (k0_off35_eq k) (by omega) (by omega)]
      exact cb 20 2560 (by omega) rfl (k0_off35_eq k) (by omega)
    rw [wrColG _ _ _ _ _ (k0_off35_eq k) (by omega)]
    rcases Nat.lt_or_ge l 2432 with hb | hb
    case inr =>
      have hb' : l < 2560 := by omega
      rw [wrInG _ _ _ _ _ (k0_off34_eq k) (by omega) (by omega)]
      exact cb 19 2432 (by omega) rfl (k0_off34_eq k) (by omega)
    rw [wrColG _ _ _ _ _ (k0_off34_eq k) (by omega)]
    rcases Nat.lt_or_ge l 2304 with hb | hb
    case inr =>
      have hb' : l < 2432 := by omega
      rw [wrInG _ _ _ _ _ (k0_off33_eq k) (by omega) (by omega)]
      exact cb 18 2304 (by omega) rfl (k0_off33_eq k) (by omega)
    rw [wrColG _ _ _ _ _ (k0_off33_eq k) (by omega)]
    rcases Nat.lt_or_ge l 2176 with hb | hb
    case inr =>
      have hb' : l < 2304 := by omega
      rw [wrInG _ _ _ _ _ (k0_off32_eq k) (by omega) (by omega)]
      exact cb 17 2176 (by omega) rfl (k0_off32_eq k) (by omega)
    rw [wrColG _ _ _ _ _ (k0_off32_eq k) (by omega)]
    rcases Nat.lt_or_ge l 2048 with hb | hb
    case inr =>
      have hb' : l < 2176 := by omega
      rw [wrInG _ _ _ _ _ (k0_off31_eq k) (by omega) (by omega)]
      exact cb 16 2048 (by omega) rfl (k0_off31_eq k) (by omega)
    rw [wrColG _ _ _ _ _ (k0_off31_eq k) (by omega)]
    rcases Nat.lt_or_ge l 1920 with hb | hb
    case inr =>
      have hb' : l < 2048 := by omega
      rw [wrInG _ _ _ _ _ (k0_off30_eq k) (by omega) (by omega)]
      exact cb 15 1920 (by omega) rfl (k0_off30_eq k) (by omega)
    rw [wrColG _ _ _ _ _ (k0_off30_eq k) (by omega)]
    rcases Nat.lt_or_ge l 1792 with hb | hb
    case inr =>
      have hb' : l < 1920 := by omega
      rw [wrInG _ _ _ _ _ (k0_off29_eq k) (by omega) (by omega)]
      exact cb 14 1792 (by omega) rfl (k0_off29_eq k) (by omega)
    rw [wrColG _ _ _ _ _ (k0_off29_eq k) (by omega)]
    rcases Nat.lt_or_ge l 1664 with hb | hb
    case inr =>
      have hb' : l < 1792 := by omega
      rw [wrInG _ _ _ _ _ (k0_off28_eq k) (by omega) (by omega)]
      exact cb 13 1664 (by omega) rfl (k0_off28_eq k) (by omega)
    rw [wrColG _ _ _ _ _ (k0_off28_eq k) (by omega)]
    rcases Nat.lt_or_ge l 1536 with hb | hb
    case inr =>
      have hb' : l < 1664 := by omega
      rw [wrInG _ _ _ _ _ (k0_off27_eq k) (by omega) (by omega)]
      exact cb 12 1536 (by omega) rfl (k0_off27_eq k) (by omega)
    rw [wrColG _ _ _ _ _ (k0_off27_eq k) (by omega)]
    rcases Nat.lt_or_ge l 1408 with hb | hb
    case inr =>
      have hb' : l < 1536 := by omega
      rw [wrInG _ _ _ _ _ (k0_off26_eq k) (by omega) (by omega)]
      exact cb 11 1408 (by omega) rfl (k0_off26_eq k) (by omega)
    rw [wrColG _ _ _ _ _ (k0_off26_eq k) (by omega)]
    rcases Nat.lt_or_ge l 1280 with hb | hb
    case inr =>
      have hb' : l < 1408 := by omega
      rw [wrInG _ _ _ _ _ (k0_off25_eq k) (by omega) (by omega)]
      exact cb 10 1280 (by omega) rfl (k0_off25_eq k) (by omega)
    rw [wrColG _ _ _ _ _ (k0_off25_eq k) (by omega)]
    rcases Nat.lt_or_ge l 1152 with hb | hb
    case inr =>
      have hb' : l < 1280 := by omega
      rw [wrInG _ _ _ _ _ (k0_off24_eq k) (by omega) (by omega)]
      exact cb 9 1152 (by omega) rfl (k0_off24_eq k) (by omega)
    rw [wrColG _ _ _ _ _ (k0_off24_eq k) (by omega)]
    rcases Nat.lt_or_ge l 1024 with hb | hb
    case inr =>
      have hb' : l < 1152 := by omega
      rw [wrInG _ _ _ _ _ (k0_off23_eq k) (by omega) (by omega)]
      exact cb 8 1024 (by omega) rfl (k0_off23_eq k) (by omega)
    rw [wrColG _ _ _ _ _ (k0_off23_eq k) (by omega)]
    rcases Nat.lt_or_ge l 896 with hb | hb
    case inr =>
      have hb' : l < 1024 := by omega
      rw [wrInG _ _ _ _ _ (k0_off22_eq k) (by omega) (by omega)]
      exact cb 7 896 (by omega) rfl (k0_off22_eq k) (by omega)
    rw [wrColG _ _ _ _ _ (k0_off22_eq k) (by omega)]
    rcases Nat.lt_or_ge l 768 with hb | hb
    case inr =>
      have hb' : l < 896 := by omega
      rw [wrInG _ _ _ _ _ (k0_off21_eq k) (by omega) (by omega)]
      exact cb 6 768 (by omega) rfl (k0_off21_eq k) (by omega)
    rw [wrColG _ _ _ _ _ (k0_off21_eq k) (by omega)]
    rcases Nat.lt_or_ge l 640 with hb | hb
    case inr =>
      have hb' : l < 768 := by omega
      rw [wrInG _ _ _ _ _ (k0_off20_eq k) (by omega) (by omega)]
      exact cb 5 640 (by omega) rfl (k0_off20_eq k) (by omega)
    rw [wrColG _ _ _ _ _ (k0_off20_eq k) (by omega)]
    rcases Nat.lt_or_ge l 512 with hb | hb
    case inr =>
      have hb' : l < 640 := by omega
      rw [wrInG _ _ _ _ _ (k0_off19_eq k) (by omega) (by omega)]
      exact cb 4 512 (by omega) rfl (k0_off19_eq k) (by omega)
    rw [wrColG _ _ _ _ _ (k0_off19_eq k) (by omega)]
    rcases Nat.lt_or_ge l 384 with hb | hb
    case inr =>
      have hb' : l < 512 := by omega
      rw [wrInG _ _ _ _ _ (k0_off18_eq k) (by omega) (by omega)]
      exact cb 3 384 (by omega) rfl (k0_off18_eq k) (by omega)
    rw [wrColG _ _ _ _ _ (k0_off18_eq k) (by omega)]
    rcases Nat.lt_or_ge l 256 with hb | hb
    case inr =>
      have hb' : l < 384 := by omega
      rw [wrInG _ _ _ _ _ (k0_off17_eq k) (by omega) (by omega)]
      exact cb 2 256 (by omega) rfl (k0_off17_eq k) (by omega)
    rw [wrColG _ _ _ _ _ (k0_off17_eq k) (by omega)]
    rcases Nat.lt_or_ge l 128 with hb | hb
    case inr =>
      have hb' : l < 256 := by omega
      rw [wrInG _ _ _ _ _ (k0_off16_eq k) (by omega) (by omega)]
      exact cb 1 128 (by omega) rfl (k0_off16_eq k) (by omega)
    rw [wrColG _ _ _ _ _ (k0_off16_eq k) (by omega)]
    rw [wrInG _ _ _ _ _ (k0_off15_eq k) (by omega) (by omega)]
    exact cb 0 0 (by omega) rfl (k0_off15_eq k) (by omega)
  · rename_i hr
    have hr : r < 32 * k.val ∨ 32 * k.val + 32 ≤ r := by omega
    rw [wrRowG _ _ _ _ _ (k0_off46_eq k) hr]
    rw [wrRowG _ _ _ _ _ (k0_off45_eq k) hr]
    rw [wrRowG _ _ _ _ _ (k0_off44_eq k) hr]
    rw [wrRowG _ _ _ _ _ (k0_off43_eq k) hr]
    rw [wrRowG _ _ _ _ _ (k0_off42_eq k) hr]
    rw [wrRowG _ _ _ _ _ (k0_off41_eq k) hr]
    rw [wrRowG _ _ _ _ _ (k0_off40_eq k) hr]
    rw [wrRowG _ _ _ _ _ (k0_off39_eq k) hr]
    rw [wrRowG _ _ _ _ _ (k0_off38_eq k) hr]
    rw [wrRowG _ _ _ _ _ (k0_off37_eq k) hr]
    rw [wrRowG _ _ _ _ _ (k0_off36_eq k) hr]
    rw [wrRowG _ _ _ _ _ (k0_off35_eq k) hr]
    rw [wrRowG _ _ _ _ _ (k0_off34_eq k) hr]
    rw [wrRowG _ _ _ _ _ (k0_off33_eq k) hr]
    rw [wrRowG _ _ _ _ _ (k0_off32_eq k) hr]
    rw [wrRowG _ _ _ _ _ (k0_off31_eq k) hr]
    rw [wrRowG _ _ _ _ _ (k0_off30_eq k) hr]
    rw [wrRowG _ _ _ _ _ (k0_off29_eq k) hr]
    rw [wrRowG _ _ _ _ _ (k0_off28_eq k) hr]
    rw [wrRowG _ _ _ _ _ (k0_off27_eq k) hr]
    rw [wrRowG _ _ _ _ _ (k0_off26_eq k) hr]
    rw [wrRowG _ _ _ _ _ (k0_off25_eq k) hr]
    rw [wrRowG _ _ _ _ _ (k0_off24_eq k) hr]
    rw [wrRowG _ _ _ _ _ (k0_off23_eq k) hr]
    rw [wrRowG _ _ _ _ _ (k0_off22_eq k) hr]
    rw [wrRowG _ _ _ _ _ (k0_off21_eq k) hr]
    rw [wrRowG _ _ _ _ _ (k0_off20_eq k) hr]
    rw [wrRowG _ _ _ _ _ (k0_off19_eq k) hr]
    rw [wrRowG _ _ _ _ _ (k0_off18_eq k) hr]
    rw [wrRowG _ _ _ _ _ (k0_off17_eq k) hr]
    rw [wrRowG _ _ _ _ _ (k0_off16_eq k) hr]
    rw [wrRowG _ _ _ _ _ (k0_off15_eq k) hr]
    rfl

/-- What a trip of the second loop leaves of dx. -/
theorem trip11_apply (k : Fin k0_t2_loop.trips) (f11 : BufTy.Contents (Elt Ideal) arg11.view.ty) (r l : ℕ) (hl : l < 4096) :
    nat2 (ev (arg11.view.read (Elt Ideal) (arg11.view.writes (Elt Ideal) f11 ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h3 X4 X9 X16 X17 X19 X20 X21 k).2.1)))) r l
      = if 32 * k.val ≤ r ∧ r < 32 * k.val + 32 then nat2 (ev (arg19.view.read (Elt Ideal) X19)) r (l % 128) * (nat2 (ev (arg16.view.read (Elt Ideal) X16)) r l * nat2 (ev (arg4.view.read (Elt Ideal) X4)) 0 l - nat2 (ev (arg17.view.read (Elt Ideal) X17)) r l * nat2 (ev (arg20.view.read (Elt Ideal) X20)) r (l % 128) * ((∑ j ∈ Finset.range 128, nat2 (ev (arg21.view.read (Elt Ideal) X21)) r j) * Ideal.ofBits .f32 0x39800000#32)) + nat2 (ev (arg9.view.read (Elt Ideal) X9)) r l
        else nat2 (ev (arg11.view.read (Elt Ideal) f11)) r l := by
  have hk : k.val < 16 := k.isLt
  unfold trip_k0_t2
  dsimp only [ev]
  split
  · rename_i hr
    have cb := fun (b n4 : ℕ) (hb : b < 32) (h4 : n4 = 128 * b) {o : Fin 2 → ℕ} (ho : o = ![32 * k.val, 128 * b]) (hl : 128 * b ≤ l ∧ l < 128 * b + 128) =>
      dxblk hk hb h4 (k0_off14_eq k) ho arg4 arg9 arg16 arg17 arg19 arg20 arg21 X4 X9 X16 X17 X19 X20 X21 hr hl
    rcases Nat.lt_or_ge l 3968 with hb | hb
    case inr =>
      have hb' : l < 4096 := by omega
      rw [wrInB _ _ _ _ _ (k0_off46_eq k) (by omega) (by omega)]
      exact cb 31 3968 (by omega) rfl (k0_off46_eq k) (by omega)
    rw [wrColB _ _ _ _ _ (k0_off46_eq k) (by omega)]
    rcases Nat.lt_or_ge l 3840 with hb | hb
    case inr =>
      have hb' : l < 3968 := by omega
      rw [wrInB _ _ _ _ _ (k0_off45_eq k) (by omega) (by omega)]
      exact cb 30 3840 (by omega) rfl (k0_off45_eq k) (by omega)
    rw [wrColB _ _ _ _ _ (k0_off45_eq k) (by omega)]
    rcases Nat.lt_or_ge l 3712 with hb | hb
    case inr =>
      have hb' : l < 3840 := by omega
      rw [wrInB _ _ _ _ _ (k0_off44_eq k) (by omega) (by omega)]
      exact cb 29 3712 (by omega) rfl (k0_off44_eq k) (by omega)
    rw [wrColB _ _ _ _ _ (k0_off44_eq k) (by omega)]
    rcases Nat.lt_or_ge l 3584 with hb | hb
    case inr =>
      have hb' : l < 3712 := by omega
      rw [wrInB _ _ _ _ _ (k0_off43_eq k) (by omega) (by omega)]
      exact cb 28 3584 (by omega) rfl (k0_off43_eq k) (by omega)
    rw [wrColB _ _ _ _ _ (k0_off43_eq k) (by omega)]
    rcases Nat.lt_or_ge l 3456 with hb | hb
    case inr =>
      have hb' : l < 3584 := by omega
      rw [wrInB _ _ _ _ _ (k0_off42_eq k) (by omega) (by omega)]
      exact cb 27 3456 (by omega) rfl (k0_off42_eq k) (by omega)
    rw [wrColB _ _ _ _ _ (k0_off42_eq k) (by omega)]
    rcases Nat.lt_or_ge l 3328 with hb | hb
    case inr =>
      have hb' : l < 3456 := by omega
      rw [wrInB _ _ _ _ _ (k0_off41_eq k) (by omega) (by omega)]
      exact cb 26 3328 (by omega) rfl (k0_off41_eq k) (by omega)
    rw [wrColB _ _ _ _ _ (k0_off41_eq k) (by omega)]
    rcases Nat.lt_or_ge l 3200 with hb | hb
    case inr =>
      have hb' : l < 3328 := by omega
      rw [wrInB _ _ _ _ _ (k0_off40_eq k) (by omega) (by omega)]
      exact cb 25 3200 (by omega) rfl (k0_off40_eq k) (by omega)
    rw [wrColB _ _ _ _ _ (k0_off40_eq k) (by omega)]
    rcases Nat.lt_or_ge l 3072 with hb | hb
    case inr =>
      have hb' : l < 3200 := by omega
      rw [wrInB _ _ _ _ _ (k0_off39_eq k) (by omega) (by omega)]
      exact cb 24 3072 (by omega) rfl (k0_off39_eq k) (by omega)
    rw [wrColB _ _ _ _ _ (k0_off39_eq k) (by omega)]
    rcases Nat.lt_or_ge l 2944 with hb | hb
    case inr =>
      have hb' : l < 3072 := by omega
      rw [wrInB _ _ _ _ _ (k0_off38_eq k) (by omega) (by omega)]
      exact cb 23 2944 (by omega) rfl (k0_off38_eq k) (by omega)
    rw [wrColB _ _ _ _ _ (k0_off38_eq k) (by omega)]
    rcases Nat.lt_or_ge l 2816 with hb | hb
    case inr =>
      have hb' : l < 2944 := by omega
      rw [wrInB _ _ _ _ _ (k0_off37_eq k) (by omega) (by omega)]
      exact cb 22 2816 (by omega) rfl (k0_off37_eq k) (by omega)
    rw [wrColB _ _ _ _ _ (k0_off37_eq k) (by omega)]
    rcases Nat.lt_or_ge l 2688 with hb | hb
    case inr =>
      have hb' : l < 2816 := by omega
      rw [wrInB _ _ _ _ _ (k0_off36_eq k) (by omega) (by omega)]
      exact cb 21 2688 (by omega) rfl (k0_off36_eq k) (by omega)
    rw [wrColB _ _ _ _ _ (k0_off36_eq k) (by omega)]
    rcases Nat.lt_or_ge l 2560 with hb | hb
    case inr =>
      have hb' : l < 2688 := by omega
      rw [wrInB _ _ _ _ _ (k0_off35_eq k) (by omega) (by omega)]
      exact cb 20 2560 (by omega) rfl (k0_off35_eq k) (by omega)
    rw [wrColB _ _ _ _ _ (k0_off35_eq k) (by omega)]
    rcases Nat.lt_or_ge l 2432 with hb | hb
    case inr =>
      have hb' : l < 2560 := by omega
      rw [wrInB _ _ _ _ _ (k0_off34_eq k) (by omega) (by omega)]
      exact cb 19 2432 (by omega) rfl (k0_off34_eq k) (by omega)
    rw [wrColB _ _ _ _ _ (k0_off34_eq k) (by omega)]
    rcases Nat.lt_or_ge l 2304 with hb | hb
    case inr =>
      have hb' : l < 2432 := by omega
      rw [wrInB _ _ _ _ _ (k0_off33_eq k) (by omega) (by omega)]
      exact cb 18 2304 (by omega) rfl (k0_off33_eq k) (by omega)
    rw [wrColB _ _ _ _ _ (k0_off33_eq k) (by omega)]
    rcases Nat.lt_or_ge l 2176 with hb | hb
    case inr =>
      have hb' : l < 2304 := by omega
      rw [wrInB _ _ _ _ _ (k0_off32_eq k) (by omega) (by omega)]
      exact cb 17 2176 (by omega) rfl (k0_off32_eq k) (by omega)
    rw [wrColB _ _ _ _ _ (k0_off32_eq k) (by omega)]
    rcases Nat.lt_or_ge l 2048 with hb | hb
    case inr =>
      have hb' : l < 2176 := by omega
      rw [wrInB _ _ _ _ _ (k0_off31_eq k) (by omega) (by omega)]
      exact cb 16 2048 (by omega) rfl (k0_off31_eq k) (by omega)
    rw [wrColB _ _ _ _ _ (k0_off31_eq k) (by omega)]
    rcases Nat.lt_or_ge l 1920 with hb | hb
    case inr =>
      have hb' : l < 2048 := by omega
      rw [wrInB _ _ _ _ _ (k0_off30_eq k) (by omega) (by omega)]
      exact cb 15 1920 (by omega) rfl (k0_off30_eq k) (by omega)
    rw [wrColB _ _ _ _ _ (k0_off30_eq k) (by omega)]
    rcases Nat.lt_or_ge l 1792 with hb | hb
    case inr =>
      have hb' : l < 1920 := by omega
      rw [wrInB _ _ _ _ _ (k0_off29_eq k) (by omega) (by omega)]
      exact cb 14 1792 (by omega) rfl (k0_off29_eq k) (by omega)
    rw [wrColB _ _ _ _ _ (k0_off29_eq k) (by omega)]
    rcases Nat.lt_or_ge l 1664 with hb | hb
    case inr =>
      have hb' : l < 1792 := by omega
      rw [wrInB _ _ _ _ _ (k0_off28_eq k) (by omega) (by omega)]
      exact cb 13 1664 (by omega) rfl (k0_off28_eq k) (by omega)
    rw [wrColB _ _ _ _ _ (k0_off28_eq k) (by omega)]
    rcases Nat.lt_or_ge l 1536 with hb | hb
    case inr =>
      have hb' : l < 1664 := by omega
      rw [wrInB _ _ _ _ _ (k0_off27_eq k) (by omega) (by omega)]
      exact cb 12 1536 (by omega) rfl (k0_off27_eq k) (by omega)
    rw [wrColB _ _ _ _ _ (k0_off27_eq k) (by omega)]
    rcases Nat.lt_or_ge l 1408 with hb | hb
    case inr =>
      have hb' : l < 1536 := by omega
      rw [wrInB _ _ _ _ _ (k0_off26_eq k) (by omega) (by omega)]
      exact cb 11 1408 (by omega) rfl (k0_off26_eq k) (by omega)
    rw [wrColB _ _ _ _ _ (k0_off26_eq k) (by omega)]
    rcases Nat.lt_or_ge l 1280 with hb | hb
    case inr =>
      have hb' : l < 1408 := by omega
      rw [wrInB _ _ _ _ _ (k0_off25_eq k) (by omega) (by omega)]
      exact cb 10 1280 (by omega) rfl (k0_off25_eq k) (by omega)
    rw [wrColB _ _ _ _ _ (k0_off25_eq k) (by omega)]
    rcases Nat.lt_or_ge l 1152 with hb | hb
    case inr =>
      have hb' : l < 1280 := by omega
      rw [wrInB _ _ _ _ _ (k0_off24_eq k) (by omega) (by omega)]
      exact cb 9 1152 (by omega) rfl (k0_off24_eq k) (by omega)
    rw [wrColB _ _ _ _ _ (k0_off24_eq k) (by omega)]
    rcases Nat.lt_or_ge l 1024 with hb | hb
    case inr =>
      have hb' : l < 1152 := by omega
      rw [wrInB _ _ _ _ _ (k0_off23_eq k) (by omega) (by omega)]
      exact cb 8 1024 (by omega) rfl (k0_off23_eq k) (by omega)
    rw [wrColB _ _ _ _ _ (k0_off23_eq k) (by omega)]
    rcases Nat.lt_or_ge l 896 with hb | hb
    case inr =>
      have hb' : l < 1024 := by omega
      rw [wrInB _ _ _ _ _ (k0_off22_eq k) (by omega) (by omega)]
      exact cb 7 896 (by omega) rfl (k0_off22_eq k) (by omega)
    rw [wrColB _ _ _ _ _ (k0_off22_eq k) (by omega)]
    rcases Nat.lt_or_ge l 768 with hb | hb
    case inr =>
      have hb' : l < 896 := by omega
      rw [wrInB _ _ _ _ _ (k0_off21_eq k) (by omega) (by omega)]
      exact cb 6 768 (by omega) rfl (k0_off21_eq k) (by omega)
    rw [wrColB _ _ _ _ _ (k0_off21_eq k) (by omega)]
    rcases Nat.lt_or_ge l 640 with hb | hb
    case inr =>
      have hb' : l < 768 := by omega
      rw [wrInB _ _ _ _ _ (k0_off20_eq k) (by omega) (by omega)]
      exact cb 5 640 (by omega) rfl (k0_off20_eq k) (by omega)
    rw [wrColB _ _ _ _ _ (k0_off20_eq k) (by omega)]
    rcases Nat.lt_or_ge l 512 with hb | hb
    case inr =>
      have hb' : l < 640 := by omega
      rw [wrInB _ _ _ _ _ (k0_off19_eq k) (by omega) (by omega)]
      exact cb 4 512 (by omega) rfl (k0_off19_eq k) (by omega)
    rw [wrColB _ _ _ _ _ (k0_off19_eq k) (by omega)]
    rcases Nat.lt_or_ge l 384 with hb | hb
    case inr =>
      have hb' : l < 512 := by omega
      rw [wrInB _ _ _ _ _ (k0_off18_eq k) (by omega) (by omega)]
      exact cb 3 384 (by omega) rfl (k0_off18_eq k) (by omega)
    rw [wrColB _ _ _ _ _ (k0_off18_eq k) (by omega)]
    rcases Nat.lt_or_ge l 256 with hb | hb
    case inr =>
      have hb' : l < 384 := by omega
      rw [wrInB _ _ _ _ _ (k0_off17_eq k) (by omega) (by omega)]
      exact cb 2 256 (by omega) rfl (k0_off17_eq k) (by omega)
    rw [wrColB _ _ _ _ _ (k0_off17_eq k) (by omega)]
    rcases Nat.lt_or_ge l 128 with hb | hb
    case inr =>
      have hb' : l < 256 := by omega
      rw [wrInB _ _ _ _ _ (k0_off16_eq k) (by omega) (by omega)]
      exact cb 1 128 (by omega) rfl (k0_off16_eq k) (by omega)
    rw [wrColB _ _ _ _ _ (k0_off16_eq k) (by omega)]
    rw [wrInB _ _ _ _ _ (k0_off15_eq k) (by omega) (by omega)]
    exact cb 0 0 (by omega) rfl (k0_off15_eq k) (by omega)
  · rename_i hr
    have hr : r < 32 * k.val ∨ 32 * k.val + 32 ≤ r := by omega
    rw [wrRowB _ _ _ _ _ (k0_off46_eq k) hr]
    rw [wrRowB _ _ _ _ _ (k0_off45_eq k) hr]
    rw [wrRowB _ _ _ _ _ (k0_off44_eq k) hr]
    rw [wrRowB _ _ _ _ _ (k0_off43_eq k) hr]
    rw [wrRowB _ _ _ _ _ (k0_off42_eq k) hr]
    rw [wrRowB _ _ _ _ _ (k0_off41_eq k) hr]
    rw [wrRowB _ _ _ _ _ (k0_off40_eq k) hr]
    rw [wrRowB _ _ _ _ _ (k0_off39_eq k) hr]
    rw [wrRowB _ _ _ _ _ (k0_off38_eq k) hr]
    rw [wrRowB _ _ _ _ _ (k0_off37_eq k) hr]
    rw [wrRowB _ _ _ _ _ (k0_off36_eq k) hr]
    rw [wrRowB _ _ _ _ _ (k0_off35_eq k) hr]
    rw [wrRowB _ _ _ _ _ (k0_off34_eq k) hr]
    rw [wrRowB _ _ _ _ _ (k0_off33_eq k) hr]
    rw [wrRowB _ _ _ _ _ (k0_off32_eq k) hr]
    rw [wrRowB _ _ _ _ _ (k0_off31_eq k) hr]
    rw [wrRowB _ _ _ _ _ (k0_off30_eq k) hr]
    rw [wrRowB _ _ _ _ _ (k0_off29_eq k) hr]
    rw [wrRowB _ _ _ _ _ (k0_off28_eq k) hr]
    rw [wrRowB _ _ _ _ _ (k0_off27_eq k) hr]
    rw [wrRowB _ _ _ _ _ (k0_off26_eq k) hr]
    rw [wrRowB _ _ _ _ _ (k0_off25_eq k) hr]
    rw [wrRowB _ _ _ _ _ (k0_off24_eq k) hr]
    rw [wrRowB _ _ _ _ _ (k0_off23_eq k) hr]
    rw [wrRowB _ _ _ _ _ (k0_off22_eq k) hr]
    rw [wrRowB _ _ _ _ _ (k0_off21_eq k) hr]
    rw [wrRowB _ _ _ _ _ (k0_off20_eq k) hr]
    rw [wrRowB _ _ _ _ _ (k0_off19_eq k) hr]
    rw [wrRowB _ _ _ _ _ (k0_off18_eq k) hr]
    rw [wrRowB _ _ _ _ _ (k0_off17_eq k) hr]
    rw [wrRowB _ _ _ _ _ (k0_off16_eq k) hr]
    rw [wrRowB _ _ _ _ _ (k0_off15_eq k) hr]
    rfl

/-- What a trip of the second loop leaves of the scales. -/
theorem trip10_apply (k : Fin k0_t2_loop.trips) (f10 : BufTy.Contents (Elt Ideal) arg10.view.ty) (r l : ℕ) (hl : l < 32) :
    nat2 (ev (arg10.view.read (Elt Ideal) (arg10.view.writes (Elt Ideal) f10 ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h3 X4 X9 X16 X17 X19 X20 X21 k).1)))) r l
      = if 32 * k.val ≤ r ∧ r < 32 * k.val + 32 then scw (blkm (dxv (nat2 (ev (arg19.view.read (Elt Ideal) X19))) (nat2 (ev (arg16.view.read (Elt Ideal) X16))) (nat2 (ev (arg4.view.read (Elt Ideal) X4))) (nat2 (ev (arg17.view.read (Elt Ideal) X17))) (nat2 (ev (arg20.view.read (Elt Ideal) X20))) (nat2 (ev (arg21.view.read (Elt Ideal) X21))) (nat2 (ev (arg9.view.read (Elt Ideal) X9)))) r l)
        else nat2 (ev (arg10.view.read (Elt Ideal) f10)) r l := by
  have hk : k.val < 16 := k.isLt
  unfold trip_k0_t2
  dsimp only [ev]
  split
  · rename_i hr
    rw [wrInF _ _ _ _ _ (k0_off47_eq k) (by omega) (by omega)]
    unfold k0_pay2
    refine (slice_at _ _ _).trans ?_
    have hl2 : l < 128 := by omega
    have cb := fun (b n4 : ℕ) (hb : b < 32) (h4 : n4 = 128 * b) {o : Fin 2 → ℕ} (ho : o = ![32 * k.val, 128 * b]) =>
      scstep hk hb h4 (k0_off14_eq k) ho arg4 arg9 arg16 arg17 arg19 arg20 arg21 X4 X9 X16 X17 X19 X20 X21 hr hl2
    refine cb 31 3968 (by omega) rfl (k0_off46_eq k) _ fun h31 => ?_
    refine cb 30 3840 (by omega) rfl (k0_off45_eq k) _ fun h30 => ?_
    refine cb 29 3712 (by omega) rfl (k0_off44_eq k) _ fun h29 => ?_
    refine cb 28 3584 (by omega) rfl (k0_off43_eq k) _ fun h28 => ?_
    refine cb 27 3456 (by omega) rfl (k0_off42_eq k) _ fun h27 => ?_
    refine cb 26 3328 (by omega) rfl (k0_off41_eq k) _ fun h26 => ?_
    refine cb 25 3200 (by omega) rfl (k0_off40_eq k) _ fun h25 => ?_
    refine cb 24 3072 (by omega) rfl (k0_off39_eq k) _ fun h24 => ?_
    refine cb 23 2944 (by omega) rfl (k0_off38_eq k) _ fun h23 => ?_
    refine cb 22 2816 (by omega) rfl (k0_off37_eq k) _ fun h22 => ?_
    refine cb 21 2688 (by omega) rfl (k0_off36_eq k) _ fun h21 => ?_
    refine cb 20 2560 (by omega) rfl (k0_off35_eq k) _ fun h20 => ?_
    refine cb 19 2432 (by omega) rfl (k0_off34_eq k) _ fun h19 => ?_
    refine cb 18 2304 (by omega) rfl (k0_off33_eq k) _ fun h18 => ?_
    refine cb 17 2176 (by omega) rfl (k0_off32_eq k) _ fun h17 => ?_
    refine cb 16 2048 (by omega) rfl (k0_off31_eq k) _ fun h16 => ?_
    refine cb 15 1920 (by omega) rfl (k0_off30_eq k) _ fun h15 => ?_
    refine cb 14 1792 (by omega) rfl (k0_off29_eq k) _ fun h14 => ?_
    refine cb 13 1664 (by omega) rfl (k0_off28_eq k) _ fun h13 => ?_
    refine cb 12 1536 (by omega) rfl (k0_off27_eq k) _ fun h12 => ?_
    refine cb 11 1408 (by omega) rfl (k0_off26_eq k) _ fun h11 => ?_
    refine cb 10 1280 (by omega) rfl (k0_off25_eq k) _ fun h10 => ?_
    refine cb 9 1152 (by omega) rfl (k0_off24_eq k) _ fun h9 => ?_
    refine cb 8 1024 (by omega) rfl (k0_off23_eq k) _ fun h8 => ?_
    refine cb 7 896 (by omega) rfl (k0_off22_eq k) _ fun h7 => ?_
    refine cb 6 768 (by omega) rfl (k0_off21_eq k) _ fun h6 => ?_
    refine cb 5 640 (by omega) rfl (k0_off20_eq k) _ fun h5 => ?_
    refine cb 4 512 (by omega) rfl (k0_off19_eq k) _ fun h4 => ?_
    refine cb 3 384 (by omega) rfl (k0_off18_eq k) _ fun h3 => ?_
    refine cb 2 256 (by omega) rfl (k0_off17_eq k) _ fun h2 => ?_
    refine cb 1 128 (by omega) rfl (k0_off16_eq k) _ fun h1 => ?_
    refine cb 0 0 (by omega) rfl (k0_off15_eq k) _ fun h0 => ?_
    omega
  · rename_i hr
    rw [wrRowF _ _ _ _ _ (k0_off47_eq k) (by omega)]
    rfl

/-- What the second loop's first `k` trips leave of dx. -/
theorem loop11_apply (G : BufTy.Contents (Elt Ideal) arg11.view.ty) (k : ℕ) (hk : k ≤ 16) (r l : ℕ) (hl : l < 4096) :
    nat2 (ev (arg11.view.read (Elt Ideal) (arg11.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h3 X4 X9 X16 X17 X19 X20 X21 k).2.1))) r l
      = if r < 32 * k then nat2 (ev (arg19.view.read (Elt Ideal) X19)) r (l % 128) * (nat2 (ev (arg16.view.read (Elt Ideal) X16)) r l * nat2 (ev (arg4.view.read (Elt Ideal) X4)) 0 l - nat2 (ev (arg17.view.read (Elt Ideal) X17)) r l * nat2 (ev (arg20.view.read (Elt Ideal) X20)) r (l % 128) * ((∑ j ∈ Finset.range 128, nat2 (ev (arg21.view.read (Elt Ideal) X21)) r j) * Ideal.ofBits .f32 0x39800000#32)) + nat2 (ev (arg9.view.read (Elt Ideal) X9)) r l else nat2 (ev (arg11.view.read (Elt Ideal) G)) r l := by
  induction k with
  | zero =>
    show nat2 (ev (arg11.view.read (Elt Ideal) G)) r l = _
    simp
  | succ k ih =>
    have ih := ih (by omega)
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h3 X4 X9 X16 X17 X19 X20 X21 ⟨k, (by have : k < 16 := hk; exact this)⟩
    dsimp only at e
    rw [e]
    dsimp only [tripL_k0_t2]
    rw [View.writes_append, trip11_apply]
    · rw [ev, ih]
      dsimp only
      split_ifs <;> first | rfl | omega
    · assumption

/-- What the second loop's first `k` trips leave of the codes. -/
theorem loop12_apply (G : BufTy.Contents (Elt Ideal) arg12.view.ty) (k : ℕ) (hk : k ≤ 16) (r l : ℕ) (hl : l < 4096) :
    nat2 (ev (arg12.view.read (Elt Ideal) (arg12.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h3 X4 X9 X16 X17 X19 X20 X21 k).2.2))) r l
      = if r < 32 * k then codew (dxv (nat2 (ev (arg19.view.read (Elt Ideal) X19))) (nat2 (ev (arg16.view.read (Elt Ideal) X16))) (nat2 (ev (arg4.view.read (Elt Ideal) X4))) (nat2 (ev (arg17.view.read (Elt Ideal) X17))) (nat2 (ev (arg20.view.read (Elt Ideal) X20))) (nat2 (ev (arg21.view.read (Elt Ideal) X21))) (nat2 (ev (arg9.view.read (Elt Ideal) X9)))) r l else nat2 (ev (arg12.view.read (Elt Ideal) G)) r l := by
  induction k with
  | zero =>
    show nat2 (ev (arg12.view.read (Elt Ideal) G)) r l = _
    simp
  | succ k ih =>
    have ih := ih (by omega)
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h3 X4 X9 X16 X17 X19 X20 X21 ⟨k, (by have : k < 16 := hk; exact this)⟩
    dsimp only at e
    rw [e]
    dsimp only [tripL_k0_t2]
    rw [View.writes_append, trip12_apply]
    · rw [ev, ih]
      dsimp only
      split_ifs <;> first | rfl | omega
    · assumption

/-- What the second loop's first `k` trips leave of the scales. -/
theorem loop10_apply (G : BufTy.Contents (Elt Ideal) arg10.view.ty) (k : ℕ) (hk : k ≤ 16) (r l : ℕ) (hl : l < 32) :
    nat2 (ev (arg10.view.read (Elt Ideal) (arg10.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h3 X4 X9 X16 X17 X19 X20 X21 k).1))) r l
      = if r < 32 * k then scw (blkm (dxv (nat2 (ev (arg19.view.read (Elt Ideal) X19))) (nat2 (ev (arg16.view.read (Elt Ideal) X16))) (nat2 (ev (arg4.view.read (Elt Ideal) X4))) (nat2 (ev (arg17.view.read (Elt Ideal) X17))) (nat2 (ev (arg20.view.read (Elt Ideal) X20))) (nat2 (ev (arg21.view.read (Elt Ideal) X21))) (nat2 (ev (arg9.view.read (Elt Ideal) X9)))) r l) else nat2 (ev (arg10.view.read (Elt Ideal) G)) r l := by
  induction k with
  | zero =>
    show nat2 (ev (arg10.view.read (Elt Ideal) G)) r l = _
    simp
  | succ k ih =>
    have ih := ih (by omega)
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h3 X4 X9 X16 X17 X19 X20 X21 ⟨k, (by have : k < 16 := hk; exact this)⟩
    dsimp only at e
    rw [e]
    dsimp only [tripL_k0_t2]
    rw [View.writes_append, trip10_apply]
    · rw [ev, ih]
      dsimp only
      split_ifs <;> first | rfl | omega
    · assumption

end Cert.KernelIdeal.Dx

end
-- ==== Proof.KernelIdealStep.lean ====
/-
  What one grid point of the dx call leaves in its buffers, in terms of the mathematics of the call: `St` says what the scratch
  buffers hold once the column blocks before `j` of row block `i` are done, and a point takes `St i j` to `St i (j + 1)`.
-/
module

public import proofs.«01_k».proof.Proof.Gen.KernelIdeal.Frame
public import proofs.«01_k».proof.Proof.KernelIdealLoop
public import proofs.«01_k».proof.Proof.KernelIdealLoop3
public import Idealize.ShloMosaic.Lib.Pointwise
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The arrays the dx call reads, by numbers. -/
structure In where
  /-- A row's activation scale. -/
  xs : ℕ → EReal
  /-- A row's reciprocal standard deviation. -/
  rs : ℕ → EReal
  /-- A column's gain. -/
  gm : ℕ → EReal
  /-- A projection column's weight scale. -/
  ws : ℕ → EReal
  /-- The activation codes. -/
  x : ℕ → ℕ → EReal
  /-- The weight codes. -/
  w : ℕ → ℕ → EReal
  /-- The gradient of the projection. -/
  dq : ℕ → ℕ → EReal
  /-- The residual's gradient. -/
  dr : ℕ → ℕ → EReal

namespace In
variable (I : In)
/-- The gradient of the normalised, gained activations. -/
def dh (T c : ℕ) : EReal := ∑ n ∈ Finset.range 6144, I.dq T n * I.ws n * I.w c n
/-- A row's scale times its reciprocal standard deviation. -/
def ss (T : ℕ) : EReal := I.xs T * I.rs T
/-- The gradient times the normalised activation. -/
def tt (T c : ℕ) : EReal := I.dh T c * (I.x T c * I.ss T)
/-- The normalised, gained activation. -/
def xh (T c : ℕ) : EReal := I.x T c * I.ss T * I.gm c
/-- The gain's gradient over the rows of the first `n` row blocks that lie in sublane `s`. -/
def dg (n s c : ℕ) : EReal := ∑ i ∈ Finset.range n, ∑ k ∈ Finset.range 16, ∑ q ∈ Finset.range 4, I.tt (512 * i + (32 * k + (8 * q + s))) c
/-- A row's sum in lane `l` over the first `n` groups of 128 columns. -/
def sa (n T l : ℕ) : EReal := ∑ b ∈ Finset.range n, I.tt T (128 * b + l) * I.gm (128 * b + l)
/-- The gradient of the activations. -/
def dx (T c : ℕ) : EReal :=
  I.rs T * (I.dh T c * I.gm c - I.x T c * I.ss T * ((∑ l ∈ Finset.range 128, I.sa 32 T l) * Ideal.ofBits .f32 0x39800000#32)) + I.dr T c
end In

/-- What the scratch buffers hold when the column blocks before `j` of row block `i` are done. -/
structure St (I : In) (i j : ℕ) (y15 : (⟨2, ![512, 6144]⟩ : Shape).Idx → EReal) (y16 y17 : (⟨2, ![512, 4096]⟩ : Shape).Idx → EReal)
    (y19 y20 y21 : (⟨2, ![512, 128]⟩ : Shape).Idx → EReal) (y22 : (⟨2, ![8, 4096]⟩ : Shape).Idx → EReal) : Prop where
  h15 : ∀ r < 512, ∀ n < 6144, nat2 y15 r n = I.dq (512 * i + r) n * I.ws n
  h16 : ∀ r < 512, ∀ c < 1024 * j, nat2 y16 r c = I.dh (512 * i + r) c
  h17 : ∀ r < 512, ∀ c < 1024 * j, nat2 y17 r c = I.x (512 * i + r) c
  h19 : ∀ r < 512, ∀ l < 128, nat2 y19 r l = I.rs (512 * i + r)
  h20 : ∀ r < 512, ∀ l < 128, nat2 y20 r l = I.ss (512 * i + r)
  h21 : ∀ r < 512, ∀ l < 128, nat2 y21 r l = I.sa (8 * j) (512 * i + r) l
  h22 : ∀ s < 8, ∀ c < 4096, nat2 y22 s c = I.dg (if c < 1024 * j then i + 1 else i) s c

/-- A loop makes 16 trips. -/
theorem trips16 : Scf.trips 0#32 (Scalar.addi 0#32 16#32) 1#32 = 16 := by decide +kernel

/-- Where the column block starts. -/
theorem k0_off1_eq' (i : grid0.Coords) : k0_off1 i = ![0, offc i] := k0_off1_eq i
/-- The column block is inside the row. -/
theorem k0_inb1 (i : grid0.Coords) : ∀ a, k0_off1 i a + (![512, 1024] : Fin 2 → ℕ) a ≤ (![512, 4096] : Fin 2 → ℕ) a := by
  rw [k0_off1_eq']
  have := offc_lt i
  refine Fin.forall_fin_two.2 ⟨?_, ?_⟩
  · show 0 + 512 ≤ 512
    omega
  · show offc i + 1024 ≤ 4096
    omega

/-- The column block's piece of the gradient buffer. -/
abbrev P16 (i : grid0.Coords) (v10 : Vec Ideal S512x6144 .bf16) (arg7 : Memref sig .tc .vmem S1024x6144 .fp8e4m3) (X7 : BufTy.Contents (Elt Ideal) arg7.view.ty) : List (View.Piece (Elt Ideal) S512x4096 .f32) :=
  [⟨Rect.unit (k0_off1 i) ![512, 1024] (k0_inb1 i), k0_pay325 v10 (View.readAt (Elt Ideal) arg7.view (Rect.unit (s := ⟨2, ![1024, 6144]⟩) ![0, 0] ![1024, 6144] inb_S1024x6144_S1024x6144_0_0).toLoadRect X7)⟩]
/-- The column block's piece of the codes' buffer. -/
abbrev P17 (i : grid0.Coords) (arg6 : Memref sig .tc .vmem S512x1024 .fp8e4m3) (X6 : BufTy.Contents (Elt Ideal) arg6.view.ty) : List (View.Piece (Elt Ideal) S512x4096 .fp8e4m3) :=
  [⟨Rect.unit (k0_off1 i) ![512, 1024] (k0_inb1 i), k0_pay326 (View.readAt (Elt Ideal) arg6.view (Rect.unit (s := ⟨2, ![512, 1024]⟩) ![0, 0] ![512, 1024] inb_S512x1024_S512x1024_0_0).toLoadRect X6)⟩]

/-- The gradient of the column block is stored, the other columns stay. -/
theorem w16_apply (i : grid0.Coords) (v10 : Vec Ideal S512x6144 .bf16) (arg7 : Memref sig .tc .vmem S1024x6144 .fp8e4m3) (X7 : BufTy.Contents (Elt Ideal) arg7.view.ty) (arg16 : Memref sig .tc .vmem S512x4096 .f32) (F16 : BufTy.Contents (Elt Ideal) arg16.view.ty) (r c : ℕ) (hr : r < 512) (hc : c < 4096) :
    nat2 (ev (arg16.view.read (Elt Ideal) (arg16.view.writes (Elt Ideal) F16 (P16 i v10 arg7 X7)))) r c
      = if offc i ≤ c ∧ c < offc i + 1024 then ∑ n ∈ Finset.range 6144, nat2 (ev v10) r n * nat2 (ev (arg7.view.read (Elt Ideal) X7)) (c - offc i) n else nat2 (ev (arg16.view.read (Elt Ideal) F16)) r c := by
  dsimp only [ev]
  split
  · rename_i h
    rw [wrInF _ _ _ _ _ (k0_off1_eq' i) (by omega) (by omega)]
    pointwise [k0_pay325]
    rw [Finset.sum_range]
    refine Finset.sum_congr rfl fun n _ => mul_congr ?_ ?_
    · exact (nat2_of v10 _ _).trans (nat2_congr (by (try dsimp only) <;> omega) rfl)
    · rw [rdE _ _ _ (rfl : _ = ![0, 0])]
      exact nat2_congr (by (try dsimp only) <;> omega) (by omega)
  · rename_i h
    rw [wrColF _ _ _ _ _ (k0_off1_eq' i) (by omega)]
    rfl

/-- The codes of the column block are stored, the other columns stay. -/
theorem w17_apply (i : grid0.Coords) (arg6 : Memref sig .tc .vmem S512x1024 .fp8e4m3) (X6 : BufTy.Contents (Elt Ideal) arg6.view.ty) (arg17 : Memref sig .tc .vmem S512x4096 .fp8e4m3) (F17 : BufTy.Contents (Elt Ideal) arg17.view.ty) (r c : ℕ) (hr : r < 512) (hc : c < 4096) :
    nat2 (ev (arg17.view.read (Elt Ideal) (arg17.view.writes (Elt Ideal) F17 (P17 i arg6 X6)))) r c
      = if offc i ≤ c ∧ c < offc i + 1024 then nat2 (ev (arg6.view.read (Elt Ideal) X6)) r (c - offc i) else nat2 (ev (arg17.view.read (Elt Ideal) F17)) r c := by
  dsimp only [ev]
  split
  · rename_i h
    rw [wrInE _ _ _ _ _ (k0_off1_eq' i) (by omega) (by omega)]
    pointwise [k0_pay326]
    rw [rdE _ _ _ (rfl : _ = ![0, 0])]
    exact nat2_congr (by (try dsimp only) <;> omega) (by (try dsimp only) <;> omega)
  · rename_i h
    rw [wrColE _ _ _ _ _ (k0_off1_eq' i) (by omega)]
    rfl

/-- The gain's gradient is the sum of eight sublanes. -/
theorem w13_apply (v : Vec Ideal S8x4096 .f32) (arg13 : Memref sig .tc .vmem S1x4096 .f32) (F13 : BufTy.Contents (Elt Ideal) arg13.view.ty) (c : ℕ) (hc : c < 4096) :
    nat2 (ev (arg13.view.read (Elt Ideal) (arg13.view.writes (Elt Ideal) F13 [⟨Rect.unit ![0, 0] ![1, 4096] inb_S1x4096_S1x4096_0_0, k0_pay3 v⟩]))) 0 c
      = ∑ s ∈ Finset.range 8, nat2 (ev v) s c := by
  dsimp only [ev]
  rw [wrInF _ _ _ _ _ (rfl : _ = ![0, 0]) (by omega) (by omega)]
  pointwise [k0_pay3]
  rw [Finset.sum_range]
  refine Finset.sum_congr rfl fun s _ => ?_
  exact (nat2_of v _ _).trans (nat2_congr rfl (by show (⟨c - 0, _⟩ : Fin 4096).val = c; dsimp only; omega))

/-- The transposed activations are the activations' block, transposed. -/
theorem w14_apply (v : Vec Ideal S512x1024 .bf16) (arg14 : Memref sig .tc .vmem S1024x512 .bf16) (F14 : BufTy.Contents (Elt Ideal) arg14.view.ty) (a b : ℕ) (ha : a < 1024) (hb : b < 512) :
    nat2 (ev (arg14.view.read (Elt Ideal) (arg14.view.writes (Elt Ideal) F14 [⟨Rect.unit ![0, 0] ![1024, 512] inb_S1024x512_S1024x512_0_0, k0_pay329 v⟩]))) a b
      = nat2 (ev v) b a := by
  dsimp only [ev]
  rw [wrInB _ _ _ _ _ (rfl : _ = ![0, 0]) (by omega) (by omega)]
  pointwise [k0_pay329]
  exact (nat2_of v _ _).trans (nat2_congr (by (try dsimp only) <;> omega) (by (try dsimp only) <;> omega))

/-- The gradient in scratch after the point. -/
theorem v16 (I : In) (d : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X7 : BufTy.Contents (Elt Ideal) arg7.view.ty) (v10 : Vec Ideal S512x6144 .bf16)
    (F15 : BufTy.Contents (Elt Ideal) arg15.view.ty) (F16 : BufTy.Contents (Elt Ideal) arg16.view.ty) (F17 : BufTy.Contents (Elt Ideal) arg17.view.ty) (F18 : BufTy.Contents (Elt Ideal) arg18.view.ty) (F19 : BufTy.Contents (Elt Ideal) arg19.view.ty) (F20 : BufTy.Contents (Elt Ideal) arg20.view.ty) (F21 : BufTy.Contents (Elt Ideal) arg21.view.ty) (F22 : BufTy.Contents (Elt Ideal) arg22.view.ty)
    (h4 : ∀ c < 4096, nat2 (ev (arg4.view.read (Elt Ideal) X4)) 0 c = I.gm c)
    (h6 : ∀ r < 512, ∀ c < 1024, nat2 (ev (arg6.view.read (Elt Ideal) X6)) r c = I.x (512 * (i 0).val + r) (1024 * (i 1).val + c))
    (h7 : ∀ c < 1024, ∀ n < 6144, nat2 (ev (arg7.view.read (Elt Ideal) X7)) c n = I.w (1024 * (i 1).val + c) n)
    (h10 : ∀ r < 512, ∀ n < 6144, nat2 (ev v10) r n = I.dq (512 * (i 0).val + r) n * I.ws n)
    (hS : St I (i 0).val (i 1).val (arg15.view.read (Elt Ideal) F15) (arg16.view.read (Elt Ideal) F16) (arg17.view.read (Elt Ideal) F17) (arg19.view.read (Elt Ideal) F19) (arg20.view.read (Elt Ideal) F20) (arg21.view.read (Elt Ideal) F21) (arg22.view.read (Elt Ideal) F22)) (r c : ℕ) (hr : r < 512) (hc : c < 1024 * ((i 1).val + 1)) :
    nat2 (ev (arg16.view.read (Elt Ideal) (arg16.view.writes (Elt Ideal) F16 (P16 i v10 arg7 X7)))) r c = I.dh (512 * (i 0).val + r) c := by
  have hj : (i 1).val < 4 := (i 1).isLt
  rw [w16_apply _ _ _ _ _ _ _ _ hr (by omega)]
  unfold offc
  split_ifs with h
  · unfold In.dh
    refine Finset.sum_congr rfl fun n hn => ?_
    have hn := Finset.mem_range.1 hn
    rw [h10 r hr n hn, h7 _ (by omega) n hn, show 1024 * (i 1).val + (c - 1024 * (i 1).val) = c by omega]
  · exact hS.h16 r hr c (by omega)

/-- The activation codes in scratch after the point. -/
theorem v17 (I : In) (d : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X7 : BufTy.Contents (Elt Ideal) arg7.view.ty) (v10 : Vec Ideal S512x6144 .bf16)
    (F15 : BufTy.Contents (Elt Ideal) arg15.view.ty) (F16 : BufTy.Contents (Elt Ideal) arg16.view.ty) (F17 : BufTy.Contents (Elt Ideal) arg17.view.ty) (F18 : BufTy.Contents (Elt Ideal) arg18.view.ty) (F19 : BufTy.Contents (Elt Ideal) arg19.view.ty) (F20 : BufTy.Contents (Elt Ideal) arg20.view.ty) (F21 : BufTy.Contents (Elt Ideal) arg21.view.ty) (F22 : BufTy.Contents (Elt Ideal) arg22.view.ty)
    (h4 : ∀ c < 4096, nat2 (ev (arg4.view.read (Elt Ideal) X4)) 0 c = I.gm c)
    (h6 : ∀ r < 512, ∀ c < 1024, nat2 (ev (arg6.view.read (Elt Ideal) X6)) r c = I.x (512 * (i 0).val + r) (1024 * (i 1).val + c))
    (h7 : ∀ c < 1024, ∀ n < 6144, nat2 (ev (arg7.view.read (Elt Ideal) X7)) c n = I.w (1024 * (i 1).val + c) n)
    (h10 : ∀ r < 512, ∀ n < 6144, nat2 (ev v10) r n = I.dq (512 * (i 0).val + r) n * I.ws n)
    (hS : St I (i 0).val (i 1).val (arg15.view.read (Elt Ideal) F15) (arg16.view.read (Elt Ideal) F16) (arg17.view.read (Elt Ideal) F17) (arg19.view.read (Elt Ideal) F19) (arg20.view.read (Elt Ideal) F20) (arg21.view.read (Elt Ideal) F21) (arg22.view.read (Elt Ideal) F22)) (r c : ℕ) (hr : r < 512) (hc : c < 1024 * ((i 1).val + 1)) :
    nat2 (ev (arg17.view.read (Elt Ideal) (arg17.view.writes (Elt Ideal) F17 (P17 i arg6 X6)))) r c = I.x (512 * (i 0).val + r) c := by
  have hj : (i 1).val < 4 := (i 1).isLt
  rw [w17_apply _ _ _ _ _ _ _ hr (by omega)]
  unfold offc
  split_ifs with h
  · rw [h6 r hr _ (by omega), show 1024 * (i 1).val + (c - 1024 * (i 1).val) = c by omega]
  · exact hS.h17 r hr c (by omega)

/-- The normalised activations in scratch after the point. -/
theorem v18 (I : In) (d : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X7 : BufTy.Contents (Elt Ideal) arg7.view.ty) (v10 : Vec Ideal S512x6144 .bf16)
    (F15 : BufTy.Contents (Elt Ideal) arg15.view.ty) (F16 : BufTy.Contents (Elt Ideal) arg16.view.ty) (F17 : BufTy.Contents (Elt Ideal) arg17.view.ty) (F18 : BufTy.Contents (Elt Ideal) arg18.view.ty) (F19 : BufTy.Contents (Elt Ideal) arg19.view.ty) (F20 : BufTy.Contents (Elt Ideal) arg20.view.ty) (F21 : BufTy.Contents (Elt Ideal) arg21.view.ty) (F22 : BufTy.Contents (Elt Ideal) arg22.view.ty)
    (h4 : ∀ c < 4096, nat2 (ev (arg4.view.read (Elt Ideal) X4)) 0 c = I.gm c)
    (h6 : ∀ r < 512, ∀ c < 1024, nat2 (ev (arg6.view.read (Elt Ideal) X6)) r c = I.x (512 * (i 0).val + r) (1024 * (i 1).val + c))
    (h7 : ∀ c < 1024, ∀ n < 6144, nat2 (ev (arg7.view.read (Elt Ideal) X7)) c n = I.w (1024 * (i 1).val + c) n)
    (h10 : ∀ r < 512, ∀ n < 6144, nat2 (ev v10) r n = I.dq (512 * (i 0).val + r) n * I.ws n)
    (hS : St I (i 0).val (i 1).val (arg15.view.read (Elt Ideal) F15) (arg16.view.read (Elt Ideal) F16) (arg17.view.read (Elt Ideal) F17) (arg19.view.read (Elt Ideal) F19) (arg20.view.read (Elt Ideal) F20) (arg21.view.read (Elt Ideal) F21) (arg22.view.read (Elt Ideal) F22)) (r l : ℕ) (hr : r < 512) (hl : l < 1024) :
    nat2 (ev (arg18.view.read (Elt Ideal) (arg18.view.writes (Elt Ideal) F18 (pb_k0_t1 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 (arg16.view.writes (Elt Ideal) F16 (P16 i v10 arg7 X7)) F20 F18 F21 F22 (Scf.trips 0#32 (Scalar.addi 0#32 16#32) 1#32)).1))) r l = I.xh (512 * (i 0).val + r) (1024 * (i 1).val + l) := by
  have hj : (i 1).val < 4 := (i 1).isLt
  rw [trips16, loop18_apply (hk := le_refl _) (hl := hl), if_pos (by omega), h6 r hr l hl, h4 _ (by unfold offc; omega), show nat2 (ev (arg20.view.read (Elt Ideal) F20)) r (l % 128) = _ from hS.h20 r hr _ (by omega)]
  rfl

/-- The row sums in scratch after the point. -/
theorem v21 (I : In) (d : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X7 : BufTy.Contents (Elt Ideal) arg7.view.ty) (v10 : Vec Ideal S512x6144 .bf16)
    (F15 : BufTy.Contents (Elt Ideal) arg15.view.ty) (F16 : BufTy.Contents (Elt Ideal) arg16.view.ty) (F17 : BufTy.Contents (Elt Ideal) arg17.view.ty) (F18 : BufTy.Contents (Elt Ideal) arg18.view.ty) (F19 : BufTy.Contents (Elt Ideal) arg19.view.ty) (F20 : BufTy.Contents (Elt Ideal) arg20.view.ty) (F21 : BufTy.Contents (Elt Ideal) arg21.view.ty) (F22 : BufTy.Contents (Elt Ideal) arg22.view.ty)
    (h4 : ∀ c < 4096, nat2 (ev (arg4.view.read (Elt Ideal) X4)) 0 c = I.gm c)
    (h6 : ∀ r < 512, ∀ c < 1024, nat2 (ev (arg6.view.read (Elt Ideal) X6)) r c = I.x (512 * (i 0).val + r) (1024 * (i 1).val + c))
    (h7 : ∀ c < 1024, ∀ n < 6144, nat2 (ev (arg7.view.read (Elt Ideal) X7)) c n = I.w (1024 * (i 1).val + c) n)
    (h10 : ∀ r < 512, ∀ n < 6144, nat2 (ev v10) r n = I.dq (512 * (i 0).val + r) n * I.ws n)
    (hS : St I (i 0).val (i 1).val (arg15.view.read (Elt Ideal) F15) (arg16.view.read (Elt Ideal) F16) (arg17.view.read (Elt Ideal) F17) (arg19.view.read (Elt Ideal) F19) (arg20.view.read (Elt Ideal) F20) (arg21.view.read (Elt Ideal) F21) (arg22.view.read (Elt Ideal) F22)) (r l : ℕ) (hr : r < 512) (hl : l < 128) :
    nat2 (ev (arg21.view.read (Elt Ideal) (arg21.view.writes (Elt Ideal) F21 (pb_k0_t1 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 (arg16.view.writes (Elt Ideal) F16 (P16 i v10 arg7 X7)) F20 F18 F21 F22 (Scf.trips 0#32 (Scalar.addi 0#32 16#32) 1#32)).2.1))) r l = I.sa (8 * ((i 1).val + 1)) (512 * (i 0).val + r) l := by
  have hj : (i 1).val < 4 := (i 1).isLt
  rw [trips16, loop21_apply (hk := le_refl _) (hl := hl), if_pos (by omega), show nat2 (ev (arg21.view.read (Elt Ideal) F21)) r l = _ from hS.h21 r hr l hl]
  unfold In.sa
  rw [show 8 * ((i 1).val + 1) = 8 * (i 1).val + 8 by omega, Finset.sum_range_add]
  refine add_congr rfl (Finset.sum_congr rfl fun b hb => ?_)
  have hb := Finset.mem_range.1 hb
  rw [v16 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS r _ hr (by unfold offc; omega), h6 r hr _ (by omega), show nat2 (ev (arg20.view.read (Elt Ideal) F20)) r l = _ from hS.h20 r hr l hl, h4 _ (by unfold offc; omega)]
  unfold In.tt offc
  rw [show 128 * (8 * (i 1).val + b) + l = 1024 * (i 1).val + (128 * b + l) by omega]

/-- The gain's gradient in scratch after the point. -/
theorem v22 (I : In) (d : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X7 : BufTy.Contents (Elt Ideal) arg7.view.ty) (v10 : Vec Ideal S512x6144 .bf16)
    (F15 : BufTy.Contents (Elt Ideal) arg15.view.ty) (F16 : BufTy.Contents (Elt Ideal) arg16.view.ty) (F17 : BufTy.Contents (Elt Ideal) arg17.view.ty) (F18 : BufTy.Contents (Elt Ideal) arg18.view.ty) (F19 : BufTy.Contents (Elt Ideal) arg19.view.ty) (F20 : BufTy.Contents (Elt Ideal) arg20.view.ty) (F21 : BufTy.Contents (Elt Ideal) arg21.view.ty) (F22 : BufTy.Contents (Elt Ideal) arg22.view.ty)
    (h4 : ∀ c < 4096, nat2 (ev (arg4.view.read (Elt Ideal) X4)) 0 c = I.gm c)
    (h6 : ∀ r < 512, ∀ c < 1024, nat2 (ev (arg6.view.read (Elt Ideal) X6)) r c = I.x (512 * (i 0).val + r) (1024 * (i 1).val + c))
    (h7 : ∀ c < 1024, ∀ n < 6144, nat2 (ev (arg7.view.read (Elt Ideal) X7)) c n = I.w (1024 * (i 1).val + c) n)
    (h10 : ∀ r < 512, ∀ n < 6144, nat2 (ev v10) r n = I.dq (512 * (i 0).val + r) n * I.ws n)
    (hS : St I (i 0).val (i 1).val (arg15.view.read (Elt Ideal) F15) (arg16.view.read (Elt Ideal) F16) (arg17.view.read (Elt Ideal) F17) (arg19.view.read (Elt Ideal) F19) (arg20.view.read (Elt Ideal) F20) (arg21.view.read (Elt Ideal) F21) (arg22.view.read (Elt Ideal) F22)) (s c : ℕ) (hs : s < 8) (hc : c < 4096) :
    nat2 (ev (arg22.view.read (Elt Ideal) (arg22.view.writes (Elt Ideal) F22 (pb_k0_t1 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 (arg16.view.writes (Elt Ideal) F16 (P16 i v10 arg7 X7)) F20 F18 F21 F22 (Scf.trips 0#32 (Scalar.addi 0#32 16#32) 1#32)).2.2))) s c = I.dg (if c < 1024 * ((i 1).val + 1) then (i 0).val + 1 else (i 0).val) s c := by
  have hj : (i 1).val < 4 := (i 1).isLt
  rw [trips16, loop22_apply (hk := le_refl _) (hr := hs), show nat2 (ev (arg22.view.read (Elt Ideal) F22)) s c = _ from hS.h22 s hs c hc]
  unfold offc
  split_ifs <;> first | omega | (rw [add_zero]; done) | skip
  unfold In.dg
  rw [Finset.sum_range_succ _ (i 0).val]
  refine add_congr rfl (Finset.sum_congr rfl fun k hk => Finset.sum_congr rfl fun q hq => ?_)
  have hk := Finset.mem_range.1 hk
  have hq := Finset.mem_range.1 hq
  rw [v16 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS _ c (by omega) (by omega), h6 _ (by omega) _ (by omega), show nat2 (ev (arg20.view.read (Elt Ideal) F20)) (32 * k + (8 * q + s)) ((c - 1024 * (i 1).val) % 128) = _ from hS.h20 _ (by omega) _ (by omega)]
  unfold In.tt
  rw [show 1024 * (i 1).val + (c - 1024 * (i 1).val) = c by omega]

/-- A point takes the scratch buffers from one column block to the next. -/
theorem step_st (I : In) (d : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X7 : BufTy.Contents (Elt Ideal) arg7.view.ty) (v10 : Vec Ideal S512x6144 .bf16)
    (F15 : BufTy.Contents (Elt Ideal) arg15.view.ty) (F16 : BufTy.Contents (Elt Ideal) arg16.view.ty) (F17 : BufTy.Contents (Elt Ideal) arg17.view.ty) (F18 : BufTy.Contents (Elt Ideal) arg18.view.ty) (F19 : BufTy.Contents (Elt Ideal) arg19.view.ty) (F20 : BufTy.Contents (Elt Ideal) arg20.view.ty) (F21 : BufTy.Contents (Elt Ideal) arg21.view.ty) (F22 : BufTy.Contents (Elt Ideal) arg22.view.ty)
    (h4 : ∀ c < 4096, nat2 (ev (arg4.view.read (Elt Ideal) X4)) 0 c = I.gm c)
    (h6 : ∀ r < 512, ∀ c < 1024, nat2 (ev (arg6.view.read (Elt Ideal) X6)) r c = I.x (512 * (i 0).val + r) (1024 * (i 1).val + c))
    (h7 : ∀ c < 1024, ∀ n < 6144, nat2 (ev (arg7.view.read (Elt Ideal) X7)) c n = I.w (1024 * (i 1).val + c) n)
    (h10 : ∀ r < 512, ∀ n < 6144, nat2 (ev v10) r n = I.dq (512 * (i 0).val + r) n * I.ws n)
    (hS : St I (i 0).val (i 1).val (arg15.view.read (Elt Ideal) F15) (arg16.view.read (Elt Ideal) F16) (arg17.view.read (Elt Ideal) F17) (arg19.view.read (Elt Ideal) F19) (arg20.view.read (Elt Ideal) F20) (arg21.view.read (Elt Ideal) F21) (arg22.view.read (Elt Ideal) F22)) :
    St I (i 0).val ((i 1).val + 1) (arg15.view.read (Elt Ideal) F15) (arg16.view.read (Elt Ideal) (arg16.view.writes (Elt Ideal) F16 (P16 i v10 arg7 X7))) (arg17.view.read (Elt Ideal) (arg17.view.writes (Elt Ideal) F17 (P17 i arg6 X6))) (arg19.view.read (Elt Ideal) F19) (arg20.view.read (Elt Ideal) F20) (arg21.view.read (Elt Ideal) (arg21.view.writes (Elt Ideal) F21 (pb_k0_t1 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 (arg16.view.writes (Elt Ideal) F16 (P16 i v10 arg7 X7)) F20 F18 F21 F22 (Scf.trips 0#32 (Scalar.addi 0#32 16#32) 1#32)).2.1)) (arg22.view.read (Elt Ideal) (arg22.view.writes (Elt Ideal) F22 (pb_k0_t1 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 (arg16.view.writes (Elt Ideal) F16 (P16 i v10 arg7 X7)) F20 F18 F21 F22 (Scf.trips 0#32 (Scalar.addi 0#32 16#32) 1#32)).2.2)) where
  h15 := hS.h15
  h16 r hr c hc := v16 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS r c hr hc
  h17 r hr c hc := v17 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS r c hr hc
  h19 := hS.h19
  h20 := hS.h20
  h21 r hr l hl := v21 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS r l hr hl
  h22 s hs c hc := v22 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS s c hs hc

/-- The block of the transposed activations a point stores. -/
theorem step_14 (I : In) (d : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X7 : BufTy.Contents (Elt Ideal) arg7.view.ty) (v10 : Vec Ideal S512x6144 .bf16)
    (F15 : BufTy.Contents (Elt Ideal) arg15.view.ty) (F16 : BufTy.Contents (Elt Ideal) arg16.view.ty) (F17 : BufTy.Contents (Elt Ideal) arg17.view.ty) (F18 : BufTy.Contents (Elt Ideal) arg18.view.ty) (F19 : BufTy.Contents (Elt Ideal) arg19.view.ty) (F20 : BufTy.Contents (Elt Ideal) arg20.view.ty) (F21 : BufTy.Contents (Elt Ideal) arg21.view.ty) (F22 : BufTy.Contents (Elt Ideal) arg22.view.ty)
    (h4 : ∀ c < 4096, nat2 (ev (arg4.view.read (Elt Ideal) X4)) 0 c = I.gm c)
    (h6 : ∀ r < 512, ∀ c < 1024, nat2 (ev (arg6.view.read (Elt Ideal) X6)) r c = I.x (512 * (i 0).val + r) (1024 * (i 1).val + c))
    (h7 : ∀ c < 1024, ∀ n < 6144, nat2 (ev (arg7.view.read (Elt Ideal) X7)) c n = I.w (1024 * (i 1).val + c) n)
    (h10 : ∀ r < 512, ∀ n < 6144, nat2 (ev v10) r n = I.dq (512 * (i 0).val + r) n * I.ws n)
    (hS : St I (i 0).val (i 1).val (arg15.view.read (Elt Ideal) F15) (arg16.view.read (Elt Ideal) F16) (arg17.view.read (Elt Ideal) F17) (arg19.view.read (Elt Ideal) F19) (arg20.view.read (Elt Ideal) F20) (arg21.view.read (Elt Ideal) F21) (arg22.view.read (Elt Ideal) F22)) (arg14' : Memref sig .tc .vmem S1024x512 .bf16) (F14 : BufTy.Contents (Elt Ideal) arg14'.view.ty) (a b : ℕ) (ha : a < 1024) (hb : b < 512) :
    nat2 (ev (arg14'.view.read (Elt Ideal) (arg14'.view.writes (Elt Ideal) F14 [⟨Rect.unit ![0, 0] ![1024, 512] inb_S1024x512_S1024x512_0_0, k0_pay329 (View.readAt (Elt Ideal) arg18.view (Rect.unit (s := ⟨2, ![512, 1024]⟩) ![0, 0] ![512, 1024] inb_S512x1024_S512x1024_0_0).toLoadRect (arg18.view.writes (Elt Ideal) F18 (pb_k0_t1 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 (arg16.view.writes (Elt Ideal) F16 (P16 i v10 arg7 X7)) F20 F18 F21 F22 (Scf.trips 0#32 (Scalar.addi 0#32 16#32) 1#32)).1))⟩]))) a b
      = I.xh (512 * (i 0).val + b) (1024 * (i 1).val + a) := by
  rw [w14_apply _ _ _ _ _ ha hb, ev, nat2_lt _ hb ha, rdB _ _ _ (rfl : _ = ![0, 0])]
  refine (nat2_congr ?_ ?_).trans (v18 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS b a hb ha) <;> dsimp only <;> omega

/-- The gain's gradient a point stores. -/
theorem step_13 (I : In) (d : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X7 : BufTy.Contents (Elt Ideal) arg7.view.ty) (v10 : Vec Ideal S512x6144 .bf16)
    (F15 : BufTy.Contents (Elt Ideal) arg15.view.ty) (F16 : BufTy.Contents (Elt Ideal) arg16.view.ty) (F17 : BufTy.Contents (Elt Ideal) arg17.view.ty) (F18 : BufTy.Contents (Elt Ideal) arg18.view.ty) (F19 : BufTy.Contents (Elt Ideal) arg19.view.ty) (F20 : BufTy.Contents (Elt Ideal) arg20.view.ty) (F21 : BufTy.Contents (Elt Ideal) arg21.view.ty) (F22 : BufTy.Contents (Elt Ideal) arg22.view.ty)
    (h4 : ∀ c < 4096, nat2 (ev (arg4.view.read (Elt Ideal) X4)) 0 c = I.gm c)
    (h6 : ∀ r < 512, ∀ c < 1024, nat2 (ev (arg6.view.read (Elt Ideal) X6)) r c = I.x (512 * (i 0).val + r) (1024 * (i 1).val + c))
    (h7 : ∀ c < 1024, ∀ n < 6144, nat2 (ev (arg7.view.read (Elt Ideal) X7)) c n = I.w (1024 * (i 1).val + c) n)
    (h10 : ∀ r < 512, ∀ n < 6144, nat2 (ev v10) r n = I.dq (512 * (i 0).val + r) n * I.ws n)
    (hS : St I (i 0).val (i 1).val (arg15.view.read (Elt Ideal) F15) (arg16.view.read (Elt Ideal) F16) (arg17.view.read (Elt Ideal) F17) (arg19.view.read (Elt Ideal) F19) (arg20.view.read (Elt Ideal) F20) (arg21.view.read (Elt Ideal) F21) (arg22.view.read (Elt Ideal) F22)) (arg13' : Memref sig .tc .vmem S1x4096 .f32) (F13 : BufTy.Contents (Elt Ideal) arg13'.view.ty) (c : ℕ) (hc : c < 4096) :
    nat2 (ev (arg13'.view.read (Elt Ideal) (arg13'.view.writes (Elt Ideal) F13 [⟨Rect.unit ![0, 0] ![1, 4096] inb_S1x4096_S1x4096_0_0, k0_pay3 (View.readAt (Elt Ideal) arg22.view (Rect.unit (s := ⟨2, ![8, 4096]⟩) ![0, 0] ![8, 4096] inb_S8x4096_S8x4096_0_0).toLoadRect (arg22.view.writes (Elt Ideal) F22 (pb_k0_t1 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 (arg16.view.writes (Elt Ideal) F16 (P16 i v10 arg7 X7)) F20 F18 F21 F22 (Scf.trips 0#32 (Scalar.addi 0#32 16#32) 1#32)).2.2))⟩]))) 0 c
      = ∑ s ∈ Finset.range 8, I.dg (if c < 1024 * ((i 1).val + 1) then (i 0).val + 1 else (i 0).val) s c := by
  rw [w13_apply _ _ _ _ hc]
  refine Finset.sum_congr rfl fun s hs => ?_
  have hs := Finset.mem_range.1 hs
  rw [ev, nat2_lt _ hs hc, rdF _ _ _ (rfl : _ = ![0, 0])]
  refine (nat2_congr ?_ ?_).trans (v22 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS s c hs hc) <;> dsimp only <;> omega

/-- The gradient of the activations that the last column block's point stores. -/
theorem step_11 (I : In) (d : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X7 : BufTy.Contents (Elt Ideal) arg7.view.ty) (v10 : Vec Ideal S512x6144 .bf16)
    (F15 : BufTy.Contents (Elt Ideal) arg15.view.ty) (F16 : BufTy.Contents (Elt Ideal) arg16.view.ty) (F17 : BufTy.Contents (Elt Ideal) arg17.view.ty) (F18 : BufTy.Contents (Elt Ideal) arg18.view.ty) (F19 : BufTy.Contents (Elt Ideal) arg19.view.ty) (F20 : BufTy.Contents (Elt Ideal) arg20.view.ty) (F21 : BufTy.Contents (Elt Ideal) arg21.view.ty) (F22 : BufTy.Contents (Elt Ideal) arg22.view.ty)
    (h4 : ∀ c < 4096, nat2 (ev (arg4.view.read (Elt Ideal) X4)) 0 c = I.gm c)
    (h6 : ∀ r < 512, ∀ c < 1024, nat2 (ev (arg6.view.read (Elt Ideal) X6)) r c = I.x (512 * (i 0).val + r) (1024 * (i 1).val + c))
    (h7 : ∀ c < 1024, ∀ n < 6144, nat2 (ev (arg7.view.read (Elt Ideal) X7)) c n = I.w (1024 * (i 1).val + c) n)
    (h10 : ∀ r < 512, ∀ n < 6144, nat2 (ev v10) r n = I.dq (512 * (i 0).val + r) n * I.ws n)
    (hS : St I (i 0).val (i 1).val (arg15.view.read (Elt Ideal) F15) (arg16.view.read (Elt Ideal) F16) (arg17.view.read (Elt Ideal) F17) (arg19.view.read (Elt Ideal) F19) (arg20.view.read (Elt Ideal) F20) (arg21.view.read (Elt Ideal) F21) (arg22.view.read (Elt Ideal) F22)) (k0_h3 : k0_cond3 i = 1#1) (h3 : (i 1).val = 3) (X9 : BufTy.Contents (Elt Ideal) arg9.view.ty) (F11 : BufTy.Contents (Elt Ideal) arg11.view.ty)
    (h9 : ∀ r < 512, ∀ c < 4096, nat2 (ev (arg9.view.read (Elt Ideal) X9)) r c = I.dr (512 * (i 0).val + r) c) (r c : ℕ) (hr : r < 512) (hc : c < 4096) :
    nat2 (ev (arg11.view.read (Elt Ideal) (arg11.view.writes (Elt Ideal) F11 (pb_k0_t2 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h3 X4 X9 (arg16.view.writes (Elt Ideal) F16 (P16 i v10 arg7 X7)) (arg17.view.writes (Elt Ideal) F17 (P17 i arg6 X6)) F19 F20 (arg21.view.writes (Elt Ideal) F21 (pb_k0_t1 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 (arg16.view.writes (Elt Ideal) F16 (P16 i v10 arg7 X7)) F20 F18 F21 F22 (Scf.trips 0#32 (Scalar.addi 0#32 16#32) 1#32)).2.1) (Scf.trips 0#32 (Scalar.addi 0#32 16#32) 1#32)).2.1))) r c
      = I.dx (512 * (i 0).val + r) c := by
  have e21 : ∀ l < 128, nat2 (ev (arg21.view.read (Elt Ideal) (arg21.view.writes (Elt Ideal) F21 (pb_k0_t1 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 (arg16.view.writes (Elt Ideal) F16 (P16 i v10 arg7 X7)) F20 F18 F21 F22 (Scf.trips 0#32 (Scalar.addi 0#32 16#32) 1#32)).2.1))) r l = I.sa 32 (512 * (i 0).val + r) l := fun l hl => by
    rw [v21 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS r l hr hl, h3]
  have e16 := v16 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS r c hr (by omega)
  have e17 := v17 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS r c hr (by omega)
  rw [trips16] at *
  rw [loop11_apply (hk := le_refl _) (hl := hc), if_pos (by omega), e16, e17, h9 r hr c hc, h4 c hc, Finset.sum_congr rfl fun l hl => e21 l (Finset.mem_range.1 hl),
    show nat2 (ev (arg19.view.read (Elt Ideal) F19)) r (c % 128) = _ from hS.h19 r hr _ (by omega), show nat2 (ev (arg20.view.read (Elt Ideal) F20)) r (c % 128) = _ from hS.h20 r hr _ (by omega)]
  rfl

end Cert.KernelIdeal.Dx

end
-- ==== Proof.KernelIdealInit.lean ====
/-
  What the first column block of a row block puts in the scratch buffers before its product, at the extended reals.
-/
module

public import proofs.«01_k».proof.Proof.Gen.KernelIdeal.Frame
public import proofs.«01_k».proof.Proof.KernelIdealObl
public import proofs.«01_k».proof.Proof.KernelIdealStep
public import Idealize.ShloMosaic.Lib.Pointwise
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A block of four rows of 128 lanes at a row number, zero off its extent. -/
def row4 (v : (⟨3, ![1, 4, 128]⟩ : Shape).Idx → EReal) (r : ℕ) : EReal :=
  if h : r < 512 then v (ix3 (0 : Fin 1) ⟨r / 128, by omega⟩ ⟨r % 128, by omega⟩) else 0

/-- A row of 128 of a row block's numbers, as loaded. -/
theorem rd4 {sig : RefSig} {κ : Kind} {sp : Space} (v : View sig κ sp ⟨3, ![1, 4, 128]⟩ .f32) (f : v.ty.Contents (Elt Ideal))
    {q : ℕ} (inb) (hq : q < 4) (a b : Fin 1) (l : Fin 128) :
    v.readAt (Elt Ideal) (Rect.unit (s := ⟨3, ![1, 4, 128]⟩) ![0, q, 0] ![1, 1, 128] inb).toLoadRect f (ix3 a b l)
      = row4 (v.read (Elt Ideal) f) (128 * q + l.val) := by
  unfold row4
  have hl := l.isLt
  rw [dif_pos (by omega), View.readAt_apply]
  refine congrArg (v.read (Elt Ideal) f) ?_
  funext x
  refine Fin.ext ?_
  fin_cases x
  · have := a.isLt
    show 0 + 1 * a.val = 0
    omega
  · have := b.isLt
    show q + 1 * b.val = (128 * q + l.val) / 128
    omega
  · show 0 + 1 * l.val = (128 * q + l.val) % 128
    omega

/-- The same, by the row's number. -/
theorem rd4' {sig : RefSig} {κ : Kind} {sp : Space} (v : View sig κ sp ⟨3, ![1, 4, 128]⟩ .f32) (f : v.ty.Contents (Elt Ideal))
    {q : ℕ} (inb) (hq : q < 4) (a b : Fin 1) (l : Fin 128) {r : ℕ} (h : 128 * q + l.val = r) :
    v.readAt (Elt Ideal) (Rect.unit (s := ⟨3, ![1, 4, 128]⟩) ![0, q, 0] ![1, 1, 128] inb).toLoadRect f (ix3 a b l)
      = row4 (v.read (Elt Ideal) f) r := by
  subst h
  exact rd4 v f inb hq a b l

/-- The scaled gradient of the projection is stored. -/
theorem init15A (arg5 : Memref sig .tc .vmem S1x6144 .bf16) (arg8 arg15 : Memref sig .tc .vmem S512x6144 .bf16) (X5 : BufTy.Contents (Elt Ideal) arg5.view.ty) (X8 : BufTy.Contents (Elt Ideal) arg8.view.ty) (f : BufTy.Contents (Elt Ideal) arg15.view.ty) (r n : ℕ) (hr : r < 512) (hn : n < 6144) :
    nat2 (ev (arg15.view.read (Elt Ideal) (arg15.view.writes (Elt Ideal) f (runA.sl.H15_1 arg5 arg8 X5 X8)))) r n = nat2 (ev (arg8.view.read (Elt Ideal) X8)) r n * nat2 (ev (arg5.view.read (Elt Ideal) X5)) 0 n := by
  unfold runA.sl.H15_1
  dsimp only [ev]
  rw [wrInB _ _ _ _ _ (rfl : _ = ![0, 0]) (by omega) (by omega)]
  pointwise [k0_pay4]
  rw [rdB _ _ _ (rfl : _ = ![0, 0]), rdB _ _ _ (rfl : _ = ![0, 0])]
  refine mul_congr (nat2_congr ?_ ?_) (nat2_congr ?_ ?_) <;> (try simp only [Fin.val_zero, Fin.isValue]) <;> omega

/-- The scaled gradient of the projection is read back. -/
theorem v10A (arg5 : Memref sig .tc .vmem S1x6144 .bf16) (arg8 arg15 : Memref sig .tc .vmem S512x6144 .bf16) (X5 : BufTy.Contents (Elt Ideal) arg5.view.ty) (X8 : BufTy.Contents (Elt Ideal) arg8.view.ty) (r n : ℕ) (hr : r < 512) (hn : n < 6144) :
    nat2 (n := 512) (m := 6144) (ev (runA.sl.v10 (F := Ideal) arg5 arg8 arg15 X5 X8)) r n = nat2 (ev (arg8.view.read (Elt Ideal) X8)) r n * nat2 (ev (arg5.view.read (Elt Ideal) X5)) 0 n := by
  unfold runA.sl.v10
  rw [ev, nat2_lt _ hr hn]
  unfold View.readCov
  rw [rdB _ _ _ (rfl : _ = ![0, 0])]
  refine (nat2_congr ?_ ?_).trans (init15A arg5 arg8 arg15 X5 X8 _ r n hr hn) <;> dsimp only <;> omega

set_option maxHeartbeats 1000000 in
/-- The reciprocal standard deviations are laid along the lanes. -/
theorem init19A (arg3 : Memref sig .tc .vmem S1x4x128 .f32) (arg19 : Memref sig .tc .vmem S512x128 .f32) (X3 : BufTy.Contents (Elt Ideal) arg3.view.ty) (f : BufTy.Contents (Elt Ideal) arg19.view.ty) (r l : ℕ) (hr : r < 512) (hl : l < 128) :
    nat2 (ev (arg19.view.read (Elt Ideal) (arg19.view.writes (Elt Ideal) f (runA.sl.H19_4 (F := Ideal) arg3 X3)))) r l = row4 (arg3.view.read (Elt Ideal) X3) r := by
  unfold runA.sl.H19_4
  dsimp only [ev]
  by_cases h3 : 384 ≤ r
  · rw [wrInF _ _ _ _ _ (rfl : _ = ![384, 0]) (by omega) (by omega)]
    pointwise [runA.sl.v68,runA.sl.v69,runA.sl.v70,runA.sl.v71,runA.sl.v72,runA.sl.v73,runA.sl.v74,runA.sl.v76,runA.sl.v77,runA.sl.v78,runA.sl.v79,runA.sl.v81,runA.sl.v82,runA.sl.v84,runA.sl.v85,runA.sl.v86,runA.sl.v87,runA.sl.v88,runA.sl.v89,runA.sl.v90,runA.sl.v92,runA.sl.v93,runA.sl.v94,runA.sl.v95,runA.sl.v96,runA.sl.v97,runA.sl.v98,runA.sl.v100,runA.sl.v101,k0_pay5,k0_pay6,k0_pay7,k0_pay8,k0_pay9,k0_pay10,k0_pay11,k0_pay12,k0_pay322]
    exact rd4' (q := 3) _ _ _ (by decide) _ _ _ (by dsimp only; omega)
  rw [wrRowF _ _ _ _ _ (rfl : _ = ![384, 0]) (by omega)]
  by_cases h3 : 256 ≤ r
  · rw [wrInF _ _ _ _ _ (rfl : _ = ![256, 0]) (by omega) (by omega)]
    pointwise [runA.sl.v68,runA.sl.v69,runA.sl.v70,runA.sl.v71,runA.sl.v72,runA.sl.v73,runA.sl.v74,runA.sl.v76,runA.sl.v77,runA.sl.v78,runA.sl.v79,runA.sl.v81,runA.sl.v82,runA.sl.v84,runA.sl.v85,runA.sl.v86,runA.sl.v87,runA.sl.v88,runA.sl.v89,runA.sl.v90,runA.sl.v92,runA.sl.v93,runA.sl.v94,runA.sl.v95,runA.sl.v96,runA.sl.v97,runA.sl.v98,runA.sl.v100,runA.sl.v101,k0_pay5,k0_pay6,k0_pay7,k0_pay8,k0_pay9,k0_pay10,k0_pay11,k0_pay12,k0_pay322]
    exact rd4' (q := 2) _ _ _ (by decide) _ _ _ (by dsimp only; omega)
  rw [wrRowF _ _ _ _ _ (rfl : _ = ![256, 0]) (by omega)]
  by_cases h3 : 128 ≤ r
  · rw [wrInF _ _ _ _ _ (rfl : _ = ![128, 0]) (by omega) (by omega)]
    pointwise [runA.sl.v68,runA.sl.v69,runA.sl.v70,runA.sl.v71,runA.sl.v72,runA.sl.v73,runA.sl.v74,runA.sl.v76,runA.sl.v77,runA.sl.v78,runA.sl.v79,runA.sl.v81,runA.sl.v82,runA.sl.v84,runA.sl.v85,runA.sl.v86,runA.sl.v87,runA.sl.v88,runA.sl.v89,runA.sl.v90,runA.sl.v92,runA.sl.v93,runA.sl.v94,runA.sl.v95,runA.sl.v96,runA.sl.v97,runA.sl.v98,runA.sl.v100,runA.sl.v101,k0_pay5,k0_pay6,k0_pay7,k0_pay8,k0_pay9,k0_pay10,k0_pay11,k0_pay12,k0_pay322]
    exact rd4' (q := 1) _ _ _ (by decide) _ _ _ (by dsimp only; omega)
  rw [wrRowF _ _ _ _ _ (rfl : _ = ![128, 0]) (by omega)]
  rw [wrInF _ _ _ _ _ (rfl : _ = ![0, 0]) (by omega) (by omega)]
  pointwise [runA.sl.v68,runA.sl.v69,runA.sl.v70,runA.sl.v71,runA.sl.v72,runA.sl.v73,runA.sl.v74,runA.sl.v76,runA.sl.v77,runA.sl.v78,runA.sl.v79,runA.sl.v81,runA.sl.v82,runA.sl.v84,runA.sl.v85,runA.sl.v86,runA.sl.v87,runA.sl.v88,runA.sl.v89,runA.sl.v90,runA.sl.v92,runA.sl.v93,runA.sl.v94,runA.sl.v95,runA.sl.v96,runA.sl.v97,runA.sl.v98,runA.sl.v100,runA.sl.v101,k0_pay5,k0_pay6,k0_pay7,k0_pay8,k0_pay9,k0_pay10,k0_pay11,k0_pay12,k0_pay322]
  exact rd4' (q := 0) _ _ _ (by decide) _ _ _ (by (try dsimp only) <;> omega)

set_option maxHeartbeats 1000000 in
/-- The activation scales are laid along the lanes. -/
theorem init20A' (arg2 : Memref sig .tc .vmem S1x4x128 .f32) (arg20 : Memref sig .tc .vmem S512x128 .f32) (X2 : BufTy.Contents (Elt Ideal) arg2.view.ty) (f : BufTy.Contents (Elt Ideal) arg20.view.ty) (r l : ℕ) (hr : r < 512) (hl : l < 128) :
    nat2 (ev (arg20.view.read (Elt Ideal) (arg20.view.writes (Elt Ideal) f (runA.sl.H20_4 (F := Ideal) arg2 X2)))) r l = row4 (arg2.view.read (Elt Ideal) X2) r := by
  unfold runA.sl.H20_4
  dsimp only [ev]
  by_cases h3 : 384 ≤ r
  · rw [wrInF _ _ _ _ _ (rfl : _ = ![384, 0]) (by omega) (by omega)]
    pointwise [runA.sl.v68,runA.sl.v69,runA.sl.v70,runA.sl.v71,runA.sl.v72,runA.sl.v73,runA.sl.v74,runA.sl.v76,runA.sl.v77,runA.sl.v78,runA.sl.v79,runA.sl.v81,runA.sl.v82,runA.sl.v84,runA.sl.v85,runA.sl.v86,runA.sl.v87,runA.sl.v88,runA.sl.v89,runA.sl.v90,runA.sl.v92,runA.sl.v93,runA.sl.v94,runA.sl.v95,runA.sl.v96,runA.sl.v97,runA.sl.v98,runA.sl.v100,runA.sl.v101,k0_pay5,k0_pay6,k0_pay7,k0_pay8,k0_pay9,k0_pay10,k0_pay11,k0_pay12,k0_pay322]
    exact rd4' (q := 3) _ _ _ (by decide) _ _ _ (by dsimp only; omega)
  rw [wrRowF _ _ _ _ _ (rfl : _ = ![384, 0]) (by omega)]
  by_cases h3 : 256 ≤ r
  · rw [wrInF _ _ _ _ _ (rfl : _ = ![256, 0]) (by omega) (by omega)]
    pointwise [runA.sl.v68,runA.sl.v69,runA.sl.v70,runA.sl.v71,runA.sl.v72,runA.sl.v73,runA.sl.v74,runA.sl.v76,runA.sl.v77,runA.sl.v78,runA.sl.v79,runA.sl.v81,runA.sl.v82,runA.sl.v84,runA.sl.v85,runA.sl.v86,runA.sl.v87,runA.sl.v88,runA.sl.v89,runA.sl.v90,runA.sl.v92,runA.sl.v93,runA.sl.v94,runA.sl.v95,runA.sl.v96,runA.sl.v97,runA.sl.v98,runA.sl.v100,runA.sl.v101,k0_pay5,k0_pay6,k0_pay7,k0_pay8,k0_pay9,k0_pay10,k0_pay11,k0_pay12,k0_pay322]
    exact rd4' (q := 2) _ _ _ (by decide) _ _ _ (by dsimp only; omega)
  rw [wrRowF _ _ _ _ _ (rfl : _ = ![256, 0]) (by omega)]
  by_cases h3 : 128 ≤ r
  · rw [wrInF _ _ _ _ _ (rfl : _ = ![128, 0]) (by omega) (by omega)]
    pointwise [runA.sl.v68,runA.sl.v69,runA.sl.v70,runA.sl.v71,runA.sl.v72,runA.sl.v73,runA.sl.v74,runA.sl.v76,runA.sl.v77,runA.sl.v78,runA.sl.v79,runA.sl.v81,runA.sl.v82,runA.sl.v84,runA.sl.v85,runA.sl.v86,runA.sl.v87,runA.sl.v88,runA.sl.v89,runA.sl.v90,runA.sl.v92,runA.sl.v93,runA.sl.v94,runA.sl.v95,runA.sl.v96,runA.sl.v97,runA.sl.v98,runA.sl.v100,runA.sl.v101,k0_pay5,k0_pay6,k0_pay7,k0_pay8,k0_pay9,k0_pay10,k0_pay11,k0_pay12,k0_pay322]
    exact rd4' (q := 1) _ _ _ (by decide) _ _ _ (by dsimp only; omega)
  rw [wrRowF _ _ _ _ _ (rfl : _ = ![128, 0]) (by omega)]
  rw [wrInF _ _ _ _ _ (rfl : _ = ![0, 0]) (by omega) (by omega)]
  pointwise [runA.sl.v68,runA.sl.v69,runA.sl.v70,runA.sl.v71,runA.sl.v72,runA.sl.v73,runA.sl.v74,runA.sl.v76,runA.sl.v77,runA.sl.v78,runA.sl.v79,runA.sl.v81,runA.sl.v82,runA.sl.v84,runA.sl.v85,runA.sl.v86,runA.sl.v87,runA.sl.v88,runA.sl.v89,runA.sl.v90,runA.sl.v92,runA.sl.v93,runA.sl.v94,runA.sl.v95,runA.sl.v96,runA.sl.v97,runA.sl.v98,runA.sl.v100,runA.sl.v101,k0_pay5,k0_pay6,k0_pay7,k0_pay8,k0_pay9,k0_pay10,k0_pay11,k0_pay12,k0_pay322]
  exact rd4' (q := 0) _ _ _ (by decide) _ _ _ (by (try dsimp only) <;> omega)

/-- The activation scales are multiplied by the reciprocal standard deviations. -/
theorem init20A (arg2 arg3 : Memref sig .tc .vmem S1x4x128 .f32) (arg19 arg20 : Memref sig .tc .vmem S512x128 .f32) (X2 : BufTy.Contents (Elt Ideal) arg2.view.ty) (X3 : BufTy.Contents (Elt Ideal) arg3.view.ty) (f : BufTy.Contents (Elt Ideal) arg20.view.ty) (r l : ℕ) (hr : r < 512) (hl : l < 128) :
    nat2 (ev (arg20.view.read (Elt Ideal) (arg20.view.writes (Elt Ideal) f (runA.sl.H20_5 (F := Ideal) arg2 arg3 arg19 arg20 X2 X3)))) r l = row4 (arg2.view.read (Elt Ideal) X2) r * row4 (arg3.view.read (Elt Ideal) X3) r := by
  unfold runA.sl.H20_5
  dsimp only [ev]
  rw [wrInF _ _ _ _ _ (rfl : _ = ![0, 0]) (by omega) (by omega)]
  pointwise [k0_pay323]
  unfold runA.sl.v107 runA.sl.v108 View.readCov
  rw [rdF _ _ _ (rfl : _ = ![0, 0]), rdF _ _ _ (rfl : _ = ![0, 0])]
  refine mul_congr ((nat2_congr ?_ ?_).trans (init20A' arg2 arg20 X2 _ r l hr hl)) ((nat2_congr ?_ ?_).trans (init19A arg3 arg19 X3 _ r l hr hl)) <;> dsimp only <;> omega

/-- The row sums start at zero. -/
theorem init21A (arg21 : Memref sig .tc .vmem S512x128 .f32) (f : BufTy.Contents (Elt Ideal) arg21.view.ty) (r l : ℕ) (hr : r < 512) (hl : l < 128) :
    nat2 (ev (arg21.view.read (Elt Ideal) (arg21.view.writes (Elt Ideal) f (runA.sl.H21_1 (F := Ideal))))) r l = 0 := by
  unfold runA.sl.H21_1
  dsimp only [ev]
  rw [wrInF _ _ _ _ _ (rfl : _ = ![0, 0]) (by omega) (by omega)]
  pointwise [k0_pay324]

/-- The scaled gradient of the projection is stored. -/
theorem init15B (arg5 : Memref sig .tc .vmem S1x6144 .bf16) (arg8 arg15 : Memref sig .tc .vmem S512x6144 .bf16) (X5 : BufTy.Contents (Elt Ideal) arg5.view.ty) (X8 : BufTy.Contents (Elt Ideal) arg8.view.ty) (f : BufTy.Contents (Elt Ideal) arg15.view.ty) (r n : ℕ) (hr : r < 512) (hn : n < 6144) :
    nat2 (ev (arg15.view.read (Elt Ideal) (arg15.view.writes (Elt Ideal) f (runB.sl.H15_1 arg5 arg8 X5 X8)))) r n = nat2 (ev (arg8.view.read (Elt Ideal) X8)) r n * nat2 (ev (arg5.view.read (Elt Ideal) X5)) 0 n := by
  unfold runB.sl.H15_1
  dsimp only [ev]
  rw [wrInB _ _ _ _ _ (rfl : _ = ![0, 0]) (by omega) (by omega)]
  pointwise [k0_pay4]
  rw [rdB _ _ _ (rfl : _ = ![0, 0]), rdB _ _ _ (rfl : _ = ![0, 0])]
  refine mul_congr (nat2_congr ?_ ?_) (nat2_congr ?_ ?_) <;> (try simp only [Fin.val_zero, Fin.isValue]) <;> omega

/-- The scaled gradient of the projection is read back. -/
theorem v10B (arg5 : Memref sig .tc .vmem S1x6144 .bf16) (arg8 arg15 : Memref sig .tc .vmem S512x6144 .bf16) (X5 : BufTy.Contents (Elt Ideal) arg5.view.ty) (X8 : BufTy.Contents (Elt Ideal) arg8.view.ty) (r n : ℕ) (hr : r < 512) (hn : n < 6144) :
    nat2 (n := 512) (m := 6144) (ev (runB.sl.v10 (F := Ideal) arg5 arg8 arg15 X5 X8)) r n = nat2 (ev (arg8.view.read (Elt Ideal) X8)) r n * nat2 (ev (arg5.view.read (Elt Ideal) X5)) 0 n := by
  unfold runB.sl.v10
  rw [ev, nat2_lt _ hr hn]
  unfold View.readCov
  rw [rdB _ _ _ (rfl : _ = ![0, 0])]
  refine (nat2_congr ?_ ?_).trans (init15B arg5 arg8 arg15 X5 X8 _ r n hr hn) <;> dsimp only <;> omega

set_option maxHeartbeats 1000000 in
/-- The reciprocal standard deviations are laid along the lanes. -/
theorem init19B (arg3 : Memref sig .tc .vmem S1x4x128 .f32) (arg19 : Memref sig .tc .vmem S512x128 .f32) (X3 : BufTy.Contents (Elt Ideal) arg3.view.ty) (f : BufTy.Contents (Elt Ideal) arg19.view.ty) (r l : ℕ) (hr : r < 512) (hl : l < 128) :
    nat2 (ev (arg19.view.read (Elt Ideal) (arg19.view.writes (Elt Ideal) f (runB.sl.H19_4 (F := Ideal) arg3 X3)))) r l = row4 (arg3.view.read (Elt Ideal) X3) r := by
  unfold runB.sl.H19_4
  dsimp only [ev]
  by_cases h3 : 384 ≤ r
  · rw [wrInF _ _ _ _ _ (rfl : _ = ![384, 0]) (by omega) (by omega)]
    pointwise [runB.sl.v68,runB.sl.v69,runB.sl.v70,runB.sl.v71,runB.sl.v72,runB.sl.v73,runB.sl.v74,runB.sl.v76,runB.sl.v77,runB.sl.v78,runB.sl.v79,runB.sl.v81,runB.sl.v82,runB.sl.v84,runB.sl.v85,runB.sl.v86,runB.sl.v87,runB.sl.v88,runB.sl.v89,runB.sl.v90,runB.sl.v92,runB.sl.v93,runB.sl.v94,runB.sl.v95,runB.sl.v96,runB.sl.v97,runB.sl.v98,runB.sl.v100,runB.sl.v101,k0_pay5,k0_pay6,k0_pay7,k0_pay8,k0_pay9,k0_pay10,k0_pay11,k0_pay12,k0_pay322]
    exact rd4' (q := 3) _ _ _ (by decide) _ _ _ (by dsimp only; omega)
  rw [wrRowF _ _ _ _ _ (rfl : _ = ![384, 0]) (by omega)]
  by_cases h3 : 256 ≤ r
  · rw [wrInF _ _ _ _ _ (rfl : _ = ![256, 0]) (by omega) (by omega)]
    pointwise [runB.sl.v68,runB.sl.v69,runB.sl.v70,runB.sl.v71,runB.sl.v72,runB.sl.v73,runB.sl.v74,runB.sl.v76,runB.sl.v77,runB.sl.v78,runB.sl.v79,runB.sl.v81,runB.sl.v82,runB.sl.v84,runB.sl.v85,runB.sl.v86,runB.sl.v87,runB.sl.v88,runB.sl.v89,runB.sl.v90,runB.sl.v92,runB.sl.v93,runB.sl.v94,runB.sl.v95,runB.sl.v96,runB.sl.v97,runB.sl.v98,runB.sl.v100,runB.sl.v101,k0_pay5,k0_pay6,k0_pay7,k0_pay8,k0_pay9,k0_pay10,k0_pay11,k0_pay12,k0_pay322]
    exact rd4' (q := 2) _ _ _ (by decide) _ _ _ (by dsimp only; omega)
  rw [wrRowF _ _ _ _ _ (rfl : _ = ![256, 0]) (by omega)]
  by_cases h3 : 128 ≤ r
  · rw [wrInF _ _ _ _ _ (rfl : _ = ![128, 0]) (by omega) (by omega)]
    pointwise [runB.sl.v68,runB.sl.v69,runB.sl.v70,runB.sl.v71,runB.sl.v72,runB.sl.v73,runB.sl.v74,runB.sl.v76,runB.sl.v77,runB.sl.v78,runB.sl.v79,runB.sl.v81,runB.sl.v82,runB.sl.v84,runB.sl.v85,runB.sl.v86,runB.sl.v87,runB.sl.v88,runB.sl.v89,runB.sl.v90,runB.sl.v92,runB.sl.v93,runB.sl.v94,runB.sl.v95,runB.sl.v96,runB.sl.v97,runB.sl.v98,runB.sl.v100,runB.sl.v101,k0_pay5,k0_pay6,k0_pay7,k0_pay8,k0_pay9,k0_pay10,k0_pay11,k0_pay12,k0_pay322]
    exact rd4' (q := 1) _ _ _ (by decide) _ _ _ (by dsimp only; omega)
  rw [wrRowF _ _ _ _ _ (rfl : _ = ![128, 0]) (by omega)]
  rw [wrInF _ _ _ _ _ (rfl : _ = ![0, 0]) (by omega) (by omega)]
  pointwise [runB.sl.v68,runB.sl.v69,runB.sl.v70,runB.sl.v71,runB.sl.v72,runB.sl.v73,runB.sl.v74,runB.sl.v76,runB.sl.v77,runB.sl.v78,runB.sl.v79,runB.sl.v81,runB.sl.v82,runB.sl.v84,runB.sl.v85,runB.sl.v86,runB.sl.v87,runB.sl.v88,runB.sl.v89,runB.sl.v90,runB.sl.v92,runB.sl.v93,runB.sl.v94,runB.sl.v95,runB.sl.v96,runB.sl.v97,runB.sl.v98,runB.sl.v100,runB.sl.v101,k0_pay5,k0_pay6,k0_pay7,k0_pay8,k0_pay9,k0_pay10,k0_pay11,k0_pay12,k0_pay322]
  exact rd4' (q := 0) _ _ _ (by decide) _ _ _ (by (try dsimp only) <;> omega)

set_option maxHeartbeats 1000000 in
/-- The activation scales are laid along the lanes. -/
theorem init20B' (arg2 : Memref sig .tc .vmem S1x4x128 .f32) (arg20 : Memref sig .tc .vmem S512x128 .f32) (X2 : BufTy.Contents (Elt Ideal) arg2.view.ty) (f : BufTy.Contents (Elt Ideal) arg20.view.ty) (r l : ℕ) (hr : r < 512) (hl : l < 128) :
    nat2 (ev (arg20.view.read (Elt Ideal) (arg20.view.writes (Elt Ideal) f (runB.sl.H20_4 (F := Ideal) arg2 X2)))) r l = row4 (arg2.view.read (Elt Ideal) X2) r := by
  unfold runB.sl.H20_4
  dsimp only [ev]
  by_cases h3 : 384 ≤ r
  · rw [wrInF _ _ _ _ _ (rfl : _ = ![384, 0]) (by omega) (by omega)]
    pointwise [runB.sl.v68,runB.sl.v69,runB.sl.v70,runB.sl.v71,runB.sl.v72,runB.sl.v73,runB.sl.v74,runB.sl.v76,runB.sl.v77,runB.sl.v78,runB.sl.v79,runB.sl.v81,runB.sl.v82,runB.sl.v84,runB.sl.v85,runB.sl.v86,runB.sl.v87,runB.sl.v88,runB.sl.v89,runB.sl.v90,runB.sl.v92,runB.sl.v93,runB.sl.v94,runB.sl.v95,runB.sl.v96,runB.sl.v97,runB.sl.v98,runB.sl.v100,runB.sl.v101,k0_pay5,k0_pay6,k0_pay7,k0_pay8,k0_pay9,k0_pay10,k0_pay11,k0_pay12,k0_pay322]
    exact rd4' (q := 3) _ _ _ (by decide) _ _ _ (by dsimp only; omega)
  rw [wrRowF _ _ _ _ _ (rfl : _ = ![384, 0]) (by omega)]
  by_cases h3 : 256 ≤ r
  · rw [wrInF _ _ _ _ _ (rfl : _ = ![256, 0]) (by omega) (by omega)]
    pointwise [runB.sl.v68,runB.sl.v69,runB.sl.v70,runB.sl.v71,runB.sl.v72,runB.sl.v73,runB.sl.v74,runB.sl.v76,runB.sl.v77,runB.sl.v78,runB.sl.v79,runB.sl.v81,runB.sl.v82,runB.sl.v84,runB.sl.v85,runB.sl.v86,runB.sl.v87,runB.sl.v88,runB.sl.v89,runB.sl.v90,runB.sl.v92,runB.sl.v93,runB.sl.v94,runB.sl.v95,runB.sl.v96,runB.sl.v97,runB.sl.v98,runB.sl.v100,runB.sl.v101,k0_pay5,k0_pay6,k0_pay7,k0_pay8,k0_pay9,k0_pay10,k0_pay11,k0_pay12,k0_pay322]
    exact rd4' (q := 2) _ _ _ (by decide) _ _ _ (by dsimp only; omega)
  rw [wrRowF _ _ _ _ _ (rfl : _ = ![256, 0]) (by omega)]
  by_cases h3 : 128 ≤ r
  · rw [wrInF _ _ _ _ _ (rfl : _ = ![128, 0]) (by omega) (by omega)]
    pointwise [runB.sl.v68,runB.sl.v69,runB.sl.v70,runB.sl.v71,runB.sl.v72,runB.sl.v73,runB.sl.v74,runB.sl.v76,runB.sl.v77,runB.sl.v78,runB.sl.v79,runB.sl.v81,runB.sl.v82,runB.sl.v84,runB.sl.v85,runB.sl.v86,runB.sl.v87,runB.sl.v88,runB.sl.v89,runB.sl.v90,runB.sl.v92,runB.sl.v93,runB.sl.v94,runB.sl.v95,runB.sl.v96,runB.sl.v97,runB.sl.v98,runB.sl.v100,runB.sl.v101,k0_pay5,k0_pay6,k0_pay7,k0_pay8,k0_pay9,k0_pay10,k0_pay11,k0_pay12,k0_pay322]
    exact rd4' (q := 1) _ _ _ (by decide) _ _ _ (by dsimp only; omega)
  rw [wrRowF _ _ _ _ _ (rfl : _ = ![128, 0]) (by omega)]
  rw [wrInF _ _ _ _ _ (rfl : _ = ![0, 0]) (by omega) (by omega)]
  pointwise [runB.sl.v68,runB.sl.v69,runB.sl.v70,runB.sl.v71,runB.sl.v72,runB.sl.v73,runB.sl.v74,runB.sl.v76,runB.sl.v77,runB.sl.v78,runB.sl.v79,runB.sl.v81,runB.sl.v82,runB.sl.v84,runB.sl.v85,runB.sl.v86,runB.sl.v87,runB.sl.v88,runB.sl.v89,runB.sl.v90,runB.sl.v92,runB.sl.v93,runB.sl.v94,runB.sl.v95,runB.sl.v96,runB.sl.v97,runB.sl.v98,runB.sl.v100,runB.sl.v101,k0_pay5,k0_pay6,k0_pay7,k0_pay8,k0_pay9,k0_pay10,k0_pay11,k0_pay12,k0_pay322]
  exact rd4' (q := 0) _ _ _ (by decide) _ _ _ (by (try dsimp only) <;> omega)

/-- The activation scales are multiplied by the reciprocal standard deviations. -/
theorem init20B (arg2 arg3 : Memref sig .tc .vmem S1x4x128 .f32) (arg19 arg20 : Memref sig .tc .vmem S512x128 .f32) (X2 : BufTy.Contents (Elt Ideal) arg2.view.ty) (X3 : BufTy.Contents (Elt Ideal) arg3.view.ty) (f : BufTy.Contents (Elt Ideal) arg20.view.ty) (r l : ℕ) (hr : r < 512) (hl : l < 128) :
    nat2 (ev (arg20.view.read (Elt Ideal) (arg20.view.writes (Elt Ideal) f (runB.sl.H20_5 (F := Ideal) arg2 arg3 arg19 arg20 X2 X3)))) r l = row4 (arg2.view.read (Elt Ideal) X2) r * row4 (arg3.view.read (Elt Ideal) X3) r := by
  unfold runB.sl.H20_5
  dsimp only [ev]
  rw [wrInF _ _ _ _ _ (rfl : _ = ![0, 0]) (by omega) (by omega)]
  pointwise [k0_pay323]
  unfold runB.sl.v107 runB.sl.v108 View.readCov
  rw [rdF _ _ _ (rfl : _ = ![0, 0]), rdF _ _ _ (rfl : _ = ![0, 0])]
  refine mul_congr ((nat2_congr ?_ ?_).trans (init20B' arg2 arg20 X2 _ r l hr hl)) ((nat2_congr ?_ ?_).trans (init19B arg3 arg19 X3 _ r l hr hl)) <;> dsimp only <;> omega

/-- The row sums start at zero. -/
theorem init21B (arg21 : Memref sig .tc .vmem S512x128 .f32) (f : BufTy.Contents (Elt Ideal) arg21.view.ty) (r l : ℕ) (hr : r < 512) (hl : l < 128) :
    nat2 (ev (arg21.view.read (Elt Ideal) (arg21.view.writes (Elt Ideal) f (runB.sl.H21_1 (F := Ideal))))) r l = 0 := by
  unfold runB.sl.H21_1
  dsimp only [ev]
  rw [wrInF _ _ _ _ _ (rfl : _ = ![0, 0]) (by omega) (by omega)]
  pointwise [k0_pay324]

/-- The gain's gradient starts at zero. -/
theorem init22A (arg22 : Memref sig .tc .vmem S8x4096 .f32) (f : BufTy.Contents (Elt Ideal) arg22.view.ty) (r l : ℕ) (hr : r < 8) (hl : l < 4096) :
    nat2 (ev (arg22.view.read (Elt Ideal) (arg22.view.writes (Elt Ideal) f (runA.sl.H22_1 (F := Ideal))))) r l = 0 := by
  unfold runA.sl.H22_1
  dsimp only [ev]
  rw [wrInF _ _ _ _ _ (rfl : _ = ![0, 0]) (by omega) (by omega)]
  pointwise [k0_pay321]

end Cert.KernelIdeal.Dx

end
-- ==== Proof.KernelIdealStep2.lean ====
/-
  What the last column block's point stores of the codes and of the scales, of the activations' gradient.
-/
module

public import proofs.«01_k».proof.Proof.KernelIdealStep
public import proofs.«01_k».proof.Proof.KernelIdealLoop3
public import Idealize.ShloMosaic.Lib.Pointwise
public import proofs.«01_k».proof.Proof.KernelIdealQuant
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A code of the activations' gradient. -/
def In.code (I : In) (T k : ℕ) : EReal := codew I.dx T k
/-- A block's scale. -/
def In.scale (I : In) (T b : ℕ) : EReal := scw (blkm I.dx T b)

/-- A block's maximum depends on its row's entries only. -/
theorem blkm_congr {V W : ℕ → ℕ → EReal} {r T b : ℕ} (h : ∀ c < 4096, V r c = W T c) (hb : b < 32) : blkm V r b = blkm W T b := by
  unfold blkm
  exact congrArg amx (funext fun x => h _ (by have := x.isLt; omega))

/-- A code depends on its row's entries only. -/
theorem codew_congr {V W : ℕ → ℕ → EReal} {r T l : ℕ} (h : ∀ c < 4096, V r c = W T c) (hl : l < 4096) : codew V r l = codew W T l := by
  unfold codew
  rw [blkm_congr h (by omega), h l hl]

/-- The gradient at the last column block's point. -/
theorem step_dxv (I : In) (d : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X7 : BufTy.Contents (Elt Ideal) arg7.view.ty) (v10 : Vec Ideal S512x6144 .bf16)
    (F15 : BufTy.Contents (Elt Ideal) arg15.view.ty) (F16 : BufTy.Contents (Elt Ideal) arg16.view.ty) (F17 : BufTy.Contents (Elt Ideal) arg17.view.ty) (F18 : BufTy.Contents (Elt Ideal) arg18.view.ty) (F19 : BufTy.Contents (Elt Ideal) arg19.view.ty) (F20 : BufTy.Contents (Elt Ideal) arg20.view.ty) (F21 : BufTy.Contents (Elt Ideal) arg21.view.ty) (F22 : BufTy.Contents (Elt Ideal) arg22.view.ty)
    (h4 : ∀ c < 4096, nat2 (ev (arg4.view.read (Elt Ideal) X4)) 0 c = I.gm c)
    (h6 : ∀ r < 512, ∀ c < 1024, nat2 (ev (arg6.view.read (Elt Ideal) X6)) r c = I.x (512 * (i 0).val + r) (1024 * (i 1).val + c))
    (h7 : ∀ c < 1024, ∀ n < 6144, nat2 (ev (arg7.view.read (Elt Ideal) X7)) c n = I.w (1024 * (i 1).val + c) n)
    (h10 : ∀ r < 512, ∀ n < 6144, nat2 (ev v10) r n = I.dq (512 * (i 0).val + r) n * I.ws n)
    (hS : St I (i 0).val (i 1).val (arg15.view.read (Elt Ideal) F15) (arg16.view.read (Elt Ideal) F16) (arg17.view.read (Elt Ideal) F17) (arg19.view.read (Elt Ideal) F19) (arg20.view.read (Elt Ideal) F20) (arg21.view.read (Elt Ideal) F21) (arg22.view.read (Elt Ideal) F22)) (k0_h3 : k0_cond3 i = 1#1) (h3 : (i 1).val = 3) (X9 : BufTy.Contents (Elt Ideal) arg9.view.ty)
    (h9 : ∀ r < 512, ∀ c < 4096, nat2 (ev (arg9.view.read (Elt Ideal) X9)) r c = I.dr (512 * (i 0).val + r) c) (r c : ℕ) (hr : r < 512) (hc : c < 4096) :
    (dxv (nat2 (ev (arg19.view.read (Elt Ideal) F19))) (nat2 (ev (arg16.view.read (Elt Ideal) (arg16.view.writes (Elt Ideal) F16 (P16 i v10 arg7 X7))))) (nat2 (ev (arg4.view.read (Elt Ideal) X4))) (nat2 (ev (arg17.view.read (Elt Ideal) (arg17.view.writes (Elt Ideal) F17 (P17 i arg6 X6))))) (nat2 (ev (arg20.view.read (Elt Ideal) F20))) (nat2 (ev (arg21.view.read (Elt Ideal) (arg21.view.writes (Elt Ideal) F21 (pb_k0_t1 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 (arg16.view.writes (Elt Ideal) F16 (P16 i v10 arg7 X7)) F20 F18 F21 F22 (Scf.trips 0#32 (Scalar.addi 0#32 16#32) 1#32)).2.1)))) (nat2 (ev (arg9.view.read (Elt Ideal) X9)))) r c
      = I.dx (512 * (i 0).val + r) c := by
  have e21 : ∀ l < 128, nat2 (ev (arg21.view.read (Elt Ideal) (arg21.view.writes (Elt Ideal) F21 (pb_k0_t1 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 (arg16.view.writes (Elt Ideal) F16 (P16 i v10 arg7 X7)) F20 F18 F21 F22 (Scf.trips 0#32 (Scalar.addi 0#32 16#32) 1#32)).2.1))) r l = I.sa 32 (512 * (i 0).val + r) l := fun l hl => by
    rw [v21 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS r l hr hl, h3]
  have e16 := v16 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS r c hr (by omega)
  have e17 := v17 I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS r c hr (by omega)
  rw [trips16] at *
  unfold dxv
  rw [e16, e17, h9 r hr c hc, h4 c hc, Finset.sum_congr rfl fun l hl => e21 l (Finset.mem_range.1 hl),
    show nat2 (ev (arg19.view.read (Elt Ideal) F19)) r (c % 128) = _ from hS.h19 r hr _ (by omega), show nat2 (ev (arg20.view.read (Elt Ideal) F20)) r (c % 128) = _ from hS.h20 r hr _ (by omega)]
  rfl

/-- The codes that the last column block's point stores. -/
theorem step_12 (I : In) (d : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X7 : BufTy.Contents (Elt Ideal) arg7.view.ty) (v10 : Vec Ideal S512x6144 .bf16)
    (F15 : BufTy.Contents (Elt Ideal) arg15.view.ty) (F16 : BufTy.Contents (Elt Ideal) arg16.view.ty) (F17 : BufTy.Contents (Elt Ideal) arg17.view.ty) (F18 : BufTy.Contents (Elt Ideal) arg18.view.ty) (F19 : BufTy.Contents (Elt Ideal) arg19.view.ty) (F20 : BufTy.Contents (Elt Ideal) arg20.view.ty) (F21 : BufTy.Contents (Elt Ideal) arg21.view.ty) (F22 : BufTy.Contents (Elt Ideal) arg22.view.ty)
    (h4 : ∀ c < 4096, nat2 (ev (arg4.view.read (Elt Ideal) X4)) 0 c = I.gm c)
    (h6 : ∀ r < 512, ∀ c < 1024, nat2 (ev (arg6.view.read (Elt Ideal) X6)) r c = I.x (512 * (i 0).val + r) (1024 * (i 1).val + c))
    (h7 : ∀ c < 1024, ∀ n < 6144, nat2 (ev (arg7.view.read (Elt Ideal) X7)) c n = I.w (1024 * (i 1).val + c) n)
    (h10 : ∀ r < 512, ∀ n < 6144, nat2 (ev v10) r n = I.dq (512 * (i 0).val + r) n * I.ws n)
    (hS : St I (i 0).val (i 1).val (arg15.view.read (Elt Ideal) F15) (arg16.view.read (Elt Ideal) F16) (arg17.view.read (Elt Ideal) F17) (arg19.view.read (Elt Ideal) F19) (arg20.view.read (Elt Ideal) F20) (arg21.view.read (Elt Ideal) F21) (arg22.view.read (Elt Ideal) F22)) (k0_h3 : k0_cond3 i = 1#1) (h3 : (i 1).val = 3) (X9 : BufTy.Contents (Elt Ideal) arg9.view.ty) (F12 : BufTy.Contents (Elt Ideal) arg12.view.ty)
    (h9 : ∀ r < 512, ∀ c < 4096, nat2 (ev (arg9.view.read (Elt Ideal) X9)) r c = I.dr (512 * (i 0).val + r) c) (r c : ℕ) (hr : r < 512) (hc : c < 4096) :
    nat2 (ev (arg12.view.read (Elt Ideal) (arg12.view.writes (Elt Ideal) F12 (pb_k0_t2 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h3 X4 X9 (arg16.view.writes (Elt Ideal) F16 (P16 i v10 arg7 X7)) (arg17.view.writes (Elt Ideal) F17 (P17 i arg6 X6)) F19 F20 (arg21.view.writes (Elt Ideal) F21 (pb_k0_t1 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 (arg16.view.writes (Elt Ideal) F16 (P16 i v10 arg7 X7)) F20 F18 F21 F22 (Scf.trips 0#32 (Scalar.addi 0#32 16#32) 1#32)).2.1) (Scf.trips 0#32 (Scalar.addi 0#32 16#32) 1#32)).2.2))) r c
      = I.code (512 * (i 0).val + r) c := by
  have e := fun c hc => step_dxv I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS k0_h3 h3 X9 h9 r c hr hc
  rw [trips16] at *
  rw [loop12_apply (hk := le_refl _) (hl := hc), if_pos (by omega)]
  exact codew_congr e hc

/-- The scales that the last column block's point stores. -/
theorem step_10 (I : In) (d : Dev nD) (i : grid0.Coords) (arg2 : Memref sig .tc .vmem S1x4x128 .f32) (harg2 : arg2.IsWhole) (arg3 : Memref sig .tc .vmem S1x4x128 .f32) (harg3 : arg3.IsWhole) (arg4 : Memref sig .tc .vmem S1x4096 .f32) (harg4 : arg4.IsWhole) (arg5 : Memref sig .tc .vmem S1x6144 .bf16) (harg5 : arg5.IsWhole) (arg6 : Memref sig .tc .vmem S512x1024 .fp8e4m3) (harg6 : arg6.IsWhole) (arg7 : Memref sig .tc .vmem S1024x6144 .fp8e4m3) (harg7 : arg7.IsWhole) (arg8 : Memref sig .tc .vmem S512x6144 .bf16) (harg8 : arg8.IsWhole) (arg9 : Memref sig .tc .vmem S512x4096 .bf16) (harg9 : arg9.IsWhole) (arg10 : Memref sig .tc .vmem S512x32 .f32) (harg10 : arg10.IsWhole) (arg11 : Memref sig .tc .vmem S512x4096 .bf16) (harg11 : arg11.IsWhole) (arg12 : Memref sig .tc .vmem S512x4096 .fp8e5m2) (harg12 : arg12.IsWhole) (arg13 : Memref sig .tc .vmem S1x4096 .f32) (harg13 : arg13.IsWhole) (arg14 : Memref sig .tc .vmem S1024x512 .bf16) (harg14 : arg14.IsWhole) (arg15 : Memref sig .tc .vmem S512x6144 .bf16) (harg15 : arg15.IsWhole) (arg16 : Memref sig .tc .vmem S512x4096 .f32) (harg16 : arg16.IsWhole) (arg17 : Memref sig .tc .vmem S512x4096 .fp8e4m3) (harg17 : arg17.IsWhole) (arg18 : Memref sig .tc .vmem S512x1024 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S8x4096 .f32) (harg22 : arg22.IsWhole) (v9 : BitVec 32) (X4 : BufTy.Contents (Elt Ideal) arg4.view.ty) (X6 : BufTy.Contents (Elt Ideal) arg6.view.ty) (X7 : BufTy.Contents (Elt Ideal) arg7.view.ty) (v10 : Vec Ideal S512x6144 .bf16)
    (F15 : BufTy.Contents (Elt Ideal) arg15.view.ty) (F16 : BufTy.Contents (Elt Ideal) arg16.view.ty) (F17 : BufTy.Contents (Elt Ideal) arg17.view.ty) (F18 : BufTy.Contents (Elt Ideal) arg18.view.ty) (F19 : BufTy.Contents (Elt Ideal) arg19.view.ty) (F20 : BufTy.Contents (Elt Ideal) arg20.view.ty) (F21 : BufTy.Contents (Elt Ideal) arg21.view.ty) (F22 : BufTy.Contents (Elt Ideal) arg22.view.ty)
    (h4 : ∀ c < 4096, nat2 (ev (arg4.view.read (Elt Ideal) X4)) 0 c = I.gm c)
    (h6 : ∀ r < 512, ∀ c < 1024, nat2 (ev (arg6.view.read (Elt Ideal) X6)) r c = I.x (512 * (i 0).val + r) (1024 * (i 1).val + c))
    (h7 : ∀ c < 1024, ∀ n < 6144, nat2 (ev (arg7.view.read (Elt Ideal) X7)) c n = I.w (1024 * (i 1).val + c) n)
    (h10 : ∀ r < 512, ∀ n < 6144, nat2 (ev v10) r n = I.dq (512 * (i 0).val + r) n * I.ws n)
    (hS : St I (i 0).val (i 1).val (arg15.view.read (Elt Ideal) F15) (arg16.view.read (Elt Ideal) F16) (arg17.view.read (Elt Ideal) F17) (arg19.view.read (Elt Ideal) F19) (arg20.view.read (Elt Ideal) F20) (arg21.view.read (Elt Ideal) F21) (arg22.view.read (Elt Ideal) F22)) (k0_h3 : k0_cond3 i = 1#1) (h3 : (i 1).val = 3) (X9 : BufTy.Contents (Elt Ideal) arg9.view.ty) (F10 : BufTy.Contents (Elt Ideal) arg10.view.ty)
    (h9 : ∀ r < 512, ∀ c < 4096, nat2 (ev (arg9.view.read (Elt Ideal) X9)) r c = I.dr (512 * (i 0).val + r) c) (r c : ℕ) (hr : r < 512) (hc : c < 32) :
    nat2 (ev (arg10.view.read (Elt Ideal) (arg10.view.writes (Elt Ideal) F10 (pb_k0_t2 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h3 X4 X9 (arg16.view.writes (Elt Ideal) F16 (P16 i v10 arg7 X7)) (arg17.view.writes (Elt Ideal) F17 (P17 i arg6 X6)) F19 F20 (arg21.view.writes (Elt Ideal) F21 (pb_k0_t1 (F := Ideal) Variants.none d none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 (arg16.view.writes (Elt Ideal) F16 (P16 i v10 arg7 X7)) F20 F18 F21 F22 (Scf.trips 0#32 (Scalar.addi 0#32 16#32) 1#32)).2.1) (Scf.trips 0#32 (Scalar.addi 0#32 16#32) 1#32)).1))) r c
      = I.scale (512 * (i 0).val + r) c := by
  have e := fun c hc => step_dxv I d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 X4 X6 X7 v10 F15 F16 F17 F18 F19 F20 F21 F22 h4 h6 h7 h10 hS k0_h3 h3 X9 h9 r c hr hc
  rw [trips16] at *
  rw [loop10_apply (hk := le_refl _) (hl := hc), if_pos (by omega)]
  exact congrArg scw (blkm_congr e hc)

end Cert.KernelIdeal.Dx

end
-- ==== Proof.KernelIdealInv.lean ====
/-
  The invariant of the dx call at the extended reals and what its output windows hold: every point keeps it.
-/
module

public import proofs.«01_k».proof.Proof.Gen.KernelIdeal.Frame
public import proofs.«01_k».proof.Proof.KernelIdealInit
public import proofs.«01_k».proof.Proof.KernelIdealStep2
public import Idealize.ShloMosaic.Lib.Pointwise
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- Rows stored as blocks of four times 128, by row number. -/
def rows24 (v : (⟨3, ![24, 4, 128]⟩ : Shape).Idx → EReal) (T : ℕ) : EReal :=
  if h : T < 12288 then v (ix3 ⟨T / 512, by omega⟩ ⟨T / 128 % 4, by omega⟩ ⟨T % 128, by omega⟩) else 0

/-- The arrays the call finds, by numbers. -/
def inAt (c : Dev nD) : In where
  xs := rows24 (V m c main_v0)
  rs := rows24 (V m c main_v1)
  gm k := nat2 (n := 1) (m := 4096) (V m c main_v2) 0 k
  ws n := nat2 (n := 1) (m := 6144) (V m c main_v4) 0 n
  x := nat2 (n := 12288) (m := 4096) (V m c main_v5)
  w := nat2 (n := 4096) (m := 6144) (V m c main_arg4)
  dq := nat2 (n := 12288) (m := 6144) (V m c main_v6)
  dr := nat2 (n := 12288) (m := 4096) (V m c main_v7)

/-- A point's row block and column block. -/
theorem coords_eq : ∀ t : Fin cfg0.N, (grid0.coords t 0).val = t.val / 4 ∧ (grid0.coords t 1).val = t.val % 4 :=
  (by decide +kernel : ∀ t : Fin grid0.N, _)
/-- A point's row block. -/
theorem coords0 (t : Fin cfg0.N) : (grid0.coords t 0).val = t.val / 4 := (coords_eq t).1
/-- A point's column block. -/
theorem coords1 (t : Fin cfg0.N) : (grid0.coords t 1).val = t.val % 4 := (coords_eq t).2
/-- There are 96 points. -/
theorem t_lt (t : Fin cfg0.N) : t.val < 96 := t.isLt

/-- Which block window 0 holds at a point. -/
theorem idx0 : ∀ t : Fin cfg0.N, win0_0.index t = ![t.val / 4, 0, 0] := (by decide +kernel : ∀ t : Fin grid0.N, _)
/-- Which block window 1 holds at a point. -/
theorem idx1 : ∀ t : Fin cfg0.N, win0_1.index t = ![t.val / 4, 0, 0] := (by decide +kernel : ∀ t : Fin grid0.N, _)
/-- Which block window 2 holds at a point. -/
theorem idx2 : ∀ t : Fin cfg0.N, win0_2.index t = ![0, 0] := (by decide +kernel : ∀ t : Fin grid0.N, _)
/-- Which block window 3 holds at a point. -/
theorem idx3 : ∀ t : Fin cfg0.N, win0_3.index t = ![0, 0] := (by decide +kernel : ∀ t : Fin grid0.N, _)
/-- Which block window 4 holds at a point. -/
theorem idx4 : ∀ t : Fin cfg0.N, win0_4.index t = ![t.val / 4, t.val % 4] := (by decide +kernel : ∀ t : Fin grid0.N, _)
/-- Which block window 5 holds at a point. -/
theorem idx5 : ∀ t : Fin cfg0.N, win0_5.index t = ![t.val % 4, 0] := (by decide +kernel : ∀ t : Fin grid0.N, _)
/-- Which block window 6 holds at a point. -/
theorem idx6 : ∀ t : Fin cfg0.N, win0_6.index t = ![t.val / 4, 0] := (by decide +kernel : ∀ t : Fin grid0.N, _)
/-- Which block window 7 holds at a point. -/
theorem idx7 : ∀ t : Fin cfg0.N, win0_7.index t = ![t.val / 4, 0] := (by decide +kernel : ∀ t : Fin grid0.N, _)
/-- A number of window 0's block, as a number of its array. -/
theorem blk0 (c : Dev nD) (t : Fin cfg0.N) (a : Fin 1) (q : Fin 4) (l : Fin 128) :
    iblk m c 0 t (ix3 a q l) = V m c main_v0 (ix3 (⟨t.val / 4, by have := t_lt t; omega⟩ : Fin 24) q l) := by
  have := t_lt t
  blk_ext [iblk, idx0 t]

/-- The same as a number of the call's inputs, window 0. -/
theorem row0 (c : Dev nD) (t : Fin cfg0.N) (r : ℕ) (hr : r < 512) : row4 (iblk m c 0 t) r = (inAt m c).xs (512 * (t.val / 4) + r) := by
  have := t_lt t
  unfold row4
  show _ = rows24 _ _
  unfold rows24
  rw [dif_pos hr, dif_pos (by omega)]
  refine (blk0 m c t _ _ _).trans (congrArg (V m c main_v0) ?_)
  congr 1 <;> refine Fin.ext ?_ <;> dsimp only <;> omega

/-- A number of window 1's block, as a number of its array. -/
theorem blk1 (c : Dev nD) (t : Fin cfg0.N) (a : Fin 1) (q : Fin 4) (l : Fin 128) :
    iblk m c 1 t (ix3 a q l) = V m c main_v1 (ix3 (⟨t.val / 4, by have := t_lt t; omega⟩ : Fin 24) q l) := by
  have := t_lt t
  blk_ext [iblk, idx1 t]

/-- The same as a number of the call's inputs, window 1. -/
theorem row1 (c : Dev nD) (t : Fin cfg0.N) (r : ℕ) (hr : r < 512) : row4 (iblk m c 1 t) r = (inAt m c).rs (512 * (t.val / 4) + r) := by
  have := t_lt t
  unfold row4
  show _ = rows24 _ _
  unfold rows24
  rw [dif_pos hr, dif_pos (by omega)]
  refine (blk1 m c t _ _ _).trans (congrArg (V m c main_v1) ?_)
  congr 1 <;> refine Fin.ext ?_ <;> dsimp only <;> omega

/-- A number of window 2's block, as a number of its array. -/
theorem blk2 (c : Dev nD) (t : Fin cfg0.N) (a : Fin 1) (k : Fin 4096) :
    iblk m c 2 t (ix2 a k) = V m c main_v2 (ix2 (⟨a.val, by have := t_lt t; omega⟩ : Fin 1) (⟨k.val, by omega⟩ : Fin 4096)) := by
  have := t_lt t
  blk_ext [iblk, idx2 t]

/-- The same as a number of the call's inputs, window 2. -/
theorem num2 (c : Dev nD) (t : Fin cfg0.N) (k : ℕ) (hk : k < 4096) : nat2 (n := 1) (m := 4096) (iblk m c 2 t) 0 k = (inAt m c).gm k := by
  rw [nat2_lt _ (by omega) hk]
  refine (blk2 m c t _ _).trans ?_
  exact nat2_of (n := 1) (m := 4096) (V m c main_v2) _ _

/-- A number of window 3's block, as a number of its array. -/
theorem blk3 (c : Dev nD) (t : Fin cfg0.N) (a : Fin 1) (k : Fin 6144) :
    iblk m c 3 t (ix2 a k) = V m c main_v4 (ix2 (⟨a.val, by have := t_lt t; omega⟩ : Fin 1) (⟨k.val, by omega⟩ : Fin 6144)) := by
  have := t_lt t
  blk_ext [iblk, idx3 t]

/-- The same as a number of the call's inputs, window 3. -/
theorem num3 (c : Dev nD) (t : Fin cfg0.N) (k : ℕ) (hk : k < 6144) : nat2 (n := 1) (m := 6144) (iblk m c 3 t) 0 k = (inAt m c).ws k := by
  rw [nat2_lt _ (by omega) hk]
  refine (blk3 m c t _ _).trans ?_
  exact nat2_of (n := 1) (m := 6144) (V m c main_v4) _ _

/-- A number of window 4's block, as a number of its array. -/
theorem blk4 (c : Dev nD) (t : Fin cfg0.N) (a : Fin 512) (k : Fin 1024) :
    iblk m c 4 t (ix2 a k) = V m c main_v5 (ix2 (⟨512 * (t.val / 4) + a.val, by have := t_lt t; omega⟩ : Fin 12288) (⟨1024 * (t.val % 4) + k.val, by omega⟩ : Fin 4096)) := by
  have := t_lt t
  blk_ext [iblk, idx4 t]

/-- The same as a number of the call's inputs, window 4. -/
theorem num4 (c : Dev nD) (t : Fin cfg0.N) (a : ℕ) (ha : a < 512) (k : ℕ) (hk : k < 1024) : nat2 (n := 512) (m := 1024) (iblk m c 4 t) a k = (inAt m c).x (512 * (t.val / 4) + a) (1024 * (t.val % 4) + k) := by
  rw [nat2_lt _ ha hk]
  refine (blk4 m c t _ _).trans ?_
  exact nat2_of (n := 12288) (m := 4096) (V m c main_v5) _ _

/-- A number of window 5's block, as a number of its array. -/
theorem blk5 (c : Dev nD) (t : Fin cfg0.N) (a : Fin 1024) (k : Fin 6144) :
    iblk m c 5 t (ix2 a k) = V m c main_arg4 (ix2 (⟨1024 * (t.val % 4) + a.val, by have := t_lt t; omega⟩ : Fin 4096) (⟨k.val, by omega⟩ : Fin 6144)) := by
  have := t_lt t
  blk_ext [iblk, idx5 t]

/-- The same as a number of the call's inputs, window 5. -/
theorem num5 (c : Dev nD) (t : Fin cfg0.N) (a : ℕ) (ha : a < 1024) (k : ℕ) (hk : k < 6144) : nat2 (n := 1024) (m := 6144) (iblk m c 5 t) a k = (inAt m c).w (1024 * (t.val % 4) + a) k := by
  rw [nat2_lt _ ha hk]
  refine (blk5 m c t _ _).trans ?_
  exact nat2_of (n := 4096) (m := 6144) (V m c main_arg4) _ _

/-- A number of window 6's block, as a number of its array. -/
theorem blk6 (c : Dev nD) (t : Fin cfg0.N) (a : Fin 512) (k : Fin 6144) :
    iblk m c 6 t (ix2 a k) = V m c main_v6 (ix2 (⟨512 * (t.val / 4) + a.val, by have := t_lt t; omega⟩ : Fin 12288) (⟨k.val, by omega⟩ : Fin 6144)) := by
  have := t_lt t
  blk_ext [iblk, idx6 t]

/-- The same as a number of the call's inputs, window 6. -/
theorem num6 (c : Dev nD) (t : Fin cfg0.N) (a : ℕ) (ha : a < 512) (k : ℕ) (hk : k < 6144) : nat2 (n := 512) (m := 6144) (iblk m c 6 t) a k = (inAt m c).dq (512 * (t.val / 4) + a) k := by
  rw [nat2_lt _ ha hk]
  refine (blk6 m c t _ _).trans ?_
  exact nat2_of (n := 12288) (m := 6144) (V m c main_v6) _ _

/-- A number of window 7's block, as a number of its array. -/
theorem blk7 (c : Dev nD) (t : Fin cfg0.N) (a : Fin 512) (k : Fin 4096) :
    iblk m c 7 t (ix2 a k) = V m c main_v7 (ix2 (⟨512 * (t.val / 4) + a.val, by have := t_lt t; omega⟩ : Fin 12288) (⟨k.val, by omega⟩ : Fin 4096)) := by
  have := t_lt t
  blk_ext [iblk, idx7 t]

/-- The same as a number of the call's inputs, window 7. -/
theorem num7 (c : Dev nD) (t : Fin cfg0.N) (a : ℕ) (ha : a < 512) (k : ℕ) (hk : k < 4096) : nat2 (n := 512) (m := 4096) (iblk m c 7 t) a k = (inAt m c).dr (512 * (t.val / 4) + a) k := by
  rw [nat2_lt _ ha hk]
  refine (blk7 m c t _ _).trans ?_
  exact nat2_of (n := 12288) (m := 4096) (V m c main_v7) _ _

/-- What the scratch buffers hold before point `t`: after the first point, what the point before it left. -/
def Inv (c : Dev nD) (t : Fin (cfg0.N + 1)) : ScrPred Ideal := fun y15 y16 y17 y18 y19 y20 y21 y22 =>
  t.val ≠ 0 → St (inAt m c) ((t.val - 1) / 4) ((t.val - 1) % 4 + 1) y15 y16 y17 y19 y20 y21 y22

/-- What a point leaves in the window of the activations' gradient. -/
def R11 (c : Dev nD) (t : Fin cfg0.N) (y : Vec Ideal S512x4096 .bf16) : Prop :=
  t.val % 4 = 3 → ∀ r < 512, ∀ k < 4096, nat2 (n := 512) (m := 4096) y r k = (inAt m c).dx (512 * (t.val / 4) + r) k
/-- What a point leaves in the window of the scales. -/
def R10 (c : Dev nD) (t : Fin cfg0.N) (y : Vec Ideal S512x32 .f32) : Prop :=
  t.val % 4 = 3 → ∀ r < 512, ∀ k < 32, nat2 (n := 512) (m := 32) y r k = (inAt m c).scale (512 * (t.val / 4) + r) k
/-- What a point leaves in the window of the codes. -/
def R12 (c : Dev nD) (t : Fin cfg0.N) (y : Vec Ideal S512x4096 .fp8e5m2) : Prop :=
  t.val % 4 = 3 → ∀ r < 512, ∀ k < 4096, nat2 (n := 512) (m := 4096) y r k = (inAt m c).code (512 * (t.val / 4) + r) k
/-- What a point leaves in the window of the gain's gradient. -/
def R13 (c : Dev nD) (t : Fin cfg0.N) (y : Vec Ideal S1x4096 .f32) : Prop :=
  ∀ k < 4096, nat2 (n := 1) (m := 4096) y 0 k = ∑ s ∈ Finset.range 8, (inAt m c).dg (if k < 1024 * (t.val % 4 + 1) then t.val / 4 + 1 else t.val / 4) s k
/-- What a point leaves in the window of the transposed activations. -/
def R14 (c : Dev nD) (t : Fin cfg0.N) (y : Vec Ideal S1024x512 .bf16) : Prop :=
  ∀ a < 1024, ∀ b < 512, nat2 (n := 1024) (m := 512) y a b = (inAt m c).xh (512 * (t.val / 4) + b) (1024 * (t.val % 4) + a)

variable {m} in
/-- The state after a point is the invariant of the next. -/
theorem inv_succ {c : Dev nD} {t : Fin cfg0.N} {y15 y16 y17 y18 y19 y20 y21 y22}
    (h : St (inAt m c) (grid0.coords t 0).val ((grid0.coords t 1).val + 1) y15 y16 y17 y19 y20 y21 y22) : Inv m c t.succ y15 y16 y17 y18 y19 y20 y21 y22 := by
  intro _
  rw [coords0, coords1] at h
  exact h

variable {m} in
/-- Within a row block the invariant is the state before the point. -/
theorem inv_pre {c : Dev nD} {t : Fin cfg0.N} {y15 y16 y17 y18 y19 y20 y21 y22} (h4 : t.val % 4 ≠ 0) (h : Inv m c t.castSucc y15 y16 y17 y18 y19 y20 y21 y22) :
    St (inAt m c) (grid0.coords t 0).val (grid0.coords t 1).val y15 y16 y17 y19 y20 y21 y22 := by
  have h := h (show t.val ≠ 0 by omega)
  rw [coords0, coords1]
  rw [show (t.castSucc.val - 1) / 4 = t.val / 4 by show (t.val - 1) / 4 = _; omega, show (t.castSucc.val - 1) % 4 + 1 = t.val % 4 by show (t.val - 1) % 4 + 1 = _; omega] at h
  exact h

variable {m} in
/-- The gain's gradient so far carries over to a new row block. -/
theorem inv_pre22 {c : Dev nD} {t : Fin cfg0.N} {y15 y16 y17 y18 y19 y20 y21 y22} (h0 : t.val ≠ 0) (h4 : t.val % 4 = 0) (h : Inv m c t.castSucc y15 y16 y17 y18 y19 y20 y21 y22)
    (s : ℕ) (hs : s < 8) (k : ℕ) (hk : k < 4096) : nat2 (n := 8) (m := 4096) y22 s k = (inAt m c).dg (grid0.coords t 0).val s k := by
  have h := (h (show t.val ≠ 0 by omega)).h22 s hs k hk
  rw [coords0]
  rw [show (t.castSucc.val - 1) / 4 = t.val / 4 - 1 by show (t.val - 1) / 4 = _; omega, show (t.castSucc.val - 1) % 4 = 3 by show (t.val - 1) % 4 = _; omega, if_pos (by omega),
    show t.val / 4 - 1 + 1 = t.val / 4 by omega] at h
  exact h

/-- What the scratch buffers hold at a row block's first column block, before its product. -/
theorem st_zero {I : In} {i j : ℕ} (hj : j = 0) {y15 y16 y17 y19 y20 y21 y22}
    (h15 : ∀ r < 512, ∀ n < 6144, nat2 y15 r n = I.dq (512 * i + r) n * I.ws n)
    (h19 : ∀ r < 512, ∀ l < 128, nat2 y19 r l = I.rs (512 * i + r)) (h20 : ∀ r < 512, ∀ l < 128, nat2 y20 r l = I.ss (512 * i + r))
    (h21 : ∀ r < 512, ∀ l < 128, nat2 y21 r l = 0) (h22 : ∀ s < 8, ∀ c < 4096, nat2 y22 s c = I.dg i s c) : St I i j y15 y16 y17 y19 y20 y21 y22 := by
  subst hj
  exact ⟨h15, fun _ _ c hc => absurd hc (by omega), fun _ _ c hc => absurd hc (by omega), h19, h20, fun r hr l hl => by rw [h21 r hr l hl]; rfl,
    fun s hs c hc => by rw [h22 s hs c hc, if_neg (by omega)]⟩

end Cert.KernelIdeal.Dx

end
-- ==== Proof.KernelIdealKeepA.lean ====
/-
  The invariant of the dx call at the extended reals and what its output windows hold: every point keeps it.
-/
module

public import proofs.«01_k».proof.Proof.Gen.KernelIdeal.Frame
public import proofs.«01_k».proof.Proof.KernelIdealInv
public import Idealize.ShloMosaic.Lib.Pointwise
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

set_option maxHeartbeats 4000000 in
/-- A point of case A keeps the invariant and leaves what is claimed. -/
theorem keepsA (c : Dev nD) (t : Fin cfg0.N) (h0 : t.val = 0) : StepA (grid0.coords t) (iblk m c 0 t) (iblk m c 1 t) (iblk m c 2 t) (iblk m c 3 t) (iblk m c 4 t) (iblk m c 5 t) (iblk m c 6 t) (iblk m c 7 t) (Inv m c t.castSucc)
    (PostAt (Inv m) (R10 m) (R11 m) (R12 m) (R13 m) (R14 m) c t) := by
  unfold StepA
  intro d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22 e2 e3 e4 e5 e6 e7 e8 e9 hpre
  have h4' : ∀ k < 4096, nat2 (ev (arg4.view.read (Elt Ideal) X4)) 0 k = (inAt m c).gm k := fun k hk =>
    (congrArg (fun z => nat2 (n := 1) (m := 4096) z 0 k) e4).trans (num2 m c t k hk)
  have h6' : ∀ r < 512, ∀ k < 1024, nat2 (ev (arg6.view.read (Elt Ideal) X6)) r k = (inAt m c).x (512 * (grid0.coords t 0).val + r) (1024 * (grid0.coords t 1).val + k) := fun r hr k hk => by
    rw [coords0, coords1]; exact (congrArg (fun z => nat2 (n := 512) (m := 1024) z r k) e6).trans (num4 m c t r hr k hk)
  have h7' : ∀ k < 1024, ∀ n < 6144, nat2 (ev (arg7.view.read (Elt Ideal) X7)) k n = (inAt m c).w (1024 * (grid0.coords t 1).val + k) n := fun k hk n hn => by
    rw [coords1]; exact (congrArg (fun z => nat2 (n := 1024) (m := 6144) z k n) e7).trans (num5 m c t k hk n hn)
  have h10' : ∀ r < 512, ∀ n < 6144, nat2 (ev (arg8.view.read (Elt Ideal) X8)) r n * nat2 (ev (arg5.view.read (Elt Ideal) X5)) 0 n = (inAt m c).dq (512 * (grid0.coords t 0).val + r) n * (inAt m c).ws n := fun r hr n hn => by
    rw [show nat2 (ev (arg8.view.read (Elt Ideal) X8)) r n = _ from (congrArg (fun z => nat2 (n := 512) (m := 6144) z r n) e8).trans (num6 m c t r hr n hn),
      show nat2 (ev (arg5.view.read (Elt Ideal) X5)) 0 n = _ from (congrArg (fun z => nat2 (n := 1) (m := 6144) z 0 n) e5).trans (num3 m c t n hn), coords0]
  have h10 : ∀ r < 512, ∀ n < 6144, nat2 (n := 512) (m := 6144) (ev (runA.sl.v10 arg5 arg8 arg15 X5 X8)) r n = (inAt m c).dq (512 * (grid0.coords t 0).val + r) n * (inAt m c).ws n :=
    fun r hr n hn => (v10A arg5 arg8 arg15 X5 X8 r n hr hn).trans (h10' r hr n hn)
  have hr3 : ∀ r < 512, row4 (arg3.view.read (Elt Ideal) X3) r = (inAt m c).rs (512 * (grid0.coords t 0).val + r) := fun r hr => by
    rw [coords0]; exact (congrArg (fun z => row4 z r) e3).trans (row1 m c t r hr)
  have hr2 : ∀ r < 512, row4 (arg2.view.read (Elt Ideal) X2) r = (inAt m c).xs (512 * (grid0.coords t 0).val + r) := fun r hr => by
    rw [coords0]; exact (congrArg (fun z => row4 z r) e2).trans (row0 m c t r hr)
  have hS : St (inAt m c) (grid0.coords t 0).val (grid0.coords t 1).val (arg15.view.read (Elt Ideal) (arg15.view.writes (Elt Ideal) arg15.view.junk (runA.sl.H15_1 arg5 arg8 X5 X8))) (arg16.view.read (Elt Ideal) X16) (arg17.view.read (Elt Ideal) X17)
      (arg19.view.read (Elt Ideal) (arg19.view.writes (Elt Ideal) arg19.view.junk (runA.sl.H19_4 arg3 X3))) (arg20.view.read (Elt Ideal) (arg20.view.writes (Elt Ideal) arg20.view.junk (runA.sl.H20_5 arg2 arg3 arg19 arg20 X2 X3))) (arg21.view.read (Elt Ideal) (arg21.view.writes (Elt Ideal) arg21.view.junk runA.sl.H21_1)) (arg22.view.read (Elt Ideal) (arg22.view.writes (Elt Ideal) arg22.view.junk runA.sl.H22_1)) :=
    st_zero (by rw [coords1]; omega) (fun r hr n hn => (init15A arg5 arg8 arg15 X5 X8 _ r n hr hn).trans (h10' r hr n hn))
      (fun r hr l hl => (init19A arg3 arg19 X3 _ r l hr hl).trans (hr3 r hr))
      (fun r hr l hl => (init20A arg2 arg3 arg19 arg20 X2 X3 _ r l hr hl).trans (by rw [hr2 r hr, hr3 r hr]; rfl))
      (fun r hr l hl => init21A arg21 _ r l hr hl) (fun s hs k hk => by rw [init22A arg22 _ s k hs hk, coords0, h0]; rfl)
  unfold runA
  dsimp only
  refine ⟨?_, fun h => absurd h (by omega), ?_, fun h => absurd h (by omega), ?_, ?_⟩
  ·
    rw [View.writes_append]
    rw [View.writes_append]
    exact inv_succ (step_st (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runA.sl.v8 (grid0.coords t)) X4 X6 X7 (runA.sl.v10 arg5 arg8 arg15 X5 X8) (arg15.view.writes (Elt Ideal) arg15.view.junk (runA.sl.H15_1 arg5 arg8 X5 X8)) X16 X17 X18 (arg19.view.writes (Elt Ideal) arg19.view.junk (runA.sl.H19_4 arg3 X3)) (arg20.view.writes (Elt Ideal) arg20.view.junk (runA.sl.H20_5 arg2 arg3 arg19 arg20 X2 X3)) (arg21.view.writes (Elt Ideal) arg21.view.junk runA.sl.H21_1) (arg22.view.writes (Elt Ideal) arg22.view.junk runA.sl.H22_1) h4' h6' h7' h10 hS)
  · exact fun h => absurd h (by omega)
  · intro k hk
    have h := step_13 (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runA.sl.v8 (grid0.coords t)) X4 X6 X7 (runA.sl.v10 arg5 arg8 arg15 X5 X8) (arg15.view.writes (Elt Ideal) arg15.view.junk (runA.sl.H15_1 arg5 arg8 X5 X8)) X16 X17 X18 (arg19.view.writes (Elt Ideal) arg19.view.junk (runA.sl.H19_4 arg3 X3)) (arg20.view.writes (Elt Ideal) arg20.view.junk (runA.sl.H20_5 arg2 arg3 arg19 arg20 X2 X3)) (arg21.view.writes (Elt Ideal) arg21.view.junk runA.sl.H21_1) (arg22.view.writes (Elt Ideal) arg22.view.junk runA.sl.H22_1) h4' h6' h7' h10 hS arg13 X13 k hk
    rw [coords0, coords1] at h
    unfold runA.sl.v30 View.readCov
    rw [View.writes_append]
    exact h
  · intro a ha b hb
    have h := step_14 (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runA.sl.v8 (grid0.coords t)) X4 X6 X7 (runA.sl.v10 arg5 arg8 arg15 X5 X8) (arg15.view.writes (Elt Ideal) arg15.view.junk (runA.sl.H15_1 arg5 arg8 X5 X8)) X16 X17 X18 (arg19.view.writes (Elt Ideal) arg19.view.junk (runA.sl.H19_4 arg3 X3)) (arg20.view.writes (Elt Ideal) arg20.view.junk (runA.sl.H20_5 arg2 arg3 arg19 arg20 X2 X3)) (arg21.view.writes (Elt Ideal) arg21.view.junk runA.sl.H21_1) (arg22.view.writes (Elt Ideal) arg22.view.junk runA.sl.H22_1) h4' h6' h7' h10 hS arg14 X14 a b ha hb
    rw [coords0, coords1] at h
    exact h

end Cert.KernelIdeal.Dx

end
-- ==== Proof.KernelIdealKeepB.lean ====
/-
  The invariant of the dx call at the extended reals and what its output windows hold: every point keeps it.
-/
module

public import proofs.«01_k».proof.Proof.Gen.KernelIdeal.Frame
public import proofs.«01_k».proof.Proof.KernelIdealInv
public import Idealize.ShloMosaic.Lib.Pointwise
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

set_option maxHeartbeats 4000000 in
/-- A point of case B keeps the invariant and leaves what is claimed. -/
theorem keepsB (c : Dev nD) (t : Fin cfg0.N) (h0 : t.val ≠ 0) (h4 : t.val % 4 = 0) : StepB (grid0.coords t) (iblk m c 0 t) (iblk m c 1 t) (iblk m c 2 t) (iblk m c 3 t) (iblk m c 4 t) (iblk m c 5 t) (iblk m c 6 t) (iblk m c 7 t) (Inv m c t.castSucc)
    (PostAt (Inv m) (R10 m) (R11 m) (R12 m) (R13 m) (R14 m) c t) := by
  unfold StepB
  intro d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22 e2 e3 e4 e5 e6 e7 e8 e9 hpre
  have h4' : ∀ k < 4096, nat2 (ev (arg4.view.read (Elt Ideal) X4)) 0 k = (inAt m c).gm k := fun k hk =>
    (congrArg (fun z => nat2 (n := 1) (m := 4096) z 0 k) e4).trans (num2 m c t k hk)
  have h6' : ∀ r < 512, ∀ k < 1024, nat2 (ev (arg6.view.read (Elt Ideal) X6)) r k = (inAt m c).x (512 * (grid0.coords t 0).val + r) (1024 * (grid0.coords t 1).val + k) := fun r hr k hk => by
    rw [coords0, coords1]; exact (congrArg (fun z => nat2 (n := 512) (m := 1024) z r k) e6).trans (num4 m c t r hr k hk)
  have h7' : ∀ k < 1024, ∀ n < 6144, nat2 (ev (arg7.view.read (Elt Ideal) X7)) k n = (inAt m c).w (1024 * (grid0.coords t 1).val + k) n := fun k hk n hn => by
    rw [coords1]; exact (congrArg (fun z => nat2 (n := 1024) (m := 6144) z k n) e7).trans (num5 m c t k hk n hn)
  have h10' : ∀ r < 512, ∀ n < 6144, nat2 (ev (arg8.view.read (Elt Ideal) X8)) r n * nat2 (ev (arg5.view.read (Elt Ideal) X5)) 0 n = (inAt m c).dq (512 * (grid0.coords t 0).val + r) n * (inAt m c).ws n := fun r hr n hn => by
    rw [show nat2 (ev (arg8.view.read (Elt Ideal) X8)) r n = _ from (congrArg (fun z => nat2 (n := 512) (m := 6144) z r n) e8).trans (num6 m c t r hr n hn),
      show nat2 (ev (arg5.view.read (Elt Ideal) X5)) 0 n = _ from (congrArg (fun z => nat2 (n := 1) (m := 6144) z 0 n) e5).trans (num3 m c t n hn), coords0]
  have h10 : ∀ r < 512, ∀ n < 6144, nat2 (n := 512) (m := 6144) (ev (runB.sl.v10 arg5 arg8 arg15 X5 X8)) r n = (inAt m c).dq (512 * (grid0.coords t 0).val + r) n * (inAt m c).ws n :=
    fun r hr n hn => (v10B arg5 arg8 arg15 X5 X8 r n hr hn).trans (h10' r hr n hn)
  have hr3 : ∀ r < 512, row4 (arg3.view.read (Elt Ideal) X3) r = (inAt m c).rs (512 * (grid0.coords t 0).val + r) := fun r hr => by
    rw [coords0]; exact (congrArg (fun z => row4 z r) e3).trans (row1 m c t r hr)
  have hr2 : ∀ r < 512, row4 (arg2.view.read (Elt Ideal) X2) r = (inAt m c).xs (512 * (grid0.coords t 0).val + r) := fun r hr => by
    rw [coords0]; exact (congrArg (fun z => row4 z r) e2).trans (row0 m c t r hr)
  have hS : St (inAt m c) (grid0.coords t 0).val (grid0.coords t 1).val (arg15.view.read (Elt Ideal) (arg15.view.writes (Elt Ideal) arg15.view.junk (runB.sl.H15_1 arg5 arg8 X5 X8))) (arg16.view.read (Elt Ideal) X16) (arg17.view.read (Elt Ideal) X17)
      (arg19.view.read (Elt Ideal) (arg19.view.writes (Elt Ideal) arg19.view.junk (runB.sl.H19_4 arg3 X3))) (arg20.view.read (Elt Ideal) (arg20.view.writes (Elt Ideal) arg20.view.junk (runB.sl.H20_5 arg2 arg3 arg19 arg20 X2 X3))) (arg21.view.read (Elt Ideal) (arg21.view.writes (Elt Ideal) arg21.view.junk runB.sl.H21_1)) (arg22.view.read (Elt Ideal) X22) :=
    st_zero (by rw [coords1]; omega) (fun r hr n hn => (init15B arg5 arg8 arg15 X5 X8 _ r n hr hn).trans (h10' r hr n hn))
      (fun r hr l hl => (init19B arg3 arg19 X3 _ r l hr hl).trans (hr3 r hr))
      (fun r hr l hl => (init20B arg2 arg3 arg19 arg20 X2 X3 _ r l hr hl).trans (by rw [hr2 r hr, hr3 r hr]; rfl))
      (fun r hr l hl => init21B arg21 _ r l hr hl) (inv_pre22 h0 h4 hpre)
  unfold runB
  dsimp only
  refine ⟨?_, fun h => absurd h (by omega), ?_, fun h => absurd h (by omega), ?_, ?_⟩
  ·
    rw [View.writes_append]
    exact inv_succ (step_st (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runB.sl.v8 (grid0.coords t)) X4 X6 X7 (runB.sl.v10 arg5 arg8 arg15 X5 X8) (arg15.view.writes (Elt Ideal) arg15.view.junk (runB.sl.H15_1 arg5 arg8 X5 X8)) X16 X17 X18 (arg19.view.writes (Elt Ideal) arg19.view.junk (runB.sl.H19_4 arg3 X3)) (arg20.view.writes (Elt Ideal) arg20.view.junk (runB.sl.H20_5 arg2 arg3 arg19 arg20 X2 X3)) (arg21.view.writes (Elt Ideal) arg21.view.junk runB.sl.H21_1) X22 h4' h6' h7' h10 hS)
  · exact fun h => absurd h (by omega)
  · intro k hk
    have h := step_13 (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runB.sl.v8 (grid0.coords t)) X4 X6 X7 (runB.sl.v10 arg5 arg8 arg15 X5 X8) (arg15.view.writes (Elt Ideal) arg15.view.junk (runB.sl.H15_1 arg5 arg8 X5 X8)) X16 X17 X18 (arg19.view.writes (Elt Ideal) arg19.view.junk (runB.sl.H19_4 arg3 X3)) (arg20.view.writes (Elt Ideal) arg20.view.junk (runB.sl.H20_5 arg2 arg3 arg19 arg20 X2 X3)) (arg21.view.writes (Elt Ideal) arg21.view.junk runB.sl.H21_1) X22 h4' h6' h7' h10 hS arg13 X13 k hk
    rw [coords0, coords1] at h
    exact h
  · intro a ha b hb
    have h := step_14 (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runB.sl.v8 (grid0.coords t)) X4 X6 X7 (runB.sl.v10 arg5 arg8 arg15 X5 X8) (arg15.view.writes (Elt Ideal) arg15.view.junk (runB.sl.H15_1 arg5 arg8 X5 X8)) X16 X17 X18 (arg19.view.writes (Elt Ideal) arg19.view.junk (runB.sl.H19_4 arg3 X3)) (arg20.view.writes (Elt Ideal) arg20.view.junk (runB.sl.H20_5 arg2 arg3 arg19 arg20 X2 X3)) (arg21.view.writes (Elt Ideal) arg21.view.junk runB.sl.H21_1) X22 h4' h6' h7' h10 hS arg14 X14 a b ha hb
    rw [coords0, coords1] at h
    exact h

end Cert.KernelIdeal.Dx

end
-- ==== Proof.KernelIdealKeepC.lean ====
/-
  The invariant of the dx call at the extended reals and what its output windows hold: every point keeps it.
-/
module

public import proofs.«01_k».proof.Proof.Gen.KernelIdeal.Frame
public import proofs.«01_k».proof.Proof.KernelIdealInv
public import Idealize.ShloMosaic.Lib.Pointwise
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

set_option maxHeartbeats 4000000 in
/-- A point of case C keeps the invariant and leaves what is claimed. -/
theorem keepsC (c : Dev nD) (t : Fin cfg0.N) (h4 : t.val % 4 ≠ 0) (h3 : t.val % 4 ≠ 3) : StepC (grid0.coords t) (iblk m c 0 t) (iblk m c 1 t) (iblk m c 2 t) (iblk m c 3 t) (iblk m c 4 t) (iblk m c 5 t) (iblk m c 6 t) (iblk m c 7 t) (Inv m c t.castSucc)
    (PostAt (Inv m) (R10 m) (R11 m) (R12 m) (R13 m) (R14 m) c t) := by
  unfold StepC
  intro d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22 e2 e3 e4 e5 e6 e7 e8 e9 hpre
  have h4' : ∀ k < 4096, nat2 (ev (arg4.view.read (Elt Ideal) X4)) 0 k = (inAt m c).gm k := fun k hk =>
    (congrArg (fun z => nat2 (n := 1) (m := 4096) z 0 k) e4).trans (num2 m c t k hk)
  have h6' : ∀ r < 512, ∀ k < 1024, nat2 (ev (arg6.view.read (Elt Ideal) X6)) r k = (inAt m c).x (512 * (grid0.coords t 0).val + r) (1024 * (grid0.coords t 1).val + k) := fun r hr k hk => by
    rw [coords0, coords1]; exact (congrArg (fun z => nat2 (n := 512) (m := 1024) z r k) e6).trans (num4 m c t r hr k hk)
  have h7' : ∀ k < 1024, ∀ n < 6144, nat2 (ev (arg7.view.read (Elt Ideal) X7)) k n = (inAt m c).w (1024 * (grid0.coords t 1).val + k) n := fun k hk n hn => by
    rw [coords1]; exact (congrArg (fun z => nat2 (n := 1024) (m := 6144) z k n) e7).trans (num5 m c t k hk n hn)
  have hS := inv_pre h4 hpre
  have h10 : ∀ r < 512, ∀ n < 6144, nat2 (n := 512) (m := 6144) (ev (View.readAt (Elt Ideal) arg15.view (Rect.unit (s := ⟨2, ![512, 6144]⟩) ![0, 0] ![512, 6144] inb_S512x6144_S512x6144_0_0).toLoadRect X15)) r n = (inAt m c).dq (512 * (grid0.coords t 0).val + r) n * (inAt m c).ws n := by
    intro r hr n hn
    rw [ev, nat2_lt _ hr hn, rdB _ _ _ (rfl : _ = ![0, 0])]
    refine (nat2_congr ?_ ?_).trans (hS.h15 r hr n hn) <;> dsimp only <;> omega
  unfold runC
  dsimp only
  refine ⟨?_, fun h => absurd h (by omega), ?_, fun h => absurd h (by omega), ?_, ?_⟩
  ·
    exact inv_succ (step_st (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runC.sl.v8 (grid0.coords t)) X4 X6 X7 (View.readAt (Elt Ideal) arg15.view (Rect.unit (s := ⟨2, ![512, 6144]⟩) ![0, 0] ![512, 6144] inb_S512x6144_S512x6144_0_0).toLoadRect X15) X15 X16 X17 X18 X19 X20 X21 X22 h4' h6' h7' h10 hS)
  · exact fun h => absurd h (by omega)
  · intro k hk
    have h := step_13 (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runC.sl.v8 (grid0.coords t)) X4 X6 X7 (View.readAt (Elt Ideal) arg15.view (Rect.unit (s := ⟨2, ![512, 6144]⟩) ![0, 0] ![512, 6144] inb_S512x6144_S512x6144_0_0).toLoadRect X15) X15 X16 X17 X18 X19 X20 X21 X22 h4' h6' h7' h10 hS arg13 X13 k hk
    rw [coords0, coords1] at h
    exact h
  · intro a ha b hb
    have h := step_14 (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runC.sl.v8 (grid0.coords t)) X4 X6 X7 (View.readAt (Elt Ideal) arg15.view (Rect.unit (s := ⟨2, ![512, 6144]⟩) ![0, 0] ![512, 6144] inb_S512x6144_S512x6144_0_0).toLoadRect X15) X15 X16 X17 X18 X19 X20 X21 X22 h4' h6' h7' h10 hS arg14 X14 a b ha hb
    rw [coords0, coords1] at h
    exact h

end Cert.KernelIdeal.Dx

end
-- ==== Proof.KernelIdealKeepD.lean ====
/-
  The invariant of the dx call at the extended reals and what its output windows hold: every point keeps it.
-/
module

public import proofs.«01_k».proof.Proof.Gen.KernelIdeal.Frame
public import proofs.«01_k».proof.Proof.KernelIdealInv
public import Idealize.ShloMosaic.Lib.Pointwise
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

set_option maxHeartbeats 4000000 in
/-- A point of case D keeps the invariant and leaves what is claimed. -/
theorem keepsD (c : Dev nD) (t : Fin cfg0.N) (h3 : t.val % 4 = 3) : StepD (grid0.coords t) (iblk m c 0 t) (iblk m c 1 t) (iblk m c 2 t) (iblk m c 3 t) (iblk m c 4 t) (iblk m c 5 t) (iblk m c 6 t) (iblk m c 7 t) (Inv m c t.castSucc)
    (PostAt (Inv m) (R10 m) (R11 m) (R12 m) (R13 m) (R14 m) c t) := by
  unfold StepD
  intro d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 hc2 hc3 X2 X3 X4 X5 X6 X7 X8 X9 X10 X11 X12 X13 X14 X15 X16 X17 X18 X19 X20 X21 X22 e2 e3 e4 e5 e6 e7 e8 e9 hpre
  have h4' : ∀ k < 4096, nat2 (ev (arg4.view.read (Elt Ideal) X4)) 0 k = (inAt m c).gm k := fun k hk =>
    (congrArg (fun z => nat2 (n := 1) (m := 4096) z 0 k) e4).trans (num2 m c t k hk)
  have h6' : ∀ r < 512, ∀ k < 1024, nat2 (ev (arg6.view.read (Elt Ideal) X6)) r k = (inAt m c).x (512 * (grid0.coords t 0).val + r) (1024 * (grid0.coords t 1).val + k) := fun r hr k hk => by
    rw [coords0, coords1]; exact (congrArg (fun z => nat2 (n := 512) (m := 1024) z r k) e6).trans (num4 m c t r hr k hk)
  have h7' : ∀ k < 1024, ∀ n < 6144, nat2 (ev (arg7.view.read (Elt Ideal) X7)) k n = (inAt m c).w (1024 * (grid0.coords t 1).val + k) n := fun k hk n hn => by
    rw [coords1]; exact (congrArg (fun z => nat2 (n := 1024) (m := 6144) z k n) e7).trans (num5 m c t k hk n hn)
  have hS := inv_pre (by omega) hpre
  have h10 : ∀ r < 512, ∀ n < 6144, nat2 (n := 512) (m := 6144) (ev (View.readAt (Elt Ideal) arg15.view (Rect.unit (s := ⟨2, ![512, 6144]⟩) ![0, 0] ![512, 6144] inb_S512x6144_S512x6144_0_0).toLoadRect X15)) r n = (inAt m c).dq (512 * (grid0.coords t 0).val + r) n * (inAt m c).ws n := by
    intro r hr n hn
    rw [ev, nat2_lt _ hr hn, rdB _ _ _ (rfl : _ = ![0, 0])]
    refine (nat2_congr ?_ ?_).trans (hS.h15 r hr n hn) <;> dsimp only <;> omega
  have h9 : ∀ r < 512, ∀ k < 4096, nat2 (ev (arg9.view.read (Elt Ideal) X9)) r k = (inAt m c).dr (512 * (grid0.coords t 0).val + r) k := fun r hr k hk => by
    rw [coords0]; exact (congrArg (fun z => nat2 (n := 512) (m := 4096) z r k) e9).trans (num7 m c t r hr k hk)
  unfold runD
  dsimp only
  refine ⟨?_, ?_, ?_, ?_, ?_, ?_⟩
  ·
    exact inv_succ (step_st (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runD.sl.v8 (grid0.coords t)) X4 X6 X7 (View.readAt (Elt Ideal) arg15.view (Rect.unit (s := ⟨2, ![512, 6144]⟩) ![0, 0] ![512, 6144] inb_S512x6144_S512x6144_0_0).toLoadRect X15) X15 X16 X17 X18 X19 X20 X21 X22 h4' h6' h7' h10 hS)
  · intro _ r hr k hk
    have h := step_10 (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runD.sl.v8 (grid0.coords t)) X4 X6 X7 (View.readAt (Elt Ideal) arg15.view (Rect.unit (s := ⟨2, ![512, 6144]⟩) ![0, 0] ![512, 6144] inb_S512x6144_S512x6144_0_0).toLoadRect X15) X15 X16 X17 X18 X19 X20 X21 X22 h4' h6' h7' h10 hS hc3 (by rw [coords1]; exact h3) X9 X10 h9 r k hr hk
    rw [coords0] at h
    exact h
  · intro _ r hr k hk
    have h := step_11 (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runD.sl.v8 (grid0.coords t)) X4 X6 X7 (View.readAt (Elt Ideal) arg15.view (Rect.unit (s := ⟨2, ![512, 6144]⟩) ![0, 0] ![512, 6144] inb_S512x6144_S512x6144_0_0).toLoadRect X15) X15 X16 X17 X18 X19 X20 X21 X22 h4' h6' h7' h10 hS hc3 (by rw [coords1]; exact h3) X9 X11 h9 r k hr hk
    rw [coords0] at h
    exact h
  · intro _ r hr k hk
    have h := step_12 (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runD.sl.v8 (grid0.coords t)) X4 X6 X7 (View.readAt (Elt Ideal) arg15.view (Rect.unit (s := ⟨2, ![512, 6144]⟩) ![0, 0] ![512, 6144] inb_S512x6144_S512x6144_0_0).toLoadRect X15) X15 X16 X17 X18 X19 X20 X21 X22 h4' h6' h7' h10 hS hc3 (by rw [coords1]; exact h3) X9 X12 h9 r k hr hk
    rw [coords0] at h
    exact h
  · intro k hk
    have h := step_13 (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runD.sl.v8 (grid0.coords t)) X4 X6 X7 (View.readAt (Elt Ideal) arg15.view (Rect.unit (s := ⟨2, ![512, 6144]⟩) ![0, 0] ![512, 6144] inb_S512x6144_S512x6144_0_0).toLoadRect X15) X15 X16 X17 X18 X19 X20 X21 X22 h4' h6' h7' h10 hS arg13 X13 k hk
    rw [coords0, coords1] at h
    exact h
  · intro a ha b hb
    have h := step_14 (inAt m c) d (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runD.sl.v8 (grid0.coords t)) X4 X6 X7 (View.readAt (Elt Ideal) arg15.view (Rect.unit (s := ⟨2, ![512, 6144]⟩) ![0, 0] ![512, 6144] inb_S512x6144_S512x6144_0_0).toLoadRect X15) X15 X16 X17 X18 X19 X20 X21 X22 h4' h6' h7' h10 hS arg14 arg14.view.junk a b ha hb
    rw [coords0, coords1] at h
    unfold runD.sl.H14_1
    exact h

end Cert.KernelIdeal.Dx

end
-- ==== Proof.KernelIdealKeeps.lean ====
/-
  The invariant of the dx call at the extended reals and what its output windows hold: every point keeps it.
-/
module

public import proofs.«01_k».proof.Proof.Gen.KernelIdeal.Frame
public import proofs.«01_k».proof.Proof.KernelIdealKeepA
public import proofs.«01_k».proof.Proof.KernelIdealKeepB
public import proofs.«01_k».proof.Proof.KernelIdealKeepC
public import proofs.«01_k».proof.Proof.KernelIdealKeepD
public import Idealize.ShloMosaic.Lib.Pointwise
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- Every point keeps the invariant and leaves what is claimed in the output windows. -/
theorem keeps (c : Dev nD) (t : Fin cfg0.N) : Keeps m (Inv m) (R10 m) (R11 m) (R12 m) (R13 m) (R14 m) c t where
  caseA h := keepsA m c t h
  caseB h h' := keepsB m c t h h'
  caseC h h' := keepsC m c t h h'
  caseD h := keepsD m c t h

end Cert.KernelIdeal.Dx

end
-- ==== Proof.KernelIdealArr.lean ====
/-
  The result arrays of the dx call at the extended reals, as functions of the arrays the call finds.
-/
module

public import proofs.«01_k».proof.Proof.Gen.KernelIdeal.Frame
public import proofs.«01_k».proof.Proof.KernelIdealKeeps
public import proofs.«01_k».proof.Proof.KernelIdealFrame
public import Idealize.ShloMosaic.Lib.Pipeline.ArrRel
public import Idealize.ShloMosaic.Lib.Pipeline.DatRel
public import Idealize.ShloMosaic.Lib.Pipeline.ValueKit.Geometry
public import Idealize.ShloMosaic.Lib.Pointwise
public import Idealize.ShloMosaic.Lib.Pipeline.ValueKit.Point

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The activations' gradient. -/
def G11 (c : Dev nD) : Buf (Elt Ideal) ((c.tc : Thread nD τ).loc main_v8_1) := fun i : S12288x4096.Idx => (inAt m c).dx (i 0).val (i 1).val
/-- The scales. -/
def G10 (c : Dev nD) : Buf (Elt Ideal) ((c.tc : Thread nD τ).loc main_v8_0) := fun i : S12288x32.Idx => (inAt m c).scale (i 0).val (i 1).val
/-- The codes. -/
def G12 (c : Dev nD) : Buf (Elt Ideal) ((c.tc : Thread nD τ).loc main_v8_2) := fun i : S12288x4096.Idx => (inAt m c).code (i 0).val (i 1).val
/-- The gain's gradient. -/
def G13 (c : Dev nD) : Buf (Elt Ideal) ((c.tc : Thread nD τ).loc main_v8_3) := fun i : S1x4096.Idx => (∑ s ∈ Finset.range 8, (inAt m c).dg 24 s (i 1).val : EReal)
/-- The transposed activations. -/
def G14 (c : Dev nD) : Buf (Elt Ideal) ((c.tc : Thread nD τ).loc main_v8_4) := fun i : S4096x12288.Idx => (inAt m c).xh (i 1).val (i 0).val

/-- Window 9 is written back at a row block's last point only. -/
theorem flush9 : ∀ t : Fin cfg0.N, (cfg0.win 9).flush t = true → t.val % 4 = 3 := (by decide +kernel : ∀ t : Fin grid0.N, _)
/-- Window 8 is written back at a row block's last point only. -/
theorem flush8 : ∀ t : Fin cfg0.N, (cfg0.win 8).flush t = true → t.val % 4 = 3 := (by decide +kernel : ∀ t : Fin grid0.N, _)
/-- Window 10 is written back at a row block's last point only. -/
theorem flush10 : ∀ t : Fin cfg0.N, (cfg0.win 10).flush t = true → t.val % 4 = 3 := (by decide +kernel : ∀ t : Fin grid0.N, _)
/-- Window 11 is written back at the last point only. -/
theorem flush11 : ∀ t : Fin cfg0.N, (cfg0.win 11).flush t = true → t.val = 95 := (by decide +kernel : ∀ t : Fin grid0.N, _)
/-- Window 9 holds the row block. -/
theorem idx9 : ∀ t : Fin cfg0.N, win0_9.index t = ![t.val / 4, 0] := (by decide +kernel : ∀ t : Fin grid0.N, _)
/-- Window 8 holds the row block. -/
theorem idx8 : ∀ t : Fin cfg0.N, win0_8.index t = ![t.val / 4, 0] := (by decide +kernel : ∀ t : Fin grid0.N, _)
/-- Window 10 holds the row block. -/
theorem idx10 : ∀ t : Fin cfg0.N, win0_10.index t = ![t.val / 4, 0] := (by decide +kernel : ∀ t : Fin grid0.N, _)
/-- Window 11 holds the whole array. -/
theorem idx11 : ∀ t : Fin cfg0.N, win0_11.index t = ![0, 0] := (by decide +kernel : ∀ t : Fin grid0.N, _)
/-- Window 12 holds the block of the column and row blocks. -/
theorem idx12 : ∀ t : Fin cfg0.N, win0_12.index t = ![t.val % 4, t.val / 4] := (by decide +kernel : ∀ t : Fin grid0.N, _)

set_option maxHeartbeats 2000000 in
/-- The array behind window 9, if every block written back is a function's. -/
theorem arr9 (c : Dev nD) (dat : Dat τ (Elt Ideal) Unit ℕ (UR sig nD τ) ℕ cfg0 c)
    (h : ∀ t : Fin cfg0.N, (cfg0.win 9).flush t = true → R11 m c t (dat.after 9 t)) : dat.arrAt 9 cfg0.N = G11 m c := by
  refine dat.arrAt_eq_of_covers 9 _ (by decide +kernel) fun t hf y => ?_
  have := t_lt t
  have i0 : win0_9.index t (0 : Fin 2) = _ := congrFun (idx9 t) 0
  have i1 : win0_9.index t (1 : Fin 2) = _ := congrFun (idx9 t) 1
  have hb0 : (((cfg0.win 9).blk t).view.emb y 0).val = win0_9.index t (0 : Fin 2) * 512 + 1 * (y 0).val := rfl
  have hb1 : (((cfg0.win 9).blk t).view.emb y 1).val = win0_9.index t (1 : Fin 2) * 4096 + 1 * (y 1).val := rfl
  rw [i0] at hb0
  rw [i1] at hb1
  simp only [Matrix.cons_val_zero, Matrix.cons_val_one] at hb0 hb1
  have h0 : (y 0).val < 512 := (y 0).isLt
  have h1 : (y 1).val < 4096 := (y 1).isLt
  refine (show _ = nat2 (n := 512) (m := 4096) (dat.after 9 t) (y 0).val (y 1).val from ?_).trans ?_
  · refine Eq.trans ?_ (nat2_of (n := 512) (m := 4096) (dat.after 9 t) ⟨(y 0).val, h0⟩ ⟨(y 1).val, h1⟩)
    refine congrArg (dat.after 9 t) (funext fun a => Fin.ext ?_)
    match a with | ⟨0, _⟩ => rfl | ⟨1, _⟩ => rfl
  refine (h t hf (flush9 t hf) _ h0 _ h1).trans ?_
  show (inAt m c).dx _ _ = (inAt m c).dx (((cfg0.win 9).blk t).view.emb y 0).val (((cfg0.win 9).blk t).view.emb y 1).val
  rw [hb0, hb1]
  exact congrArg₂ _ (by omega) (by omega)

set_option maxHeartbeats 2000000 in
/-- The array behind window 8, if every block written back is a function's. -/
theorem arr8 (c : Dev nD) (dat : Dat τ (Elt Ideal) Unit ℕ (UR sig nD τ) ℕ cfg0 c)
    (h : ∀ t : Fin cfg0.N, (cfg0.win 8).flush t = true → R10 m c t (dat.after 8 t)) : dat.arrAt 8 cfg0.N = G10 m c := by
  refine dat.arrAt_eq_of_covers 8 _ (by decide +kernel) fun t hf y => ?_
  have := t_lt t
  have i0 : win0_8.index t (0 : Fin 2) = _ := congrFun (idx8 t) 0
  have i1 : win0_8.index t (1 : Fin 2) = _ := congrFun (idx8 t) 1
  have hb0 : (((cfg0.win 8).blk t).view.emb y 0).val = win0_8.index t (0 : Fin 2) * 512 + 1 * (y 0).val := rfl
  have hb1 : (((cfg0.win 8).blk t).view.emb y 1).val = win0_8.index t (1 : Fin 2) * 32 + 1 * (y 1).val := rfl
  rw [i0] at hb0
  rw [i1] at hb1
  simp only [Matrix.cons_val_zero, Matrix.cons_val_one] at hb0 hb1
  have h0 : (y 0).val < 512 := (y 0).isLt
  have h1 : (y 1).val < 32 := (y 1).isLt
  refine (show _ = nat2 (n := 512) (m := 32) (dat.after 8 t) (y 0).val (y 1).val from ?_).trans ?_
  · refine Eq.trans ?_ (nat2_of (n := 512) (m := 32) (dat.after 8 t) ⟨(y 0).val, h0⟩ ⟨(y 1).val, h1⟩)
    refine congrArg (dat.after 8 t) (funext fun a => Fin.ext ?_)
    match a with | ⟨0, _⟩ => rfl | ⟨1, _⟩ => rfl
  refine (h t hf (flush8 t hf) _ h0 _ h1).trans ?_
  show (inAt m c).scale _ _ = (inAt m c).scale (((cfg0.win 8).blk t).view.emb y 0).val (((cfg0.win 8).blk t).view.emb y 1).val
  rw [hb0, hb1]
  exact congrArg₂ _ (by omega) (by omega)

set_option maxHeartbeats 2000000 in
/-- The array behind window 10, if every block written back is a function's. -/
theorem arr10 (c : Dev nD) (dat : Dat τ (Elt Ideal) Unit ℕ (UR sig nD τ) ℕ cfg0 c)
    (h : ∀ t : Fin cfg0.N, (cfg0.win 10).flush t = true → R12 m c t (dat.after 10 t)) : dat.arrAt 10 cfg0.N = G12 m c := by
  refine dat.arrAt_eq_of_covers 10 _ (by decide +kernel) fun t hf y => ?_
  have := t_lt t
  have i0 : win0_10.index t (0 : Fin 2) = _ := congrFun (idx10 t) 0
  have i1 : win0_10.index t (1 : Fin 2) = _ := congrFun (idx10 t) 1
  have hb0 : (((cfg0.win 10).blk t).view.emb y 0).val = win0_10.index t (0 : Fin 2) * 512 + 1 * (y 0).val := rfl
  have hb1 : (((cfg0.win 10).blk t).view.emb y 1).val = win0_10.index t (1 : Fin 2) * 4096 + 1 * (y 1).val := rfl
  rw [i0] at hb0
  rw [i1] at hb1
  simp only [Matrix.cons_val_zero, Matrix.cons_val_one] at hb0 hb1
  have h0 : (y 0).val < 512 := (y 0).isLt
  have h1 : (y 1).val < 4096 := (y 1).isLt
  refine (show _ = nat2 (n := 512) (m := 4096) (dat.after 10 t) (y 0).val (y 1).val from ?_).trans ?_
  · refine Eq.trans ?_ (nat2_of (n := 512) (m := 4096) (dat.after 10 t) ⟨(y 0).val, h0⟩ ⟨(y 1).val, h1⟩)
    refine congrArg (dat.after 10 t) (funext fun a => Fin.ext ?_)
    match a with | ⟨0, _⟩ => rfl | ⟨1, _⟩ => rfl
  refine (h t hf (flush10 t hf) _ h0 _ h1).trans ?_
  show (inAt m c).code _ _ = (inAt m c).code (((cfg0.win 10).blk t).view.emb y 0).val (((cfg0.win 10).blk t).view.emb y 1).val
  rw [hb0, hb1]
  exact congrArg₂ _ (by omega) (by omega)

set_option maxHeartbeats 2000000 in
/-- The array behind window 11, if every block written back is a function's. -/
theorem arr11 (c : Dev nD) (dat : Dat τ (Elt Ideal) Unit ℕ (UR sig nD τ) ℕ cfg0 c)
    (h : ∀ t : Fin cfg0.N, (cfg0.win 11).flush t = true → R13 m c t (dat.after 11 t)) : dat.arrAt 11 cfg0.N = G13 m c := by
  refine dat.arrAt_eq_of_covers 11 _ (by decide +kernel) fun t hf y => ?_
  have := t_lt t
  have i0 : win0_11.index t (0 : Fin 2) = _ := congrFun (idx11 t) 0
  have i1 : win0_11.index t (1 : Fin 2) = _ := congrFun (idx11 t) 1
  have hb0 : (((cfg0.win 11).blk t).view.emb y 0).val = win0_11.index t (0 : Fin 2) * 1 + 1 * (y 0).val := rfl
  have hb1 : (((cfg0.win 11).blk t).view.emb y 1).val = win0_11.index t (1 : Fin 2) * 4096 + 1 * (y 1).val := rfl
  rw [i0] at hb0
  rw [i1] at hb1
  simp only [Matrix.cons_val_zero, Matrix.cons_val_one] at hb0 hb1
  have h0 : (y 0).val < 1 := (y 0).isLt
  have h1 : (y 1).val < 4096 := (y 1).isLt
  refine (show _ = nat2 (n := 1) (m := 4096) (dat.after 11 t) (y 0).val (y 1).val from ?_).trans ?_
  · refine Eq.trans ?_ (nat2_of (n := 1) (m := 4096) (dat.after 11 t) ⟨(y 0).val, h0⟩ ⟨(y 1).val, h1⟩)
    refine congrArg (dat.after 11 t) (funext fun a => Fin.ext ?_)
    match a with | ⟨0, _⟩ => rfl | ⟨1, _⟩ => rfl
  have ht := flush11 t hf
  have hy : (y 0).val = 0 := by omega
  rw [hy]
  refine (h t hf _ h1).trans ?_
  show _ = ∑ s ∈ Finset.range 8, (inAt m c).dg 24 s (((cfg0.win 11).blk t).view.emb y 1).val
  rw [hb1]
  refine Finset.sum_congr rfl fun s _ => ?_
  rw [if_pos (by omega)]
  rw [show t.val / 4 + 1 = 24 from by omega, show 0 * 4096 + 1 * (y 1).val = (y 1).val from by omega]

set_option maxHeartbeats 2000000 in
/-- The array behind window 12, if every block written back is a function's. -/
theorem arr12 (c : Dev nD) (dat : Dat τ (Elt Ideal) Unit ℕ (UR sig nD τ) ℕ cfg0 c)
    (h : ∀ t : Fin cfg0.N, (cfg0.win 12).flush t = true → R14 m c t (dat.after 12 t)) : dat.arrAt 12 cfg0.N = G14 m c := by
  refine dat.arrAt_eq_of_covers 12 _ (by decide +kernel) fun t hf y => ?_
  have := t_lt t
  have i0 : win0_12.index t (0 : Fin 2) = _ := congrFun (idx12 t) 0
  have i1 : win0_12.index t (1 : Fin 2) = _ := congrFun (idx12 t) 1
  have hb0 : (((cfg0.win 12).blk t).view.emb y 0).val = win0_12.index t (0 : Fin 2) * 1024 + 1 * (y 0).val := rfl
  have hb1 : (((cfg0.win 12).blk t).view.emb y 1).val = win0_12.index t (1 : Fin 2) * 512 + 1 * (y 1).val := rfl
  rw [i0] at hb0
  rw [i1] at hb1
  simp only [Matrix.cons_val_zero, Matrix.cons_val_one] at hb0 hb1
  have h0 : (y 0).val < 1024 := (y 0).isLt
  have h1 : (y 1).val < 512 := (y 1).isLt
  refine (show _ = nat2 (n := 1024) (m := 512) (dat.after 12 t) (y 0).val (y 1).val from ?_).trans ?_
  · refine Eq.trans ?_ (nat2_of (n := 1024) (m := 512) (dat.after 12 t) ⟨(y 0).val, h0⟩ ⟨(y 1).val, h1⟩)
    refine congrArg (dat.after 12 t) (funext fun a => Fin.ext ?_)
    match a with | ⟨0, _⟩ => rfl | ⟨1, _⟩ => rfl
  refine (h t hf _ h0 _ h1).trans ?_
  show (inAt m c).xh _ _ = (inAt m c).xh (((cfg0.win 12).blk t).view.emb y 1).val (((cfg0.win 12).blk t).view.emb y 0).val
  rw [hb0, hb1]
  exact congrArg₂ _ (by omega) (by omega)

/-- The run with the result arrays named, the arguments unchanged. -/
theorem run_arrays : θ_run defs (onTc (τ := τ) (main (F := Ideal))) ⟨m, fun _ => 0, ρ⟩ (fun r => ∀ c : Dev nD,
      r.2.mem ((c.tc : Thread nD τ).loc main_v8_1) = G11 m c
      ∧ r.2.mem ((c.tc : Thread nD τ).loc main_v8_3) = G13 m c
      ∧ r.2.mem ((c.tc : Thread nD τ).loc main_v8_4) = G14 m c
      ∧ r.2.mem ((c.tc : Thread nD τ).loc main_v8_0) = G10 m c
      ∧ r.2.mem ((c.tc : Thread nD τ).loc main_v8_2) = G12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨after, hL, hG⟩ := h.1.exists_exact c
    refine ⟨?_, ?_, ?_, ?_, ?_, ?_⟩
    · exact (hG 9).trans (arr9 m c _ fun t hf => (dats m (Inv m) 0 c).toRRel_leaves rfl (hL 9 t hf))
    · exact (hG 11).trans (arr11 m c _ fun t hf => (dats m (Inv m) 0 c).toRRel_leaves rfl (hL 11 t hf))
    · exact (hG 12).trans (arr12 m c _ fun t hf => (dats m (Inv m) 0 c).toRRel_leaves rfl (hL 12 t hf))
    · exact (hG 8).trans (arr8 m c _ fun t hf => (dats m (Inv m) 0 c).toRRel_leaves rfl (hL 8 t hf))
    · exact (hG 10).trans (arr10 m c _ fun t hf => (dats m (Inv m) 0 c).toRRel_leaves rfl (hL 10 t hf))
    · exact ⟨
        ((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c),
        ((h.1 c).2 main_arg3 (Pipeline.mem_restRefs_of main_arg3 (by decide) (by decide))).trans (V_main_arg3 m c),
        (h.1.arr_in c 5 rfl).trans (V_main_arg4 m c),
        ((h.1 c).2 main_arg5 (Pipeline.mem_restRefs_of main_arg5 (by decide) (by decide))).trans (V_main_arg5 m c),
        ((h.1 c).2 main_arg6 (Pipeline.mem_restRefs_of main_arg6 (by decide) (by decide))).trans (V_main_arg6 m c),
        ((h.1 c).2 main_arg7 (Pipeline.mem_restRefs_of main_arg7 (by decide) (by decide))).trans (V_main_arg7 m c)⟩)
    (run_main m ρ _ _ _ _ _ _ (fun _ _ _ _ _ _ _ _ _ => fun h => absurd rfl h) (keeps m))

end Cert.KernelIdeal.Dx

end
-- ==== Proof.RefDx.lean ====
/-
  The reference of the first program at the extended reals: its result arrays as functions of its arguments by numbers.
-/
module

public import proofs.«01_k».proof.Proof.KernelIdealArr
public import proofs.«01_k».proof.Proof.Gen.ReferenceIdeal.Value
public import Idealize.ShloMosaic.Lib.Pointwise
public import Idealize.ShloMosaic.Lib.Pipeline.ValueKit.Point

@[expose] public section

set_option maxRecDepth 16384

noncomputable section

namespace Cert.ReferenceIdeal.Dx

open Cert.ReferenceIdeal Cert.ReferenceIdeal.Gen
open Idealize.ShloMosaic Idealize.ShloMosaic.TcCoe Idealize.ShloMosaic.Tactic Idealize.SL.Sem
open Idealize.ShloMosaic.Pipeline (Dat)
open Idealize.SL.RA
open Cert.KernelIdeal.Dx (In nat2 nat2_of nat2_lt nat2_congr)

/-- The product of the gradient and the scaled weights at an index. -/
theorem pay6_apply (P0 : Vec Ideal S12288x6144 .bf16) (P1 : Vec Ideal S4096x6144 .fp8e4m3) (P2 : Vec Ideal S1x6144 .f32) (T : Fin 12288) (k : Fin 4096) :
    k0_pay6 (F := Ideal) P0 P1 P2 (ix2 T k) = ∑ n : Fin 6144, P0 (ix2 T n) * (P1 (ix2 k n) * P2 (ix2 0 n)) := by
  pointwise [k0_pay6]

/-- The index at which an entry reads operand 0. -/
theorem at10_0 (k : Fin 4096) (T : Fin 12288) : Value.ix10_0 (ix2 k T) = ix2 T k := by
  funext a
  match a with | ⟨0, _⟩ => rfl | ⟨1, _⟩ => rfl
/-- The index at which an entry reads operand 1. -/
theorem at10_1 (k : Fin 4096) (T : Fin 12288) : Value.ix10_1 (ix2 k T) = ix2 T 0 := by
  funext a
  match a with | ⟨0, _⟩ => rfl | ⟨1, _⟩ => rfl
/-- The index at which an entry reads operand 2. -/
theorem at10_2 (k : Fin 4096) (T : Fin 12288) : Value.ix10_2 (ix2 k T) = ix2 T 0 := by
  funext a
  match a with | ⟨0, _⟩ => rfl | ⟨1, _⟩ => rfl
/-- The index at which an entry reads operand 3. -/
theorem at10_3 (k : Fin 4096) (T : Fin 12288) : Value.ix10_3 (ix2 k T) = ix2 0 k := by
  funext a
  match a with | ⟨0, _⟩ => rfl | ⟨1, _⟩ => rfl
/-- The index at which an entry reads operand 0. -/
theorem at8_0 (T : Fin 12288) (k : Fin 4096) : Value.ix8_0 (ix2 T k) = ix2 T 0 := by
  funext a
  match a with | ⟨0, _⟩ => rfl | ⟨1, _⟩ => rfl
/-- The index at which an entry reads operand 1. -/
theorem at8_1 (T : Fin 12288) (k : Fin 4096) : Value.ix8_1 (ix2 T k) = ix2 T k := by
  funext a
  match a with | ⟨0, _⟩ => rfl | ⟨1, _⟩ => rfl
/-- The index at which an entry reads operand 2. -/
theorem at8_2 (T : Fin 12288) (k : Fin 4096) : Value.ix8_2 (ix2 T k) = ix2 0 k := by
  funext a
  match a with | ⟨0, _⟩ => rfl | ⟨1, _⟩ => rfl
/-- The index at which an entry reads operand 3. -/
theorem at8_3 (T : Fin 12288) (k : Fin 4096) : Value.ix8_3 (ix2 T k) = ix2 T k := by
  funext a
  match a with | ⟨0, _⟩ => rfl | ⟨1, _⟩ => rfl
/-- The index at which an entry reads operand 4. -/
theorem at8_4 (T : Fin 12288) (k : Fin 4096) : Value.ix8_4 (ix2 T k) = ix2 T 0 := by
  funext a
  match a with | ⟨0, _⟩ => rfl | ⟨1, _⟩ => rfl
/-- The index at which an entry reads operand 5. -/
theorem at8_5 (T : Fin 12288) (k : Fin 4096) : Value.ix8_5 (ix2 T k) = ix2 T 0 := by
  funext a
  match a with | ⟨0, _⟩ => rfl | ⟨1, _⟩ => rfl
/-- The index at which an entry reads operand 7. -/
theorem at8_7 (T : Fin 12288) (k : Fin 4096) : Value.ix8_7 (ix2 T k) = ix2 T k := by
  funext a
  match a with | ⟨0, _⟩ => rfl | ⟨1, _⟩ => rfl

/-- An entry of the transposed activations, of its operands. -/
theorem e10 (P0 : Vec Ideal S12288x4096 .fp8e4m3) (P1 P2 : Vec Ideal S12288x1 .f32) (P3 : Vec Ideal S1x4096 .f32) (k : Fin 4096) (T : Fin 12288) :
    Value.E10 P0 P1 P2 P3 (ix2 k T) = P0 (ix2 T k) * P1 (ix2 T 0) * P2 (ix2 T 0) * P3 (ix2 0 k) := by
  pointwise [Value.E10]
  rw [at10_0, at10_1, at10_2, at10_3]

/-- An entry of the gain's gradient, of its operands. -/
theorem e9 (P0 : Vec Ideal S12288x6144 .bf16) (P1 : Vec Ideal S4096x6144 .fp8e4m3) (P2 : Vec Ideal S1x6144 .f32) (P3 : Vec Ideal S12288x4096 .fp8e4m3) (P4 P5 : Vec Ideal S12288x1 .f32) (k : Fin 4096) :
    Value.E9 P0 P1 P2 P3 P4 P5 (ix2 0 k) = ∑ T : Fin 12288, k0_pay6 P0 P1 P2 (ix2 T k) * (P3 (ix2 T k) * P4 (ix2 T 0) * P5 (ix2 T 0)) := by
  unfold Value.E9
  generalize k0_pay6 P0 P1 P2 = D
  pointwise []

/-- An entry of the gradient, of its operands. -/
theorem e8 (P0 : Vec Ideal S12288x1 .f32) (P1 : Vec Ideal S12288x6144 .bf16) (P2 : Vec Ideal S4096x6144 .fp8e4m3) (P3 : Vec Ideal S1x6144 .f32) (P4 : Vec Ideal S1x4096 .f32) (P5 : Vec Ideal S12288x4096 .fp8e4m3) (P6 : Vec Ideal S12288x1 .f32) (P7 : Vec Ideal S12288x4096 .bf16) (T : Fin 12288) (k : Fin 4096) :
    Value.E8 P0 P1 P2 P3 P4 P5 P6 P7 (ix2 T k) = P0 (ix2 T 0) * (k0_pay6 P1 P2 P3 (ix2 T k) * P4 (ix2 0 k) - P5 (ix2 T k) * P6 (ix2 T 0) * P0 (ix2 T 0) *
      Ideal.div (∑ j : Fin 4096, k0_pay6 P1 P2 P3 (ix2 T j) * P4 (ix2 0 j) * (P5 (ix2 T j) * P6 (ix2 T 0) * P0 (ix2 T 0))) (Ideal.ofBits .f32 0x45800000#32)) + P7 (ix2 T k) := by
  unfold Value.E8
  generalize k0_pay6 P1 P2 P3 = D
  pointwise []
  rw [at8_0, at8_1, at8_2, at8_3, at8_4, at8_5, at8_7]

variable (m : (ℓ : Loc nD τ sig) → Buf (Elt Ideal) ℓ) (ρ : Dev nD → PrngReg)

/-- The arrays the reference finds, by numbers. -/
def refIn (c : Dev nD) : In where
  xs T := nat2 (n := 12288) (m := 1) (V m c main_v1) T 0
  rs T := nat2 (n := 12288) (m := 1) (V m c main_v2) T 0
  gm k := nat2 (n := 1) (m := 4096) (V m c main_v3) 0 k
  ws n := nat2 (n := 1) (m := 6144) (V m c main_v4) 0 n
  x := nat2 (n := 12288) (m := 4096) (V m c main_v0)
  w := nat2 (n := 4096) (m := 6144) (V m c main_arg4)
  dq := nat2 (n := 12288) (m := 6144) (V m c main_v5)
  dr := nat2 (n := 12288) (m := 4096) (V m c main_v6)

/-- A load of a whole array is the array. -/
theorem ld0 {e : EltTy} (x : Vec Ideal S12288x1 e) : View.ld x r0_0 = x := by
  funext i
  refine congrArg x (funext fun a => Fin.ext ?_)
  match a with
  | ⟨0, _⟩ => show 0 + 1 * (i 0).val = (i 0).val; omega
  | ⟨1, _⟩ => show 0 + 1 * (i 1).val = (i 1).val; omega
/-- A load of a whole array is the array. -/
theorem ld1 {e : EltTy} (x : Vec Ideal S1x4096 e) : View.ld x r0_1 = x := by
  funext i
  refine congrArg x (funext fun a => Fin.ext ?_)
  match a with
  | ⟨0, _⟩ => show 0 + 1 * (i 0).val = (i 0).val; omega
  | ⟨1, _⟩ => show 0 + 1 * (i 1).val = (i 1).val; omega
/-- A load of a whole array is the array. -/
theorem ld2 {e : EltTy} (x : Vec Ideal S12288x6144 e) : View.ld x r0_2 = x := by
  funext i
  refine congrArg x (funext fun a => Fin.ext ?_)
  match a with
  | ⟨0, _⟩ => show 0 + 1 * (i 0).val = (i 0).val; omega
  | ⟨1, _⟩ => show 0 + 1 * (i 1).val = (i 1).val; omega
/-- A load of a whole array is the array. -/
theorem ld3 {e : EltTy} (x : Vec Ideal S12288x4096 e) : View.ld x r0_3 = x := by
  funext i
  refine congrArg x (funext fun a => Fin.ext ?_)
  match a with
  | ⟨0, _⟩ => show 0 + 1 * (i 0).val = (i 0).val; omega
  | ⟨1, _⟩ => show 0 + 1 * (i 1).val = (i 1).val; omega
/-- A load of a whole array is the array. -/
theorem ld4 {e : EltTy} (x : Vec Ideal S4096x12288 e) : View.ld x r0_4 = x := by
  funext i
  refine congrArg x (funext fun a => Fin.ext ?_)
  match a with
  | ⟨0, _⟩ => show 0 + 1 * (i 0).val = (i 0).val; omega
  | ⟨1, _⟩ => show 0 + 1 * (i 1).val = (i 1).val; omega
/-- A load of a whole array is the array. -/
theorem ld5 {e : EltTy} (x : Vec Ideal S4096x6144 e) : View.ld x r0_5 = x := by
  funext i
  refine congrArg x (funext fun a => Fin.ext ?_)
  match a with
  | ⟨0, _⟩ => show 0 + 1 * (i 0).val = (i 0).val; omega
  | ⟨1, _⟩ => show 0 + 1 * (i 1).val = (i 1).val; omega
/-- A load of a whole array is the array. -/
theorem ld6 {e : EltTy} (x : Vec Ideal S1x6144 e) : View.ld x r0_6 = x := by
  funext i
  refine congrArg x (funext fun a => Fin.ext ?_)
  match a with
  | ⟨0, _⟩ => show 0 + 1 * (i 0).val = (i 0).val; omega
  | ⟨1, _⟩ => show 0 + 1 * (i 1).val = (i 1).val; omega
/-- Window 0 holds the whole array. -/
theorem idx0 : ∀ t : Fin cfg0.N, win0_0.index t = ![0, 0] := (by decide +kernel : ∀ t : Fin grid0.N, _)
/-- Window 0's block is its array. -/
theorem blk0 (c : Dev nD) (t : Fin cfg0.N) : iblk m c 0 t = V m c main_v0 := by
  funext i
  rw [eq_ix2 i]
  generalize i 0 = a
  generalize i 1 = b
  show (iblk m c 0 t : Vec Ideal S12288x4096 .fp8e4m3) (ix2 (a : Fin 12288) (b : Fin 4096)) = _
  blk_ext [iblk, idx0 t]
/-- Window 1 holds the whole array. -/
theorem idx1 : ∀ t : Fin cfg0.N, win0_1.index t = ![0, 0] := (by decide +kernel : ∀ t : Fin grid0.N, _)
/-- Window 1's block is its array. -/
theorem blk1 (c : Dev nD) (t : Fin cfg0.N) : iblk m c 1 t = V m c main_v1 := by
  funext i
  rw [eq_ix2 i]
  generalize i 0 = a
  generalize i 1 = b
  show (iblk m c 1 t : Vec Ideal S12288x1 .f32) (ix2 (a : Fin 12288) (b : Fin 1)) = _
  blk_ext [iblk, idx1 t]
/-- Window 2 holds the whole array. -/
theorem idx2 : ∀ t : Fin cfg0.N, win0_2.index t = ![0, 0] := (by decide +kernel : ∀ t : Fin grid0.N, _)
/-- Window 2's block is its array. -/
theorem blk2 (c : Dev nD) (t : Fin cfg0.N) : iblk m c 2 t = V m c main_v2 := by
  funext i
  rw [eq_ix2 i]
  generalize i 0 = a
  generalize i 1 = b
  show (iblk m c 2 t : Vec Ideal S12288x1 .f32) (ix2 (a : Fin 12288) (b : Fin 1)) = _
  blk_ext [iblk, idx2 t]
/-- Window 3 holds the whole array. -/
theorem idx3 : ∀ t : Fin cfg0.N, win0_3.index t = ![0, 0] := (by decide +kernel : ∀ t : Fin grid0.N, _)
/-- Window 3's block is its array. -/
theorem blk3 (c : Dev nD) (t : Fin cfg0.N) : iblk m c 3 t = V m c main_v3 := by
  funext i
  rw [eq_ix2 i]
  generalize i 0 = a
  generalize i 1 = b
  show (iblk m c 3 t : Vec Ideal S1x4096 .f32) (ix2 (a : Fin 1) (b : Fin 4096)) = _
  blk_ext [iblk, idx3 t]
/-- Window 4 holds the whole array. -/
theorem idx4 : ∀ t : Fin cfg0.N, win0_4.index t = ![0, 0] := (by decide +kernel : ∀ t : Fin grid0.N, _)
/-- Window 4's block is its array. -/
theorem blk4 (c : Dev nD) (t : Fin cfg0.N) : iblk m c 4 t = V m c main_arg4 := by
  funext i
  rw [eq_ix2 i]
  generalize i 0 = a
  generalize i 1 = b
  show (iblk m c 4 t : Vec Ideal S4096x6144 .fp8e4m3) (ix2 (a : Fin 4096) (b : Fin 6144)) = _
  blk_ext [iblk, idx4 t]
/-- Window 5 holds the whole array. -/
theorem idx5 : ∀ t : Fin cfg0.N, win0_5.index t = ![0, 0] := (by decide +kernel : ∀ t : Fin grid0.N, _)
/-- Window 5's block is its array. -/
theorem blk5 (c : Dev nD) (t : Fin cfg0.N) : iblk m c 5 t = V m c main_v4 := by
  funext i
  rw [eq_ix2 i]
  generalize i 0 = a
  generalize i 1 = b
  show (iblk m c 5 t : Vec Ideal S1x6144 .f32) (ix2 (a : Fin 1) (b : Fin 6144)) = _
  blk_ext [iblk, idx5 t]
/-- Window 6 holds the whole array. -/
theorem idx6 : ∀ t : Fin cfg0.N, win0_6.index t = ![0, 0] := (by decide +kernel : ∀ t : Fin grid0.N, _)
/-- Window 6's block is its array. -/
theorem blk6 (c : Dev nD) (t : Fin cfg0.N) : iblk m c 6 t = V m c main_v5 := by
  funext i
  rw [eq_ix2 i]
  generalize i 0 = a
  generalize i 1 = b
  show (iblk m c 6 t : Vec Ideal S12288x6144 .bf16) (ix2 (a : Fin 12288) (b : Fin 6144)) = _
  blk_ext [iblk, idx6 t]
/-- Window 7 holds the whole array. -/
theorem idx7 : ∀ t : Fin cfg0.N, win0_7.index t = ![0, 0] := (by decide +kernel : ∀ t : Fin grid0.N, _)
/-- Window 7's block is its array. -/
theorem blk7 (c : Dev nD) (t : Fin cfg0.N) : iblk m c 7 t = V m c main_v6 := by
  funext i
  rw [eq_ix2 i]
  generalize i 0 = a
  generalize i 1 = b
  show (iblk m c 7 t : Vec Ideal S12288x4096 .bf16) (ix2 (a : Fin 12288) (b : Fin 4096)) = _
  blk_ext [iblk, idx7 t]
/-- Window 8 holds the whole array. -/
theorem idx8 : ∀ t : Fin cfg0.N, win0_8.index t = ![0, 0] := (by decide +kernel : ∀ t : Fin grid0.N, _)
/-- Window 9 holds the whole array. -/
theorem idx9 : ∀ t : Fin cfg0.N, win0_9.index t = ![0, 0] := (by decide +kernel : ∀ t : Fin grid0.N, _)
/-- Window 10 holds the whole array. -/
theorem idx10 : ∀ t : Fin cfg0.N, win0_10.index t = ![0, 0] := (by decide +kernel : ∀ t : Fin grid0.N, _)
/-- What the body stores of the gradient. -/
theorem o8 (x0 : Vec Ideal S12288x4096 .fp8e4m3) (x1 : Vec Ideal S12288x1 .f32) (x2 : Vec Ideal S12288x1 .f32) (x3 : Vec Ideal S1x4096 .f32) (x4 : Vec Ideal S4096x6144 .fp8e4m3) (x5 : Vec Ideal S1x6144 .f32) (x6 : Vec Ideal S12288x6144 .bf16) (x7 : Vec Ideal S12288x4096 .bf16) (z : S12288x4096.Idx) : out0_8 x0 x1 x2 x3 x4 x5 x6 x7 z = Value.E8 x2 x6 x4 x5 x3 x0 x1 x7 z := by
  unfold out0_8 k0_pay16 k0_pay17 k0_pay18 k0_pay19
  simp only [ld0, ld3, ld1, ld2, ld5, ld6]
  exact Value.canon8_eq x2 x6 x4 x5 x3 x0 x1 x7 z
/-- What the body stores of the gain's gradient. -/
theorem o9 (x0 : Vec Ideal S12288x4096 .fp8e4m3) (x1 : Vec Ideal S12288x1 .f32) (x2 : Vec Ideal S12288x1 .f32) (x3 : Vec Ideal S1x4096 .f32) (x4 : Vec Ideal S4096x6144 .fp8e4m3) (x5 : Vec Ideal S1x6144 .f32) (x6 : Vec Ideal S12288x6144 .bf16) (x7 : Vec Ideal S12288x4096 .bf16) (z : S1x4096.Idx) : out0_9 x0 x1 x2 x3 x4 x5 x6 x7 z = Value.E9 x6 x4 x5 x0 x1 x2 z := by
  unfold out0_9
  simp only [ld0, ld2, ld3, ld5, ld6]
  exact Value.canon9_eq x6 x4 x5 x0 x1 x2 z
/-- What the body stores of the transposed activations. -/
theorem o10 (x0 : Vec Ideal S12288x4096 .fp8e4m3) (x1 : Vec Ideal S12288x1 .f32) (x2 : Vec Ideal S12288x1 .f32) (x3 : Vec Ideal S1x4096 .f32) (x4 : Vec Ideal S4096x6144 .fp8e4m3) (x5 : Vec Ideal S1x6144 .f32) (x6 : Vec Ideal S12288x6144 .bf16) (x7 : Vec Ideal S12288x4096 .bf16) (z : S4096x12288.Idx) : out0_10 x0 x1 x2 x3 x4 x5 x6 x7 z = Value.E10 x0 x1 x2 x3 z := by
  unfold out0_10
  simp only [ld0, ld1, ld3]
  exact Value.canon10_eq x0 x1 x2 x3 z
/-- Result array 8 of any state of the pipeline whose staging buffer ends as `G`. -/
theorem arrOf8 (c : Dev nD) (G : S12288x4096.Idx → EReal) (dat : Dat τ (Elt Ideal) Unit ℕ (UR sig nD τ) ℕ cfg0 c)
    (h : ∀ t : Fin cfg0.N, ∀ z : S12288x4096.Idx, dat.after 8 t z = G z) : dat.arrAt 8 cfg0.N = G := by
  refine dat.arrAt_eq_of_covers 8 _ (by decide +kernel) fun t hf y => ?_
  have i0 : win0_8.index t (0 : Fin 2) = _ := congrFun (idx8 t) 0
  have i1 : win0_8.index t (1 : Fin 2) = _ := congrFun (idx8 t) 1
  have hb0 : (((cfg0.win 8).blk t).view.emb y 0).val = win0_8.index t (0 : Fin 2) * 12288 + 1 * (y 0).val := rfl
  have hb1 : (((cfg0.win 8).blk t).view.emb y 1).val = win0_8.index t (1 : Fin 2) * 4096 + 1 * (y 1).val := rfl
  rw [i0] at hb0
  rw [i1] at hb1
  simp only [Matrix.cons_val_zero, Matrix.cons_val_one] at hb0 hb1
  have h0 : (y 0).val < 12288 := (y 0).isLt
  have h1 : (y 1).val < 4096 := (y 1).isLt
  refine (show _ = dat.after 8 t (ix2 (⟨(y 0).val, h0⟩ : Fin 12288) (⟨(y 1).val, h1⟩ : Fin 4096)) from ?_).trans ?_
  · refine congrArg (dat.after 8 t) (funext fun a => Fin.ext ?_)
    match a with | ⟨0, _⟩ => rfl | ⟨1, _⟩ => rfl
  refine (h t _).trans (congrArg G (funext fun a => Fin.ext ?_))
  match a with
  | ⟨0, _⟩ => refine Eq.trans ?_ hb0.symm; show (y 0).val = _; omega
  | ⟨1, _⟩ => refine Eq.trans ?_ hb1.symm; show (y 1).val = _; omega

/-- Result array 8 is the reference's expression of the arrays it finds. -/
theorem arr8 (c : Dev nD) : (dats m 0 c).arrAt 8 cfg0.N = Value.E8 (V m c main_v2) (V m c main_v5) (V m c main_arg4) (V m c main_v4) (V m c main_v3) (V m c main_v0) (V m c main_v1) (V m c main_v6) := by
  refine arrOf8 c _ (dats m 0 c) fun t z => ?_
  rw [after0_8, blk0 m c t, blk1 m c t, blk2 m c t, blk3 m c t, blk4 m c t, blk5 m c t, blk6 m c t, blk7 m c t]
  exact o8 _ _ _ _ _ _ _ _ z

/-- Result array 9 of any state of the pipeline whose staging buffer ends as `G`. -/
theorem arrOf9 (c : Dev nD) (G : S1x4096.Idx → EReal) (dat : Dat τ (Elt Ideal) Unit ℕ (UR sig nD τ) ℕ cfg0 c)
    (h : ∀ t : Fin cfg0.N, ∀ z : S1x4096.Idx, dat.after 9 t z = G z) : dat.arrAt 9 cfg0.N = G := by
  refine dat.arrAt_eq_of_covers 9 _ (by decide +kernel) fun t hf y => ?_
  have i0 : win0_9.index t (0 : Fin 2) = _ := congrFun (idx9 t) 0
  have i1 : win0_9.index t (1 : Fin 2) = _ := congrFun (idx9 t) 1
  have hb0 : (((cfg0.win 9).blk t).view.emb y 0).val = win0_9.index t (0 : Fin 2) * 1 + 1 * (y 0).val := rfl
  have hb1 : (((cfg0.win 9).blk t).view.emb y 1).val = win0_9.index t (1 : Fin 2) * 4096 + 1 * (y 1).val := rfl
  rw [i0] at hb0
  rw [i1] at hb1
  simp only [Matrix.cons_val_zero, Matrix.cons_val_one] at hb0 hb1
  have h0 : (y 0).val < 1 := (y 0).isLt
  have h1 : (y 1).val < 4096 := (y 1).isLt
  refine (show _ = dat.after 9 t (ix2 (⟨(y 0).val, h0⟩ : Fin 1) (⟨(y 1).val, h1⟩ : Fin 4096)) from ?_).trans ?_
  · refine congrArg (dat.after 9 t) (funext fun a => Fin.ext ?_)
    match a with | ⟨0, _⟩ => rfl | ⟨1, _⟩ => rfl
  refine (h t _).trans (congrArg G (funext fun a => Fin.ext ?_))
  match a with
  | ⟨0, _⟩ => refine Eq.trans ?_ hb0.symm; show (y 0).val = _; omega
  | ⟨1, _⟩ => refine Eq.trans ?_ hb1.symm; show (y 1).val = _; omega

/-- Result array 9 is the reference's expression of the arrays it finds. -/
theorem arr9 (c : Dev nD) : (dats m 0 c).arrAt 9 cfg0.N = Value.E9 (V m c main_v5) (V m c main_arg4) (V m c main_v4) (V m c main_v0) (V m c main_v1) (V m c main_v2) := by
  refine arrOf9 c _ (dats m 0 c) fun t z => ?_
  rw [after0_9, blk0 m c t, blk1 m c t, blk2 m c t, blk3 m c t, blk4 m c t, blk5 m c t, blk6 m c t, blk7 m c t]
  exact o9 _ _ _ _ _ _ _ _ z

/-- Result array 10 of any state of the pipeline whose staging buffer ends as `G`. -/
theorem arrOf10 (c : Dev nD) (G : S4096x12288.Idx → EReal) (dat : Dat τ (Elt Ideal) Unit ℕ (UR sig nD τ) ℕ cfg0 c)
    (h : ∀ t : Fin cfg0.N, ∀ z : S4096x12288.Idx, dat.after 10 t z = G z) : dat.arrAt 10 cfg0.N = G := by
  refine dat.arrAt_eq_of_covers 10 _ (by decide +kernel) fun t hf y => ?_
  have i0 : win0_10.index t (0 : Fin 2) = _ := congrFun (idx10 t) 0
  have i1 : win0_10.index t (1 : Fin 2) = _ := congrFun (idx10 t) 1
  have hb0 : (((cfg0.win 10).blk t).view.emb y 0).val = win0_10.index t (0 : Fin 2) * 4096 + 1 * (y 0).val := rfl
  have hb1 : (((cfg0.win 10).blk t).view.emb y 1).val = win0_10.index t (1 : Fin 2) * 12288 + 1 * (y 1).val := rfl
  rw [i0] at hb0
  rw [i1] at hb1
  simp only [Matrix.cons_val_zero, Matrix.cons_val_one] at hb0 hb1
  have h0 : (y 0).val < 4096 := (y 0).isLt
  have h1 : (y 1).val < 12288 := (y 1).isLt
  refine (show _ = dat.after 10 t (ix2 (⟨(y 0).val, h0⟩ : Fin 4096) (⟨(y 1).val, h1⟩ : Fin 12288)) from ?_).trans ?_
  · refine congrArg (dat.after 10 t) (funext fun a => Fin.ext ?_)
    match a with | ⟨0, _⟩ => rfl | ⟨1, _⟩ => rfl
  refine (h t _).trans (congrArg G (funext fun a => Fin.ext ?_))
  match a with
  | ⟨0, _⟩ => refine Eq.trans ?_ hb0.symm; show (y 0).val = _; omega
  | ⟨1, _⟩ => refine Eq.trans ?_ hb1.symm; show (y 1).val = _; omega

/-- Result array 10 is the reference's expression of the arrays it finds. -/
theorem arr10 (c : Dev nD) : (dats m 0 c).arrAt 10 cfg0.N = Value.E10 (V m c main_v0) (V m c main_v1) (V m c main_v2) (V m c main_v3) := by
  refine arrOf10 c _ (dats m 0 c) fun t z => ?_
  rw [after0_10, blk0 m c t, blk1 m c t, blk2 m c t, blk3 m c t, blk4 m c t, blk5 m c t, blk6 m c t, blk7 m c t]
  exact o10 _ _ _ _ _ _ _ _ z

end Cert.ReferenceIdeal.Dx

end
-- ==== Proof.RefAlg.lean ====
/-
  The reference's result arrays as the same functions of numbers the kernel's arrays are.
-/
module

public import proofs.«01_k».proof.Proof.RefDx

@[expose] public section

set_option maxRecDepth 16384

noncomputable section

namespace Cert.ReferenceIdeal.Dx

open Cert.ReferenceIdeal Cert.ReferenceIdeal.Gen
open Idealize.ShloMosaic Idealize.ShloMosaic.TcCoe Idealize.ShloMosaic.Tactic Idealize.SL.Sem
open Cert.KernelIdeal.Dx (In nat2 nat2_of nat2_lt nat2_congr)

/-- The word of the divisor is 4096. -/
theorem bits_4096 : Ideal.ofBits .f32 0x45800000#32 = ((4096 : ℝ) : EReal) := by
  simp [Ideal.ofBits, Ideal.ieee, -EReal.coe_mul]; norm_num

/-- The word of the kernel's factor is one in 4096. -/
theorem bits_inv4096 : Ideal.ofBits .f32 0x39800000#32 = ((1 / 4096 : ℝ) : EReal) := by
  simp [Ideal.ofBits, Ideal.ieee, -EReal.coe_mul]; norm_num

/-- Dividing by 4096 is multiplying by its reciprocal. -/
theorem div_4096 (x : EReal) : Ideal.div x (Ideal.ofBits .f32 0x45800000#32) = x * Ideal.ofBits .f32 0x39800000#32 := by
  rw [bits_4096, bits_inv4096]
  exact Ideal.div_coe (by norm_num) x

/-- A sum over `a` groups of `b` consecutive numbers. -/
theorem sum_groups (f : ℕ → EReal) (a b : ℕ) : ∑ T ∈ Finset.range (a * b), f T = ∑ i ∈ Finset.range a, ∑ r ∈ Finset.range b, f (b * i + r) := by
  induction a with
  | zero => simp
  | succ a ih =>
    rw [Nat.add_mul, Nat.one_mul, Finset.sum_range_add, ih, Finset.sum_range_succ]
    refine congrArg₂ _ rfl (Finset.sum_congr rfl fun r _ => ?_)
    rw [Nat.mul_comm a b]

/-- The gain's gradient over all rows, its eight partial sums added. -/
theorem dg_all (I : In) (k : ℕ) : ∑ s ∈ Finset.range 8, I.dg 24 s k = ∑ T ∈ Finset.range 12288, I.tt T k := by
  unfold In.dg
  rw [show 12288 = 24 * 512 from rfl, sum_groups, Finset.sum_comm]
  refine Finset.sum_congr rfl fun i _ => ?_
  rw [show 512 = 16 * 32 from rfl, sum_groups, Finset.sum_comm]
  refine Finset.sum_congr rfl fun p _ => ?_
  rw [show 32 = 4 * 8 from rfl, sum_groups, Finset.sum_comm]

/-- A row's sum over all columns, its 128 partial sums added. -/
theorem sa_all (I : In) (T : ℕ) : ∑ l ∈ Finset.range 128, I.sa 32 T l = ∑ k ∈ Finset.range 4096, I.tt T k * I.gm k := by
  unfold In.sa
  rw [show 4096 = 32 * 128 from rfl, sum_groups, Finset.sum_comm]

/-- The formula of the activations' gradient in a row: `r` its reciprocal deviation, `s` its scale, `e` the residual, `D`, `G`, `X` its
    gradients, gains and activation codes. -/
def dxForm (r s e : EReal) (D G X : Fin 4096 → EReal) (k : Fin 4096) : EReal :=
  r * (D k * G k - X k * s * r * Ideal.div (∑ j : Fin 4096, D j * G j * (X j * s * r)) (Ideal.ofBits .f32 0x45800000#32)) + e

/-- The formula at equal numbers. -/
theorem dxForm_congr {r r' s s' e e' : EReal} {D D' G G' X X' : Fin 4096 → EReal} (hr : r = r') (hs : s = s') (he : e = e') (hD : D = D') (hG : G = G') (hX : X = X') (k : Fin 4096) :
    dxForm r s e D G X k = dxForm r' s' e' D' G' X' k := by
  subst hr hs he hD hG hX; rfl

variable (m : (ℓ : Loc nD τ sig) → Buf (Elt Ideal) ℓ)

/-- The product of the gradient and the scaled weights, by numbers. -/
theorem dh_eq (c : Dev nD) (T : Fin 12288) (k : Fin 4096) :
    k0_pay6 (F := Ideal) (V m c main_v5) (V m c main_arg4) (V m c main_v4) (ix2 T k) = (refIn m c).dh T.val k.val := by
  rw [pay6_apply]
  unfold In.dh
  rw [Finset.sum_range]
  refine Finset.sum_congr rfl fun n _ => ?_
  refine (congrArg₂ (· * ·) (nat2_of (n := 12288) (m := 6144) (V m c main_v5) T n)
    (congrArg₂ (· * ·) (nat2_of (n := 4096) (m := 6144) (V m c main_arg4) k n) (nat2_of (n := 1) (m := 6144) (V m c main_v4) 0 n))).trans ?_
  show (refIn m c).dq T.val n.val * ((refIn m c).w k.val n.val * (refIn m c).ws n.val) = _
  rw [mul_comm ((refIn m c).w k.val n.val), mul_assoc]

/-- The reference's normalised, gained activations. -/
theorem ref10 (c : Dev nD) : (dats m 0 c).arrAt 10 cfg0.N = fun i : S4096x12288.Idx => (refIn m c).xh (i 1).val (i 0).val := by
  rw [arr10]
  funext i
  rw [eq_ix2 i]
  generalize i 0 = k
  generalize i 1 = T
  refine (e10 _ _ _ _ k T).trans ?_
  refine (congrArg₂ (· * ·) (congrArg₂ (· * ·) (congrArg₂ (· * ·) (nat2_of (n := 12288) (m := 4096) (V m c main_v0) T k) (nat2_of (n := 12288) (m := 1) (V m c main_v1) T 0))
    (nat2_of (n := 12288) (m := 1) (V m c main_v2) T 0)) (nat2_of (n := 1) (m := 4096) (V m c main_v3) 0 k)).trans ?_
  show (refIn m c).x T.val k.val * (refIn m c).xs T.val * (refIn m c).rs T.val * (refIn m c).gm k.val = (refIn m c).xh T.val k.val
  unfold In.xh In.ss
  rw [← mul_assoc ((refIn m c).x T.val k.val)]

/-- The reference's gradient of the gain. -/
theorem ref9 (c : Dev nD) : (dats m 0 c).arrAt 9 cfg0.N = fun i : S1x4096.Idx => ((∑ s ∈ Finset.range 8, (refIn m c).dg 24 s (i 1).val : EReal)) := by
  rw [arr9]
  funext i
  rw [eq_ix2 i]
  have h0 : i 0 = (0 : Fin 1) := Subsingleton.elim (α := Fin 1) _ _
  rw [h0]
  generalize i 1 = k
  refine (e9 _ _ _ _ _ _ k).trans ?_
  show _ = ∑ s ∈ Finset.range 8, (refIn m c).dg 24 s k.val
  rw [dg_all, Finset.sum_range]
  refine Finset.sum_congr rfl fun T _ => ?_
  refine (congrArg₂ (· * ·) (dh_eq m c T k) (congrArg₂ (· * ·) (congrArg₂ (· * ·) (nat2_of (n := 12288) (m := 4096) (V m c main_v0) T k) (nat2_of (n := 12288) (m := 1) (V m c main_v1) T 0))
    (nat2_of (n := 12288) (m := 1) (V m c main_v2) T 0))).trans ?_
  show (refIn m c).dh T.val k.val * ((refIn m c).x T.val k.val * (refIn m c).xs T.val * (refIn m c).rs T.val) = (refIn m c).tt T.val k.val
  unfold In.tt In.ss
  rw [← mul_assoc ((refIn m c).x T.val k.val)]

/-- The reference's gradient of the activations. -/
theorem ref8 (c : Dev nD) : (dats m 0 c).arrAt 8 cfg0.N = fun i : S12288x4096.Idx => (refIn m c).dx (i 0).val (i 1).val := by
  rw [arr8]
  funext i
  rw [eq_ix2 i]
  generalize i 0 = T
  generalize i 1 = k
  refine (e8 _ _ _ _ _ _ _ _ T k).trans ?_
  refine (dxForm_congr (r := (V m c main_v2 : S12288x1.Idx → EReal) (ix2 T 0)) (r' := (refIn m c).rs T.val) (s := (V m c main_v1 : S12288x1.Idx → EReal) (ix2 T 0)) (s' := (refIn m c).xs T.val)
    (e := (V m c main_v6 : S12288x4096.Idx → EReal) (ix2 T k)) (e' := (refIn m c).dr T.val k.val)
    (D := fun j => k0_pay6 (F := Ideal) (V m c main_v5) (V m c main_arg4) (V m c main_v4) (ix2 T j)) (D' := fun j => (refIn m c).dh T.val j.val)
    (G := fun j => (V m c main_v3 : S1x4096.Idx → EReal) (ix2 0 j)) (G' := fun j => (refIn m c).gm j.val)
    (X := fun j => (V m c main_v0 : S12288x4096.Idx → EReal) (ix2 T j)) (X' := fun j => (refIn m c).x T.val j.val)
    (nat2_of (n := 12288) (m := 1) (V m c main_v2) T 0) (nat2_of (n := 12288) (m := 1) (V m c main_v1) T 0) (nat2_of (n := 12288) (m := 4096) (V m c main_v6) T k)
    (funext fun j => dh_eq m c T j) (funext fun j => nat2_of (n := 1) (m := 4096) (V m c main_v3) 0 j) (funext fun j => nat2_of (n := 12288) (m := 4096) (V m c main_v0) T j) k).trans ?_
  show dxForm _ _ _ _ _ _ k = (refIn m c).dx T.val k.val
  unfold dxForm In.dx
  rw [sa_all, Finset.sum_range, div_4096]
  have hsum : (∑ j : Fin 4096, (refIn m c).dh T.val j.val * (refIn m c).gm j.val * ((refIn m c).x T.val j.val * (refIn m c).xs T.val * (refIn m c).rs T.val))
      = ∑ j : Fin 4096, (refIn m c).tt T.val j.val * (refIn m c).gm j.val := by
    refine Finset.sum_congr rfl fun j _ => ?_
    unfold In.tt In.ss
    rw [mul_assoc, mul_comm ((refIn m c).gm j.val), ← mul_assoc, ← mul_assoc ((refIn m c).x T.val j.val)]
  dsimp only
  rw [hsum]
  unfold In.ss
  rw [← mul_assoc ((refIn m c).x T.val k.val)]

end Cert.ReferenceIdeal.Dx

end
-- ==== Proof.RefQuant.lean ====
/-
  The reference's codes and scales as the same functions of numbers the kernel's are.
-/
module

public import proofs.«01_k».proof.Proof.RefAlg

@[expose] public section

set_option maxRecDepth 16384

noncomputable section

namespace Cert.ReferenceIdeal.Dx

open Cert.ReferenceIdeal Cert.ReferenceIdeal.Gen
open Idealize.ShloMosaic Idealize.ShloMosaic.TcCoe Idealize.ShloMosaic.Tactic Idealize.SL.Sem
open Idealize.ShloMosaic.Pipeline (Dat)
open Idealize.SL.RA
open Cert.KernelIdeal.Dx (In nat2 nat2_of nat2_lt nat2_congr amx blkm clipw codew rexp scw inw scale_eq)

/-- The exponents of scaled greatest magnitudes, as the reference takes them. -/
def expo (y : FVec Ideal S12288x32 .f32) : FVec Ideal S12288x32 .f32 :=
  select (cmpf .olt y (broadcast S12288x32 (Scalar.ofBits .f32 0x00800000#32))) (broadcast S12288x32 (Scalar.ofBits .f32 0x00000000#32))
    (minimumf (addf (floor (divf (log y) (broadcast S12288x32 (Scalar.log (Scalar.ofBits (F := Ideal) .f32 0x40000000#32))))) (broadcast S12288x32 (Scalar.ofBits .f32 0x3F800000#32))) (broadcast S12288x32 (Scalar.ofBits .f32 0x42E20000#32)))

/-- Below the smallest normal number the exponent is zero. -/
theorem small_apply (y z : FVec Ideal S12288x32 .f32) (T : Fin 12288) (b : Fin 32) :
    select (cmpf .olt y (broadcast S12288x32 (Scalar.ofBits .f32 0x00800000#32))) (broadcast S12288x32 (Scalar.ofBits .f32 0x00000000#32)) z (ix2 T b)
      = if y (ix2 T b) < Ideal.ofBits .f32 0x00800000#32 then 0 else z (ix2 T b) := by
  pointwise []

/-- The floor of the base two logarithm plus one, at most 113. -/
theorem floor_apply (y : FVec Ideal S12288x32 .f32) (T : Fin 12288) (b : Fin 32) :
    minimumf (addf (floor (divf (log y) (broadcast S12288x32 (Scalar.log (Scalar.ofBits (F := Ideal) .f32 0x40000000#32))))) (broadcast S12288x32 (Scalar.ofBits .f32 0x3F800000#32))) (broadcast S12288x32 (Scalar.ofBits .f32 0x42E20000#32)) (ix2 T b)
      = min (Ideal.liftRound Int.floor (Ideal.div (Ideal.log (y (ix2 T b))) (Ideal.log (Ideal.ofBits .f32 0x40000000#32))) + 1) (Ideal.ofBits .f32 0x42E20000#32) := by
  pointwise []
  rfl

/-- A block's exponent, of its scaled maximum. -/
theorem expo_apply (y : FVec Ideal S12288x32 .f32) (T : Fin 12288) (b : Fin 32) : expo y (ix2 T b) = rexp (y (ix2 T b)) := by
  unfold expo
  refine (small_apply _ _ T b).trans ?_
  unfold rexp
  by_cases h : y (ix2 T b) < Ideal.ofBits .f32 0x00800000#32
  · rw [if_pos h, if_pos h]
  · rw [if_neg h, if_neg h]
    exact floor_apply y T b

/-- The scaled greatest magnitudes of blocks of 128. -/
def mags (D : FVec Ideal S12288x32x128 .f32) : FVec Ideal S12288x32 .f32 :=
  mulf (multiReduction .maximumf [2] S12288x32 (absf D) 0xFF800000#32 reduces_S12288x32x128_S12288x32 (.inl rfl) rfl) (broadcast S12288x32 (Scalar.ofBits .f32 0x37924925#32))

/-- The maximum of a block. -/
theorem max_apply (D : FVec Ideal S12288x32x128 .f32) (T : Fin 12288) (b : Fin 32) :
    multiReduction .maximumf [2] S12288x32 D 0xFF800000#32 reduces_S12288x32x128_S12288x32 (.inl rfl) rfl (ix2 T b)
      = Finset.fold max (Ideal.ofBits .f32 0xFF800000#32) (fun x => D (ix3 T b x)) Finset.univ := by
  pointwise []

/-- The maximum times the reciprocal of the largest code. -/
theorem times_apply (M : FVec Ideal S12288x32 .f32) (T : Fin 12288) (b : Fin 32) :
    mulf M (broadcast S12288x32 (Scalar.ofBits .f32 0x37924925#32)) (ix2 T b) = M (ix2 T b) * Ideal.ofBits .f32 0x37924925#32 := by
  pointwise []

/-- A block's scaled maximum of the absolute values. -/
theorem mags_apply (D : FVec Ideal S12288x32x128 .f32) (T : Fin 12288) (b : Fin 32) : mags D (ix2 T b) = amx fun x => D (ix3 T b x) := by
  unfold mags
  refine (times_apply _ T b).trans ?_
  rw [max_apply]
  unfold amx
  refine congrArg (· * Ideal.ofBits .f32 0x37924925#32) (congrArg (fun g => Finset.fold max (Ideal.ofBits .f32 0xFF800000#32) g Finset.univ) (funext fun x => ?_))
  show FloatOps.absf (D (ix3 T b x)) = _
  rfl

/-- A column is a block and a lane. -/
theorem cast3_apply (D : FVec Ideal S12288x4096 .f32) (T : Fin 12288) (b : Fin 32) (x : Fin 128) :
    shapeCast S12288x32x128 D shapeCasts_S12288x4096_S12288x32x128 (ix3 T b x) = D (ix2 T ⟨b.val * 128 + x.val, by omega⟩) := by
  pointwise []

/-- A block and a lane are a column. -/
theorem cast2_apply (D : FVec Ideal S12288x32x128 .fp8e5m2) (T : Fin 12288) (k : Fin 4096) :
    shapeCast S12288x4096 D shapeCasts_S12288x32x128_S12288x4096 (ix2 T k) = D (ix3 T ⟨k.val / 128, by omega⟩ ⟨k.val % 128, by omega⟩) := by
  pointwise []

/-- Blocks of 128 numbers times reciprocal scales, clipped from below. -/
def lows (D : FVec Ideal S12288x32x128 .f32) (e : FVec Ideal S12288x32 .f32) : FVec Ideal S12288x32x128 .f32 :=
  maximumf (broadcast S12288x32x128 (Scalar.ofBits .f32 0xC7600000#32)) (mulf D (broadcastTo S12288x32x128 (shapeCast S12288x32x1 (exp2 (subf (broadcast S12288x32 (Scalar.ofBits .f32 0x00000000#32)) e)) shapeCasts_S12288x32_S12288x32x1) broadcasts_S12288x32x1_S12288x32x128))

/-- An entry times its block's inverse scale, clipped from below. -/
theorem lows_apply (D : FVec Ideal S12288x32x128 .f32) (e : FVec Ideal S12288x32 .f32) (T : Fin 12288) (b : Fin 32) (x : Fin 128) :
    lows D e (ix3 T b x) = max (Ideal.ofBits .f32 0xC7600000#32) (D (ix3 T b x) * Ideal.exp2 (0 - e (ix2 T b))) := by
  unfold lows
  pointwise []
  rfl

section
variable (v1 : FVec Ideal S12288x1 .f32) (v14 v33 : FVec Ideal S12288x4096 .f32) (v36 : FVec Ideal S12288x1 .f32) (v44 : Vec Ideal S12288x4096 .bf16)

/-- The exponent of a block, of the gradient before its cast. -/
theorem pay13_apply (V : ℕ → ℕ → EReal) (h : ∀ (T : Fin 12288) (k : Fin 4096), k0_pay10 v1 v14 v33 v36 v44 (ix2 T k) = V T.val k.val) (T : Fin 12288) (b : Fin 32) :
    k0_pay13 v1 v14 v33 v36 v44 (ix2 T b) = rexp (blkm V T.val b.val) := by
  have e : k0_pay13 v1 v14 v33 v36 v44 = expo (mags (k0_pay12 v1 v14 v33 v36 v44)) := rfl
  rw [e, expo_apply, mags_apply]
  unfold k0_pay12 blkm
  refine congrArg rexp (congrArg amx (funext fun x => ?_))
  rw [cast3_apply, h]
  exact congrArg (V T.val) (by dsimp only; omega)

/-- Two to the exponent, entry by entry. -/
theorem exp2_apply (e : FVec Ideal S12288x32 .f32) (T : Fin 12288) (b : Fin 32) : exp2 e (ix2 T b) = Ideal.exp2 (e (ix2 T b)) := rfl

/-- A block's scale. -/
theorem pay14_apply (V : ℕ → ℕ → EReal) (h : ∀ (T : Fin 12288) (k : Fin 4096), k0_pay10 v1 v14 v33 v36 v44 (ix2 T k) = V T.val k.val) (T : Fin 12288) (b : Fin 32) :
    k0_pay14 v1 v14 v33 v36 v44 (ix2 T b) = scw (blkm V T.val b.val) := by
  rw [(scale_eq _).1, ← pay13_apply v1 v14 v33 v36 v44 V h]
  unfold k0_pay14
  generalize k0_pay13 v1 v14 v33 v36 v44 = e
  exact exp2_apply e T b

/-- A code. -/
theorem pay1_apply (V : ℕ → ℕ → EReal) (h : ∀ (T : Fin 12288) (k : Fin 4096), k0_pay10 v1 v14 v33 v36 v44 (ix2 T k) = V T.val k.val) (T : Fin 12288) (k : Fin 4096) :
    k0_pay1 (F := Ideal) (Scalar.ofBits .f32 0x47600000#32) (k0_pay15 v1 v14 v33 v36 v44) (ix2 T k) = codew V T.val k.val := by
  have e : k0_pay15 v1 v14 v33 v36 v44 = lows (k0_pay12 v1 v14 v33 v36 v44) (k0_pay13 v1 v14 v33 v36 v44) := rfl
  rw [e]
  unfold k0_pay1
  refine (cast2_apply _ T k).trans ?_
  show min (Ideal.ofBits .f32 0x47600000#32) (lows _ _ (ix3 T _ _)) = _
  rw [lows_apply, pay13_apply v1 v14 v33 v36 v44 V h]
  unfold k0_pay12 codew clipw
  rw [cast3_apply, h, (scale_eq _).2]
  have e : k.val / 128 * 128 + k.val % 128 = k.val := by omega
  dsimp only
  rw [e]
end

/-- A load of the whole array reads each entry where it is. -/
theorem idx_r7 (z : S12288x32.Idx) : r0_7.idx z = z := by
  funext a
  refine Fin.ext ?_
  match a with
  | ⟨0, _⟩ => show 0 + 1 * (z 0).val = (z 0).val; omega
  | ⟨1, _⟩ => show 0 + 1 * (z 1).val = (z 1).val; omega
/-- A load of the whole array reads each entry where it is. -/
theorem idx_r3 (z : S12288x4096.Idx) : r0_3.idx z = z := by
  funext a
  refine Fin.ext ?_
  match a with
  | ⟨0, _⟩ => show 0 + 1 * (z 0).val = (z 0).val; omega
  | ⟨1, _⟩ => show 0 + 1 * (z 1).val = (z 1).val; omega

/-- One store of the whole array leaves what was stored. -/
theorem canon7 (G : FVec Ideal S12288x32 .f32) (z : S12288x32.Idx) : View.canon ([⟨r0_7, G⟩] : List (View.Piece (Elt Ideal) S12288x32 .f32)) z = G z := by
  refine View.canon_apply_of_pieces (Val := Elt Ideal) G _ ?_ z (cover0_11 _ z)
  intro pc hpc
  rcases List.mem_cons.mp hpc with rfl | hpc
  · exact fun x => (congrArg G (idx_r7 x)).symm
  nomatch hpc
/-- One store of the whole array leaves what was stored. -/
theorem canon3 (G : FVec Ideal S12288x4096 .fp8e5m2) (z : S12288x4096.Idx) : View.canon ([⟨r0_3, G⟩] : List (View.Piece (Elt Ideal) S12288x4096 .fp8e5m2)) z = G z := by
  refine View.canon_apply_of_pieces (Val := Elt Ideal) G _ ?_ z (cover0_12 _ z)
  intro pc hpc
  rcases List.mem_cons.mp hpc with rfl | hpc
  · exact fun x => (congrArg G (idx_r3 x)).symm
  nomatch hpc

/-- What the body stores of the scales. -/
theorem o11 (x0 : Vec Ideal S12288x4096 .fp8e4m3) (x1 : Vec Ideal S12288x1 .f32) (x2 : Vec Ideal S12288x1 .f32) (x3 : Vec Ideal S1x4096 .f32) (x4 : Vec Ideal S4096x6144 .fp8e4m3) (x5 : Vec Ideal S1x6144 .f32) (x6 : Vec Ideal S12288x6144 .bf16) (x7 : Vec Ideal S12288x4096 .bf16) (z : S12288x32.Idx) : out0_11 (F := Ideal) x0 x1 x2 x3 x4 x5 x6 x7 z = k0_pay14 (k0_pay2 x2) (k0_pay4 x2 x0 x1) (k0_pay8 x3 x6 x4 x5) (k0_pay9 x2 x3 x6 x0 x1 x4 x5) x7 z := by
  unfold out0_11 k0_pay16 k0_pay17 k0_pay18 k0_pay19
  simp only [ld0, ld1, ld2, ld3, ld5, ld6]
  exact canon7 _ z

/-- Window 11 holds the whole array. -/
theorem idx11 : ∀ t : Fin cfg0.N, win0_11.index t = ![0, 0] := (by decide +kernel : ∀ t : Fin grid0.N, _)
/-- What the body stores of the codes. -/
theorem o12 (x0 : Vec Ideal S12288x4096 .fp8e4m3) (x1 : Vec Ideal S12288x1 .f32) (x2 : Vec Ideal S12288x1 .f32) (x3 : Vec Ideal S1x4096 .f32) (x4 : Vec Ideal S4096x6144 .fp8e4m3) (x5 : Vec Ideal S1x6144 .f32) (x6 : Vec Ideal S12288x6144 .bf16) (x7 : Vec Ideal S12288x4096 .bf16) (z : S12288x4096.Idx) : out0_12 (F := Ideal) x0 x1 x2 x3 x4 x5 x6 x7 z = k0_pay1 (Scalar.ofBits .f32 0x47600000#32) (k0_pay15 (k0_pay2 x2) (k0_pay4 x2 x0 x1) (k0_pay8 x3 x6 x4 x5) (k0_pay9 x2 x3 x6 x0 x1 x4 x5) x7) z := by
  unfold out0_12 k0_pay16 k0_pay17 k0_pay18 k0_pay19
  simp only [ld0, ld1, ld2, ld3, ld5, ld6]
  exact canon3 _ z

/-- Window 12 holds the whole array. -/
theorem idx12 : ∀ t : Fin cfg0.N, win0_12.index t = ![0, 0] := (by decide +kernel : ∀ t : Fin grid0.N, _)
/-- Result array 11 of any state of the pipeline whose staging buffer ends as `G`. -/
theorem arrOf11 (c : Dev nD) (G : S12288x32.Idx → EReal) (dat : Dat τ (Elt Ideal) Unit ℕ (UR sig nD τ) ℕ cfg0 c)
    (h : ∀ t : Fin cfg0.N, ∀ z : S12288x32.Idx, dat.after 11 t z = G z) : dat.arrAt 11 cfg0.N = G := by
  refine dat.arrAt_eq_of_covers 11 _ (by decide +kernel) fun t hf y => ?_
  have i0 : win0_11.index t (0 : Fin 2) = _ := congrFun (idx11 t) 0
  have i1 : win0_11.index t (1 : Fin 2) = _ := congrFun (idx11 t) 1
  have hb0 : (((cfg0.win 11).blk t).view.emb y 0).val = win0_11.index t (0 : Fin 2) * 12288 + 1 * (y 0).val := rfl
  have hb1 : (((cfg0.win 11).blk t).view.emb y 1).val = win0_11.index t (1 : Fin 2) * 32 + 1 * (y 1).val := rfl
  rw [i0] at hb0
  rw [i1] at hb1
  simp only [Matrix.cons_val_zero, Matrix.cons_val_one] at hb0 hb1
  have h0 : (y 0).val < 12288 := (y 0).isLt
  have h1 : (y 1).val < 32 := (y 1).isLt
  refine (show _ = dat.after 11 t (ix2 (⟨(y 0).val, h0⟩ : Fin 12288) (⟨(y 1).val, h1⟩ : Fin 32)) from ?_).trans ?_
  · refine congrArg (dat.after 11 t) (funext fun a => Fin.ext ?_)
    match a with | ⟨0, _⟩ => rfl | ⟨1, _⟩ => rfl
  refine (h t _).trans (congrArg G (funext fun a => Fin.ext ?_))
  match a with
  | ⟨0, _⟩ => refine Eq.trans ?_ hb0.symm; show (y 0).val = _; omega
  | ⟨1, _⟩ => refine Eq.trans ?_ hb1.symm; show (y 1).val = _; omega

/-- Result array 12 of any state of the pipeline whose staging buffer ends as `G`. -/
theorem arrOf12 (c : Dev nD) (G : S12288x4096.Idx → EReal) (dat : Dat τ (Elt Ideal) Unit ℕ (UR sig nD τ) ℕ cfg0 c)
    (h : ∀ t : Fin cfg0.N, ∀ z : S12288x4096.Idx, dat.after 12 t z = G z) : dat.arrAt 12 cfg0.N = G := by
  refine dat.arrAt_eq_of_covers 12 _ (by decide +kernel) fun t hf y => ?_
  have i0 : win0_12.index t (0 : Fin 2) = _ := congrFun (idx12 t) 0
  have i1 : win0_12.index t (1 : Fin 2) = _ := congrFun (idx12 t) 1
  have hb0 : (((cfg0.win 12).blk t).view.emb y 0).val = win0_12.index t (0 : Fin 2) * 12288 + 1 * (y 0).val := rfl
  have hb1 : (((cfg0.win 12).blk t).view.emb y 1).val = win0_12.index t (1 : Fin 2) * 4096 + 1 * (y 1).val := rfl
  rw [i0] at hb0
  rw [i1] at hb1
  simp only [Matrix.cons_val_zero, Matrix.cons_val_one] at hb0 hb1
  have h0 : (y 0).val < 12288 := (y 0).isLt
  have h1 : (y 1).val < 4096 := (y 1).isLt
  refine (show _ = dat.after 12 t (ix2 (⟨(y 0).val, h0⟩ : Fin 12288) (⟨(y 1).val, h1⟩ : Fin 4096)) from ?_).trans ?_
  · refine congrArg (dat.after 12 t) (funext fun a => Fin.ext ?_)
    match a with | ⟨0, _⟩ => rfl | ⟨1, _⟩ => rfl
  refine (h t _).trans (congrArg G (funext fun a => Fin.ext ?_))
  match a with
  | ⟨0, _⟩ => refine Eq.trans ?_ hb0.symm; show (y 0).val = _; omega
  | ⟨1, _⟩ => refine Eq.trans ?_ hb1.symm; show (y 1).val = _; omega

variable (m : (ℓ : Loc nD τ sig) → Buf (Elt Ideal) ℓ)

/-- The gradient before its cast, by numbers. -/
theorem dx_eq (c : Dev nD) (T : Fin 12288) (k : Fin 4096) :
    k0_pay10 (F := Ideal) (k0_pay2 (V m c main_v2)) (k0_pay4 (V m c main_v2) (V m c main_v0) (V m c main_v1)) (k0_pay8 (V m c main_v3) (V m c main_v5) (V m c main_arg4) (V m c main_v4)) (k0_pay9 (V m c main_v2) (V m c main_v3) (V m c main_v5) (V m c main_v0) (V m c main_v1) (V m c main_arg4) (V m c main_v4)) (V m c main_v6) (ix2 T k) = (refIn m c).dx T.val k.val := by
  refine Eq.trans ?_ (congrFun ((arr8 m c).symm.trans (ref8 m c)) (ix2 T k))
  refine (Value.piece8_0 (F := Ideal) (V m c main_v2) (V m c main_v5) (V m c main_arg4) (V m c main_v4) (V m c main_v3) (V m c main_v0) (V m c main_v1) (V m c main_v6) (ix2 T k)).trans ?_
  rw [idx_r3]

/-- The reference's scales. -/
theorem ref11 (c : Dev nD) : (dats m 0 c).arrAt 11 cfg0.N = fun i : S12288x32.Idx => (refIn m c).scale (i 0).val (i 1).val := by
  refine arrOf11 c _ (dats m 0 c) fun t z => ?_
  rw [after0_11, blk0 m c t, blk1 m c t, blk2 m c t, blk3 m c t, blk4 m c t, blk5 m c t, blk6 m c t, blk7 m c t]
  refine (o11 _ _ _ _ _ _ _ _ z).trans ?_
  rw [eq_ix2 z]
  generalize z 0 = T
  generalize z 1 = b
  exact pay14_apply _ _ _ _ _ _ (dx_eq m c) T b

/-- The reference's codes. -/
theorem ref12 (c : Dev nD) : (dats m 0 c).arrAt 12 cfg0.N = fun i : S12288x4096.Idx => (refIn m c).code (i 0).val (i 1).val := by
  refine arrOf12 c _ (dats m 0 c) fun t z => ?_
  rw [after0_12, blk0 m c t, blk1 m c t, blk2 m c t, blk3 m c t, blk4 m c t, blk5 m c t, blk6 m c t, blk7 m c t]
  refine (o12 _ _ _ _ _ _ _ _ z).trans ?_
  rw [eq_ix2 z]
  generalize z 0 = T
  generalize z 1 = k
  exact pay1_apply _ _ _ _ _ _ (dx_eq m c) T k

end Cert.ReferenceIdeal.Dx

end
-- ==== Proof.DxInputs.lean ====
/-
  The kernel's call and the reference find the same numbers where their arguments agree.
-/
module

public import proofs.«01_k».proof.Proof.RefDx
public import Idealize.ShloMosaic.Lib.Tactic.ValueTie

@[expose] public section

set_option maxRecDepth 16384

noncomputable section

namespace Cert.DxInputs

open Idealize.ShloMosaic Idealize.ShloMosaic.TcCoe Idealize.ShloMosaic.Tactic Idealize.SL.Sem
open Cert.KernelIdeal.Dx (In nat2 nat2_of nat2_lt nat2_congr rows24 inAt)
open Cert.ReferenceIdeal.Dx (refIn)

section
open Cert.KernelIdeal Cert.KernelIdeal.Gen
variable (m : (ℓ : Loc nD τ sig) → Buf (Elt Ideal) ℓ) (c : Dev nD)

/-- An array the kernel's call reads is an argument, reshaped. -/
theorem K0 : V m c main_v0 = shapeCast _ (m ((c : Thread nD τ).loc main_arg1)) shapeCasts_S4x3072_S24x4x128 := by
  show StableHlo.after hostOps0 _ _ = _
  after_results <;> rfl
/-- An array the kernel's call reads is an argument, reshaped. -/
theorem K1 : V m c main_v1 = shapeCast _ (m ((c : Thread nD τ).loc main_arg2)) shapeCasts_S4x3072_S24x4x128 := by
  show StableHlo.after hostOps0 _ _ = _
  after_results <;> rfl
/-- An array the kernel's call reads is an argument, reshaped. -/
theorem K2 : V m c main_v2 = shapeCast _ (m ((c : Thread nD τ).loc main_arg3)) shapeCasts_S4096_S1x4096 := by
  show StableHlo.after hostOps0 _ _ = _
  after_results <;> rfl
/-- An array the kernel's call reads is an argument, reshaped. -/
theorem K4 : V m c main_v4 = shapeCast _ (m ((c : Thread nD τ).loc main_arg5)) shapeCasts_S6144_S1x6144 := by
  show StableHlo.after hostOps0 _ _ = _
  after_results <;> rfl
/-- An array the kernel's call reads is an argument, reshaped. -/
theorem K5 : V m c main_v5 = shapeCast _ (m ((c : Thread nD τ).loc main_arg0)) shapeCasts_S4x3072x4096_S12288x4096 := by
  show StableHlo.after hostOps0 _ _ = _
  after_results <;> rfl
/-- An array the kernel's call reads is an argument, reshaped. -/
theorem K6 : V m c main_v6 = shapeCast _ (m ((c : Thread nD τ).loc main_arg6)) shapeCasts_S4x3072x6144_S12288x6144 := by
  show StableHlo.after hostOps0 _ _ = _
  after_results <;> rfl
/-- An array the kernel's call reads is an argument, reshaped. -/
theorem K7 : V m c main_v7 = shapeCast _ (m ((c : Thread nD τ).loc main_arg7)) shapeCasts_S4x3072x4096_S12288x4096 := by
  show StableHlo.after hostOps0 _ _ = _
  after_results <;> rfl
end

section
open Cert.ReferenceIdeal Cert.ReferenceIdeal.Gen
variable (m : (ℓ : Loc nD τ sig) → Buf (Elt Ideal) ℓ) (c : Dev nD)

/-- An array the reference's call reads is an argument, reshaped. -/
theorem R0 : V m c main_v0 = shapeCast _ (m ((c : Thread nD τ).loc main_arg0)) shapeCasts_S4x3072x4096_S12288x4096 := by
  show StableHlo.after hostOps0 _ _ = _
  after_results <;> rfl
/-- An array the reference's call reads is an argument, reshaped. -/
theorem R1 : V m c main_v1 = shapeCast _ (m ((c : Thread nD τ).loc main_arg1)) shapeCasts_S4x3072_S12288x1 := by
  show StableHlo.after hostOps0 _ _ = _
  after_results <;> rfl
/-- An array the reference's call reads is an argument, reshaped. -/
theorem R2 : V m c main_v2 = shapeCast _ (m ((c : Thread nD τ).loc main_arg2)) shapeCasts_S4x3072_S12288x1 := by
  show StableHlo.after hostOps0 _ _ = _
  after_results <;> rfl
/-- An array the reference's call reads is an argument, reshaped. -/
theorem R3 : V m c main_v3 = shapeCast _ (m ((c : Thread nD τ).loc main_arg3)) shapeCasts_S4096_S1x4096 := by
  show StableHlo.after hostOps0 _ _ = _
  after_results <;> rfl
/-- An array the reference's call reads is an argument, reshaped. -/
theorem R4 : V m c main_v4 = shapeCast _ (m ((c : Thread nD τ).loc main_arg5)) shapeCasts_S6144_S1x6144 := by
  show StableHlo.after hostOps0 _ _ = _
  after_results <;> rfl
/-- An array the reference's call reads is an argument, reshaped. -/
theorem R5 : V m c main_v5 = shapeCast _ (m ((c : Thread nD τ).loc main_arg6)) shapeCasts_S4x3072x6144_S12288x6144 := by
  show StableHlo.after hostOps0 _ _ = _
  after_results <;> rfl
/-- An array the reference's call reads is an argument, reshaped. -/
theorem R6 : V m c main_v6 = shapeCast _ (m ((c : Thread nD τ).loc main_arg7)) shapeCasts_S4x3072x4096_S12288x4096 := by
  show StableHlo.after hostOps0 _ _ = _
  after_results <;> rfl
end

/-- A vector of rows laid out as blocks of four times 128 and as one column reads the same at a row number. -/
theorem rows_eq (v : (⟨2, ![4, 3072]⟩ : Shape).Idx → EReal) (h : (⟨2, ![4, 3072]⟩ : Shape).ShapeCasts ⟨3, ![24, 4, 128]⟩) (h' : (⟨2, ![4, 3072]⟩ : Shape).ShapeCasts ⟨2, ![12288, 1]⟩) (T : ℕ) :
    rows24 (shapeCast ⟨3, ![24, 4, 128]⟩ v h) T = nat2 (n := 12288) (m := 1) (shapeCast ⟨2, ![12288, 1]⟩ v h') T 0 := by
  unfold rows24 nat2
  by_cases hT : T < 12288
  · rw [dif_pos hT, dif_pos ⟨hT, by omega⟩]
    refine shapeCast_apply _ _ _ _ ?_
    rw [Shape.rowMajor_reshapeEquiv, Shape.rowMajor_val_two, Shape.rowMajor_val_three]
    show T * 1 + 0 = (T / 512 * 4 + T / 128 % 4) * 128 + T % 128
    omega
  · rw [dif_neg hT, dif_neg (fun h => hT h.1)]

/-- Both programs find the same numbers. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    : refIn m' c = inAt m c := by
  unfold refIn inAt
  rw [R0, R1, R2, R3, R4, R5, R6, K0, K1, K2, K4, K5, K6, K7, h0, h1, h2, h3, h5, h6, h7]
  congr 1
  · funext T; exact (rows_eq _ _ _ T).symm
  · funext T; exact (rows_eq _ _ _ T).symm
  · rw [Cert.ReferenceIdeal.Gen.V_main_arg4, Cert.KernelIdeal.Gen.V_main_arg4, h4]

end Cert.DxInputs

end
-- ==== Proof.lean ====
module

public import proofs.«01_k».proof.Defs
public import proofs.«01_k».proof.Proof.Gen.KernelDw.Frame
public import proofs.«01_k».proof.Proof.Gen.KernelDwIdeal.Value
public import proofs.«01_k».proof.Proof.Gen.ReferenceDwIdeal.Run
public import proofs.«01_k».proof.Proof.Dw
public import proofs.«01_k».proof.Proof.KernelFrame
public import proofs.«01_k».proof.Proof.KernelIdealFrame
public import proofs.«01_k».proof.Proof.Gen.ReferenceIdeal.Value
public import proofs.«01_k».proof.Proof.RefAlg
public import proofs.«01_k».proof.Proof.RefQuant
public import proofs.«01_k».proof.Proof.DxInputs
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference of the second program terminates, keeps its arguments and leaves no semaphore counted. -/
theorem quiescent_ReferenceDwIdeal : quiescent_ReferenceDwIdeal := fun m ρ _ =>
  (θ_run Cert.ReferenceDwIdeal.defs _ _).mono (fun r h => ⟨fun c => (h c).2, sem_eq_zero_of_no_sems (by decide) r.2⟩)
    (Cert.ReferenceDwIdeal.Value.run (F := Ideal) m ρ)

/-- The weight gradient is the product the reference states. -/
theorem algebraic_KernelDwIdeal_ReferenceDwIdeal : algebraic_KernelDwIdeal_ReferenceDwIdeal := by
  intro m ρ m' ρ' _ hagree
  refine ⟨_, Cert.KernelDwIdeal.Value.run (F := Ideal) m ρ, ?_⟩
  refine (θ_run Cert.ReferenceDwIdeal.defs _ _).mono (fun _ h c => ⟨?_, (h c).2⟩) (Cert.ReferenceDwIdeal.Value.run (F := Ideal) m' ρ')
  rw [(h c).1]
  simp only [hagree c]
  funext i
  rw [eq_ix2 i]
  exact (Cert.DwValue.G2_eq m c _ _).symm

/-- The activations' gradient, the gain's gradient, the transposed activations, the block scales and the codes are the reference's. -/
theorem algebraic_KernelIdeal_ReferenceIdeal : algebraic_KernelIdeal_ReferenceIdeal := by
  intro m ρ m' ρ' _ hagree
  refine ⟨Cert.KernelIdeal.Dx.G11 m, Cert.KernelIdeal.Dx.G13 m, Cert.KernelIdeal.Dx.G14 m, Cert.KernelIdeal.Dx.G10 m, Cert.KernelIdeal.Dx.G12 m, Cert.KernelIdeal.Dx.run_arrays m ρ, ?_⟩
  refine (θ_run Cert.ReferenceIdeal.defs _ _).mono (fun _ h c => ?_) (Cert.ReferenceIdeal.Value.run_blocks (F := Ideal) m' ρ')
  obtain ⟨a0, a1, a2, a3, a4, a5, a6, a7⟩ := hagree c
  have hI := Cert.DxInputs.inputs_eq m m' c a0 a1 a2 a3 a4 a5 a6 a7
  obtain ⟨r8, r9, r10, r11, r12, ha⟩ := h c
  rw [Cert.ReferenceIdeal.Dx.ref8, hI] at r8
  rw [Cert.ReferenceIdeal.Dx.ref9, hI] at r9
  rw [Cert.ReferenceIdeal.Dx.ref10, hI] at r10
  rw [Cert.ReferenceIdeal.Dx.ref11, hI] at r11
  rw [Cert.ReferenceIdeal.Dx.ref12, hI] at r12
  exact ⟨r8, r9, r10, r11, r12, ha⟩

/-- Every claim. -/
theorem claim : Cert.Claim := ⟨Cert.Kernel.Gen.facts, Cert.KernelIdeal.Gen.facts, Cert.ReferenceIdeal.Gen.facts, Cert.KernelDw.Gen.facts, Cert.KernelDwIdeal.Gen.facts, Cert.ReferenceDwIdeal.Gen.facts,
  fun m ρ _ => Cert.Kernel.Dx.frame m ρ, fun m ρ _ => Cert.KernelIdeal.Dx.frame m ρ, fun m ρ _ => Cert.ReferenceIdeal.Gen.frame m ρ,
  fun m ρ _ => Cert.KernelDw.Gen.frame m ρ, fun m ρ _ => Cert.KernelDwIdeal.Gen.frame m ρ, quiescent_ReferenceDwIdeal,
  (trivial : preserves_Kernel_KernelIdeal), algebraic_KernelIdeal_ReferenceIdeal, (trivial : preserves_KernelDw_KernelDwIdeal), algebraic_KernelDwIdeal_ReferenceDwIdeal⟩

end Cert.Proof

end
